-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit [hPre_unit : Cert.Pre_unit.Facts] (m : (ℓ : Loc Cert.KernelIdeal.nD Cert.KernelIdeal.τ Cert.KernelIdeal.sig) → Buf (Elt Ideal) ℓ) : Prop :=
  ∀ c : Dev Cert.KernelIdeal.nD,
    (Cert.Pre_unit.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit [hPre_unit : Cert.Pre_unit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_unit [hKernelIdeal : Cert.KernelIdeal.Facts] [hPre_unit : Cert.Pre_unit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_unit [hReferenceIdeal : Cert.ReferenceIdeal.Facts] [hPre_unit : Cert.Pre_unit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_unit [hKernelIdeal : Cert.KernelIdeal.Facts] [hReferenceIdeal : Cert.ReferenceIdeal.Facts] [hPre_unit : Cert.Pre_unit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_unit : Cert.Pre_unit.Facts),
    quiescent_Kernel (hKernel := hKernel)
    ∧ quiescent_KernelIdeal (hKernelIdeal := hKernelIdeal)
    ∧ quiescent_KernelIdeal_pre_unit (hKernelIdeal := hKernelIdeal) (hPre_unit := hPre_unit)
    ∧ quiescent_ReferenceIdeal (hReferenceIdeal := hReferenceIdeal)
    ∧ quiescent_ReferenceIdeal_pre_unit (hReferenceIdeal := hReferenceIdeal) (hPre_unit := hPre_unit)
    ∧ preserves_Kernel_KernelIdeal
    ∧ algebraic_KernelIdeal_ReferenceIdeal_pre_unit (hKernelIdeal := hKernelIdeal) (hReferenceIdeal := hReferenceIdeal) (hPre_unit := hPre_unit)
-- ==== Pre_unit.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) : IVec S_ 1 :=
  let main_cst : FVec F S_ .f32 := constant S_ .f32 0x00000000#32
  let main_v0 : FVec F S32x3x512x512 .f32 := broadcastInDim S32x3x512x512 ![] bcast_S_S32x3x512x512 main_cst
  let main_v1 : IVec S32x3x512x512 1 := cmpf .oge main_arg0 main_v0
  let main_cst_0 : FVec F S_ .f32 := constant S_ .f32 0x3F800000#32
  let main_v2 : FVec F S32x3x512x512 .f32 := broadcastInDim S32x3x512x512 ![] bcast_S_S32x3x512x512 main_cst_0
  let main_v3 : IVec S32x3x512x512 1 := cmpf .ole main_arg0 main_v2
  let main_v4 : IVec S32x3x512x512 1 := andi main_v1 main_v3
  let main_c : IVec S_ 1 := constantI S_ 1 1#1
  let main_v5 : IVec S_ 1 := (fun x v => Host.reduce IntOp.andi x v reducesTo_S32x3x512x512_S_d0_1_2_3 h_S_) main_v4 main_c
  let main_cst_1 : FVec F S_ .f32 := constant S_ .f32 0x3B800000#32
  let main_v6 : FVec F S32x3x512x512 .f32 := broadcastInDim S32x3x512x512 ![] bcast_S_S32x3x512x512 main_cst_1
  let main_v7 : IVec S32x3x512x512 1 := cmpf .oge main_arg0 main_v6
  let main_c_2 : IVec S_ 1 := constantI S_ 1 0#1
  let main_v8 : IVec S_ 1 := (fun x v => Host.reduce IntOp.ori x v reducesTo_S32x3x512x512_S_d0_1_2_3 h_S_) main_v7 main_c_2
  let main_v9 : IVec S_ 1 := andi main_v5 main_v8
  main_v9
-- ==== Kernel.lean ====
abbrev S32x3x512x512 : Shape := ⟨4, ![32, 3, 512, 512]⟩
abbrev S32x2x16 : Shape := ⟨3, ![32, 2, 16]⟩
abbrev S64x512 : Shape := ⟨2, ![64, 512]⟩
abbrev S2x16 : Shape := ⟨2, ![2, 16]⟩
abbrev S_ : Shape := ⟨0, ![]⟩
abbrev S16 : Shape := ⟨1, ![16]⟩
abbrev S1x1x64x512 : Shape := ⟨4, ![1, 1, 64, 512]⟩
abbrev S1x16 : Shape := ⟨2, ![1, 16]⟩
abbrev S1x2x16 : Shape := ⟨3, ![1, 2, 16]⟩
abbrev S1x1x16 : Shape := ⟨3, ![1, 1, 16]⟩

abbrev nBuf : Table → Nat
  | .hbm => 3
  | .local .scVector .vmem => 6
  | _ => 0

abbrev bufTy : (tb : Table) → Fin (nBuf tb) → BufTy
  | .hbm, ⟨0, _⟩ => ⟨S32x3x512x512, .f32⟩
  | .hbm, ⟨1, _⟩ => ⟨S32x2x16, .i32⟩
  | .hbm, ⟨2, _⟩ => ⟨S32x3x512x512, .f32⟩
  | .local .scVector .vmem, ⟨0, _⟩ => ⟨S64x512, .f32⟩
  | .local .scVector .vmem, ⟨1, _⟩ => ⟨S64x512, .f32⟩
  | .local .scVector .vmem, ⟨2, _⟩ => ⟨S2x16, .i32⟩
  | .local .scVector .vmem, ⟨3, _⟩ => ⟨S32x2x16, .i32⟩
  | .local .scVector .vmem, ⟨4, _⟩ => ⟨S64x512, .f32⟩
  | .local .scVector .vmem, ⟨5, _⟩ => ⟨S64x512, .f32⟩
  | _, _ => ⟨S32x3x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg0_scv : Ref sig .scVector := ⟨.hbm, 0, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c0_i32_1 : BitVec 32 := 0#32
  let c0_i32_2 : BitVec 32 := 0#32
  ![v1.toNat, 0, 0, 0]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let c64_i32 : BitVec 32 := 64#32
  let c0_i32_6 : BitVec 32 := 0#32
  ![v1.toNat, 0, 64, 0]
@[reducible] def k0_t1_loop : Scf.Loop 32 :=
  let c0_i32_14 : BitVec 32 := 0#32
  let c64_i32_15 : BitVec 32 := 64#32
  let v15 : BitVec 32 := Scalar.addi c0_i32_14 c64_i32_15
  let c1_i32 : BitVec 32 := 1#32
  ⟨c0_i32_14, v15, c1_i32⟩
def k0_off3 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v247 : Index := Scalar.indexCast arg9
  let c0_331 : Index := 0#32
  ![v247.toNat, 0]
def k0_off4 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v265 : Index := Scalar.indexCast arg9
  let c16 : Index := 16#32
  ![v265.toNat, 16]
def k0_off5 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v283 : Index := Scalar.indexCast arg9
  let c32 : Index := 32#32
  ![v283.toNat, 32]
def k0_off6 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v301 : Index := Scalar.indexCast arg9
  let c48 : Index := 48#32
  ![v301.toNat, 48]
def k0_off7 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v319 : Index := Scalar.indexCast arg9
  let c64 : Index := 64#32
  ![v319.toNat, 64]
def k0_off8 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v337 : Index := Scalar.indexCast arg9
  let c80 : Index := 80#32
  ![v337.toNat, 80]
def k0_off9 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v355 : Index := Scalar.indexCast arg9
  let c96 : Index := 96#32
  ![v355.toNat, 96]
def k0_off10 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v373 : Index := Scalar.indexCast arg9
  let c112 : Index := 112#32
  ![v373.toNat, 112]
def k0_off11 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v391 : Index := Scalar.indexCast arg9
  let c128 : Index := 128#32
  ![v391.toNat, 128]
def k0_off12 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v409 : Index := Scalar.indexCast arg9
  let c144 : Index := 144#32
  ![v409.toNat, 144]
def k0_off13 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v427 : Index := Scalar.indexCast arg9
  let c160 : Index := 160#32
  ![v427.toNat, 160]
def k0_off14 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v445 : Index := Scalar.indexCast arg9
  let c176 : Index := 176#32
  ![v445.toNat, 176]
def k0_off15 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v463 : Index := Scalar.indexCast arg9
  let c192 : Index := 192#32
  ![v463.toNat, 192]
def k0_off16 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v481 : Index := Scalar.indexCast arg9
  let c208 : Index := 208#32
  ![v481.toNat, 208]
def k0_off17 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v499 : Index := Scalar.indexCast arg9
  let c224 : Index := 224#32
  ![v499.toNat, 224]
def k0_off18 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v517 : Index := Scalar.indexCast arg9
  let c240 : Index := 240#32
  ![v517.toNat, 240]
def k0_off19 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v535 : Index := Scalar.indexCast arg9
  let c256 : Index := 256#32
  ![v535.toNat, 256]
def k0_off20 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v553 : Index := Scalar.indexCast arg9
  let c272 : Index := 272#32
  ![v553.toNat, 272]
def k0_off21 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v571 : Index := Scalar.indexCast arg9
  let c288 : Index := 288#32
  ![v571.toNat, 288]
def k0_off22 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v589 : Index := Scalar.indexCast arg9
  let c304 : Index := 304#32
  ![v589.toNat, 304]
def k0_off23 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v607 : Index := Scalar.indexCast arg9
  let c320 : Index := 320#32
  ![v607.toNat, 320]
def k0_off24 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v625 : Index := Scalar.indexCast arg9
  let c336 : Index := 336#32
  ![v625.toNat, 336]
def k0_off25 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v643 : Index := Scalar.indexCast arg9
  let c352 : Index := 352#32
  ![v643.toNat, 352]
def k0_off26 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v661 : Index := Scalar.indexCast arg9
  let c368 : Index := 368#32
  ![v661.toNat, 368]
def k0_off27 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v679 : Index := Scalar.indexCast arg9
  let c384 : Index := 384#32
  ![v679.toNat, 384]
def k0_off28 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v697 : Index := Scalar.indexCast arg9
  let c400 : Index := 400#32
  ![v697.toNat, 400]
def k0_off29 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v715 : Index := Scalar.indexCast arg9
  let c416 : Index := 416#32
  ![v715.toNat, 416]
def k0_off30 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v733 : Index := Scalar.indexCast arg9
  let c432 : Index := 432#32
  ![v733.toNat, 432]
def k0_off31 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v751 : Index := Scalar.indexCast arg9
  let c448 : Index := 448#32
  ![v751.toNat, 448]
def k0_off32 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v769 : Index := Scalar.indexCast arg9
  let c464 : Index := 464#32
  ![v769.toNat, 464]
def k0_off33 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v787 : Index := Scalar.indexCast arg9
  let c480 : Index := 480#32
  ![v787.toNat, 480]
def k0_off34 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let v805 : Index := Scalar.indexCast arg9
  let c496 : Index := 496#32
  ![v805.toNat, 496]
def k0_off35 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17 : BitVec 32 := 0#32
  let c128_i32 : BitVec 32 := 128#32
  let c0_i32_18 : BitVec 32 := 0#32
  ![v1.toNat, 0, 128, 0]
@[reducible] def k0_t2_loop : Scf.Loop 32 :=
  let c0_i32_26 : BitVec 32 := 0#32
  let c64_i32_27 : BitVec 32 := 64#32
  let v25 : BitVec 32 := Scalar.addi c0_i32_26 c64_i32_27
  let c1_i32_28 : BitVec 32 := 1#32
  ⟨c0_i32_26, v25, c1_i32_28⟩
def k0_off36 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v247 : Index := Scalar.indexCast arg9
  let c0_331 : Index := 0#32
  ![v247.toNat, 0]
def k0_off37 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v265 : Index := Scalar.indexCast arg9
  let c16 : Index := 16#32
  ![v265.toNat, 16]
def k0_off38 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v283 : Index := Scalar.indexCast arg9
  let c32 : Index := 32#32
  ![v283.toNat, 32]
def k0_off39 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v301 : Index := Scalar.indexCast arg9
  let c48 : Index := 48#32
  ![v301.toNat, 48]
def k0_off40 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v319 : Index := Scalar.indexCast arg9
  let c64 : Index := 64#32
  ![v319.toNat, 64]
def k0_off41 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v337 : Index := Scalar.indexCast arg9
  let c80 : Index := 80#32
  ![v337.toNat, 80]
def k0_off42 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v355 : Index := Scalar.indexCast arg9
  let c96 : Index := 96#32
  ![v355.toNat, 96]
def k0_off43 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v373 : Index := Scalar.indexCast arg9
  let c112 : Index := 112#32
  ![v373.toNat, 112]
def k0_off44 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v391 : Index := Scalar.indexCast arg9
  let c128 : Index := 128#32
  ![v391.toNat, 128]
def k0_off45 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v409 : Index := Scalar.indexCast arg9
  let c144 : Index := 144#32
  ![v409.toNat, 144]
def k0_off46 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v427 : Index := Scalar.indexCast arg9
  let c160 : Index := 160#32
  ![v427.toNat, 160]
def k0_off47 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v445 : Index := Scalar.indexCast arg9
  let c176 : Index := 176#32
  ![v445.toNat, 176]
def k0_off48 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v463 : Index := Scalar.indexCast arg9
  let c192 : Index := 192#32
  ![v463.toNat, 192]
def k0_off49 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v481 : Index := Scalar.indexCast arg9
  let c208 : Index := 208#32
  ![v481.toNat, 208]
def k0_off50 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v499 : Index := Scalar.indexCast arg9
  let c224 : Index := 224#32
  ![v499.toNat, 224]
def k0_off51 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v517 : Index := Scalar.indexCast arg9
  let c240 : Index := 240#32
  ![v517.toNat, 240]
def k0_off52 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v535 : Index := Scalar.indexCast arg9
  let c256 : Index := 256#32
  ![v535.toNat, 256]
def k0_off53 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v553 : Index := Scalar.indexCast arg9
  let c272 : Index := 272#32
  ![v553.toNat, 272]
def k0_off54 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v571 : Index := Scalar.indexCast arg9
  let c288 : Index := 288#32
  ![v571.toNat, 288]
def k0_off55 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v589 : Index := Scalar.indexCast arg9
  let c304 : Index := 304#32
  ![v589.toNat, 304]
def k0_off56 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v607 : Index := Scalar.indexCast arg9
  let c320 : Index := 320#32
  ![v607.toNat, 320]
def k0_off57 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v625 : Index := Scalar.indexCast arg9
  let c336 : Index := 336#32
  ![v625.toNat, 336]
def k0_off58 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v643 : Index := Scalar.indexCast arg9
  let c352 : Index := 352#32
  ![v643.toNat, 352]
def k0_off59 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v661 : Index := Scalar.indexCast arg9
  let c368 : Index := 368#32
  ![v661.toNat, 368]
def k0_off60 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v679 : Index := Scalar.indexCast arg9
  let c384 : Index := 384#32
  ![v679.toNat, 384]
def k0_off61 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v697 : Index := Scalar.indexCast arg9
  let c400 : Index := 400#32
  ![v697.toNat, 400]
def k0_off62 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v715 : Index := Scalar.indexCast arg9
  let c416 : Index := 416#32
  ![v715.toNat, 416]
def k0_off63 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v733 : Index := Scalar.indexCast arg9
  let c432 : Index := 432#32
  ![v733.toNat, 432]
def k0_off64 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v751 : Index := Scalar.indexCast arg9
  let c448 : Index := 448#32
  ![v751.toNat, 448]
def k0_off65 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v769 : Index := Scalar.indexCast arg9
  let c464 : Index := 464#32
  ![v769.toNat, 464]
def k0_off66 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v787 : Index := Scalar.indexCast arg9
  let c480 : Index := 480#32
  ![v787.toNat, 480]
def k0_off67 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let v805 : Index := Scalar.indexCast arg9
  let c496 : Index := 496#32
  ![v805.toNat, 496]
def k0_off68 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c192_i32 : BitVec 32 := 192#32
  let c0_i32_31 : BitVec 32 := 0#32
  ![v1.toNat, 0, 192, 0]
@[reducible] def k0_t3_loop : Scf.Loop 32 :=
  let c0_i32_39 : BitVec 32 := 0#32
  let c64_i32_40 : BitVec 32 := 64#32
  let v35 : BitVec 32 := Scalar.addi c0_i32_39 c64_i32_40
  let c1_i32_41 : BitVec 32 := 1#32
  ⟨c0_i32_39, v35, c1_i32_41⟩
def k0_off69 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v247 : Index := Scalar.indexCast arg9
  let c0_331 : Index := 0#32
  ![v247.toNat, 0]
def k0_off70 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v265 : Index := Scalar.indexCast arg9
  let c16 : Index := 16#32
  ![v265.toNat, 16]
def k0_off71 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v283 : Index := Scalar.indexCast arg9
  let c32 : Index := 32#32
  ![v283.toNat, 32]
def k0_off72 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v301 : Index := Scalar.indexCast arg9
  let c48 : Index := 48#32
  ![v301.toNat, 48]
def k0_off73 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v319 : Index := Scalar.indexCast arg9
  let c64 : Index := 64#32
  ![v319.toNat, 64]
def k0_off74 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v337 : Index := Scalar.indexCast arg9
  let c80 : Index := 80#32
  ![v337.toNat, 80]
def k0_off75 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v355 : Index := Scalar.indexCast arg9
  let c96 : Index := 96#32
  ![v355.toNat, 96]
def k0_off76 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v373 : Index := Scalar.indexCast arg9
  let c112 : Index := 112#32
  ![v373.toNat, 112]
def k0_off77 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v391 : Index := Scalar.indexCast arg9
  let c128 : Index := 128#32
  ![v391.toNat, 128]
def k0_off78 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v409 : Index := Scalar.indexCast arg9
  let c144 : Index := 144#32
  ![v409.toNat, 144]
def k0_off79 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v427 : Index := Scalar.indexCast arg9
  let c160 : Index := 160#32
  ![v427.toNat, 160]
def k0_off80 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v445 : Index := Scalar.indexCast arg9
  let c176 : Index := 176#32
  ![v445.toNat, 176]
def k0_off81 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v463 : Index := Scalar.indexCast arg9
  let c192 : Index := 192#32
  ![v463.toNat, 192]
def k0_off82 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v481 : Index := Scalar.indexCast arg9
  let c208 : Index := 208#32
  ![v481.toNat, 208]
def k0_off83 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v499 : Index := Scalar.indexCast arg9
  let c224 : Index := 224#32
  ![v499.toNat, 224]
def k0_off84 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v517 : Index := Scalar.indexCast arg9
  let c240 : Index := 240#32
  ![v517.toNat, 240]
def k0_off85 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v535 : Index := Scalar.indexCast arg9
  let c256 : Index := 256#32
  ![v535.toNat, 256]
def k0_off86 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v553 : Index := Scalar.indexCast arg9
  let c272 : Index := 272#32
  ![v553.toNat, 272]
def k0_off87 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v571 : Index := Scalar.indexCast arg9
  let c288 : Index := 288#32
  ![v571.toNat, 288]
def k0_off88 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v589 : Index := Scalar.indexCast arg9
  let c304 : Index := 304#32
  ![v589.toNat, 304]
def k0_off89 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v607 : Index := Scalar.indexCast arg9
  let c320 : Index := 320#32
  ![v607.toNat, 320]
def k0_off90 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v625 : Index := Scalar.indexCast arg9
  let c336 : Index := 336#32
  ![v625.toNat, 336]
def k0_off91 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v643 : Index := Scalar.indexCast arg9
  let c352 : Index := 352#32
  ![v643.toNat, 352]
def k0_off92 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v661 : Index := Scalar.indexCast arg9
  let c368 : Index := 368#32
  ![v661.toNat, 368]
def k0_off93 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v679 : Index := Scalar.indexCast arg9
  let c384 : Index := 384#32
  ![v679.toNat, 384]
def k0_off94 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v697 : Index := Scalar.indexCast arg9
  let c400 : Index := 400#32
  ![v697.toNat, 400]
def k0_off95 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v715 : Index := Scalar.indexCast arg9
  let c416 : Index := 416#32
  ![v715.toNat, 416]
def k0_off96 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v733 : Index := Scalar.indexCast arg9
  let c432 : Index := 432#32
  ![v733.toNat, 432]
def k0_off97 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v751 : Index := Scalar.indexCast arg9
  let c448 : Index := 448#32
  ![v751.toNat, 448]
def k0_off98 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v769 : Index := Scalar.indexCast arg9
  let c464 : Index := 464#32
  ![v769.toNat, 464]
def k0_off99 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v787 : Index := Scalar.indexCast arg9
  let c480 : Index := 480#32
  ![v787.toNat, 480]
def k0_off100 (k0_t3 : Fin k0_t3_loop.trips) : Fin 2 → Nat :=
  let c0_i32_39 : BitVec 32 := 0#32
  let c1_i32_41 : BitVec 32 := 1#32
  let arg9 : BitVec 32 := Scf.iv c0_i32_39 c1_i32_41 k0_t3
  let v805 : Index := Scalar.indexCast arg9
  let c496 : Index := 496#32
  ![v805.toNat, 496]
def k0_off101 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_43 : BitVec 32 := 0#32
  let c256_i32 : BitVec 32 := 256#32
  let c0_i32_44 : BitVec 32 := 0#32
  ![v1.toNat, 0, 256, 0]
@[reducible] def k0_t4_loop : Scf.Loop 32 :=
  let c0_i32_52 : BitVec 32 := 0#32
  let c64_i32_53 : BitVec 32 := 64#32
  let v45 : BitVec 32 := Scalar.addi c0_i32_52 c64_i32_53
  let c1_i32_54 : BitVec 32 := 1#32
  ⟨c0_i32_52, v45, c1_i32_54⟩
def k0_off102 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v247 : Index := Scalar.indexCast arg9
  let c0_331 : Index := 0#32
  ![v247.toNat, 0]
def k0_off103 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v265 : Index := Scalar.indexCast arg9
  let c16 : Index := 16#32
  ![v265.toNat, 16]
def k0_off104 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v283 : Index := Scalar.indexCast arg9
  let c32 : Index := 32#32
  ![v283.toNat, 32]
def k0_off105 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v301 : Index := Scalar.indexCast arg9
  let c48 : Index := 48#32
  ![v301.toNat, 48]
def k0_off106 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v319 : Index := Scalar.indexCast arg9
  let c64 : Index := 64#32
  ![v319.toNat, 64]
def k0_off107 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v337 : Index := Scalar.indexCast arg9
  let c80 : Index := 80#32
  ![v337.toNat, 80]
def k0_off108 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v355 : Index := Scalar.indexCast arg9
  let c96 : Index := 96#32
  ![v355.toNat, 96]
def k0_off109 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v373 : Index := Scalar.indexCast arg9
  let c112 : Index := 112#32
  ![v373.toNat, 112]
def k0_off110 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v391 : Index := Scalar.indexCast arg9
  let c128 : Index := 128#32
  ![v391.toNat, 128]
def k0_off111 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v409 : Index := Scalar.indexCast arg9
  let c144 : Index := 144#32
  ![v409.toNat, 144]
def k0_off112 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v427 : Index := Scalar.indexCast arg9
  let c160 : Index := 160#32
  ![v427.toNat, 160]
def k0_off113 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v445 : Index := Scalar.indexCast arg9
  let c176 : Index := 176#32
  ![v445.toNat, 176]
def k0_off114 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v463 : Index := Scalar.indexCast arg9
  let c192 : Index := 192#32
  ![v463.toNat, 192]
def k0_off115 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v481 : Index := Scalar.indexCast arg9
  let c208 : Index := 208#32
  ![v481.toNat, 208]
def k0_off116 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v499 : Index := Scalar.indexCast arg9
  let c224 : Index := 224#32
  ![v499.toNat, 224]
def k0_off117 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v517 : Index := Scalar.indexCast arg9
  let c240 : Index := 240#32
  ![v517.toNat, 240]
def k0_off118 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v535 : Index := Scalar.indexCast arg9
  let c256 : Index := 256#32
  ![v535.toNat, 256]
def k0_off119 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v553 : Index := Scalar.indexCast arg9
  let c272 : Index := 272#32
  ![v553.toNat, 272]
def k0_off120 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v571 : Index := Scalar.indexCast arg9
  let c288 : Index := 288#32
  ![v571.toNat, 288]
def k0_off121 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v589 : Index := Scalar.indexCast arg9
  let c304 : Index := 304#32
  ![v589.toNat, 304]
def k0_off122 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v607 : Index := Scalar.indexCast arg9
  let c320 : Index := 320#32
  ![v607.toNat, 320]
def k0_off123 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v625 : Index := Scalar.indexCast arg9
  let c336 : Index := 336#32
  ![v625.toNat, 336]
def k0_off124 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v643 : Index := Scalar.indexCast arg9
  let c352 : Index := 352#32
  ![v643.toNat, 352]
def k0_off125 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v661 : Index := Scalar.indexCast arg9
  let c368 : Index := 368#32
  ![v661.toNat, 368]
def k0_off126 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v679 : Index := Scalar.indexCast arg9
  let c384 : Index := 384#32
  ![v679.toNat, 384]
def k0_off127 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v697 : Index := Scalar.indexCast arg9
  let c400 : Index := 400#32
  ![v697.toNat, 400]
def k0_off128 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v715 : Index := Scalar.indexCast arg9
  let c416 : Index := 416#32
  ![v715.toNat, 416]
def k0_off129 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v733 : Index := Scalar.indexCast arg9
  let c432 : Index := 432#32
  ![v733.toNat, 432]
def k0_off130 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v751 : Index := Scalar.indexCast arg9
  let c448 : Index := 448#32
  ![v751.toNat, 448]
def k0_off131 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v769 : Index := Scalar.indexCast arg9
  let c464 : Index := 464#32
  ![v769.toNat, 464]
def k0_off132 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v787 : Index := Scalar.indexCast arg9
  let c480 : Index := 480#32
  ![v787.toNat, 480]
def k0_off133 (k0_t4 : Fin k0_t4_loop.trips) : Fin 2 → Nat :=
  let c0_i32_52 : BitVec 32 := 0#32
  let c1_i32_54 : BitVec 32 := 1#32
  let arg9 : BitVec 32 := Scf.iv c0_i32_52 c1_i32_54 k0_t4
  let v805 : Index := Scalar.indexCast arg9
  let c496 : Index := 496#32
  ![v805.toNat, 496]
def k0_off134 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_56 : BitVec 32 := 0#32
  let c320_i32 : BitVec 32 := 320#32
  let c0_i32_57 : BitVec 32 := 0#32
  ![v1.toNat, 0, 320, 0]
@[reducible] def k0_t5_loop : Scf.Loop 32 :=
  let c0_i32_65 : BitVec 32 := 0#32
  let c64_i32_66 : BitVec 32 := 64#32
  let v55 : BitVec 32 := Scalar.addi c0_i32_65 c64_i32_66
  let c1_i32_67 : BitVec 32 := 1#32
  ⟨c0_i32_65, v55, c1_i32_67⟩
def k0_off135 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v247 : Index := Scalar.indexCast arg9
  let c0_331 : Index := 0#32
  ![v247.toNat, 0]
def k0_off136 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v265 : Index := Scalar.indexCast arg9
  let c16 : Index := 16#32
  ![v265.toNat, 16]
def k0_off137 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v283 : Index := Scalar.indexCast arg9
  let c32 : Index := 32#32
  ![v283.toNat, 32]
def k0_off138 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v301 : Index := Scalar.indexCast arg9
  let c48 : Index := 48#32
  ![v301.toNat, 48]
def k0_off139 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v319 : Index := Scalar.indexCast arg9
  let c64 : Index := 64#32
  ![v319.toNat, 64]
def k0_off140 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v337 : Index := Scalar.indexCast arg9
  let c80 : Index := 80#32
  ![v337.toNat, 80]
def k0_off141 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v355 : Index := Scalar.indexCast arg9
  let c96 : Index := 96#32
  ![v355.toNat, 96]
def k0_off142 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v373 : Index := Scalar.indexCast arg9
  let c112 : Index := 112#32
  ![v373.toNat, 112]
def k0_off143 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v391 : Index := Scalar.indexCast arg9
  let c128 : Index := 128#32
  ![v391.toNat, 128]
def k0_off144 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v409 : Index := Scalar.indexCast arg9
  let c144 : Index := 144#32
  ![v409.toNat, 144]
def k0_off145 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v427 : Index := Scalar.indexCast arg9
  let c160 : Index := 160#32
  ![v427.toNat, 160]
def k0_off146 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v445 : Index := Scalar.indexCast arg9
  let c176 : Index := 176#32
  ![v445.toNat, 176]
def k0_off147 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v463 : Index := Scalar.indexCast arg9
  let c192 : Index := 192#32
  ![v463.toNat, 192]
def k0_off148 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v481 : Index := Scalar.indexCast arg9
  let c208 : Index := 208#32
  ![v481.toNat, 208]
def k0_off149 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v499 : Index := Scalar.indexCast arg9
  let c224 : Index := 224#32
  ![v499.toNat, 224]
def k0_off150 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v517 : Index := Scalar.indexCast arg9
  let c240 : Index := 240#32
  ![v517.toNat, 240]
def k0_off151 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v535 : Index := Scalar.indexCast arg9
  let c256 : Index := 256#32
  ![v535.toNat, 256]
def k0_off152 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v553 : Index := Scalar.indexCast arg9
  let c272 : Index := 272#32
  ![v553.toNat, 272]
def k0_off153 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v571 : Index := Scalar.indexCast arg9
  let c288 : Index := 288#32
  ![v571.toNat, 288]
def k0_off154 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v589 : Index := Scalar.indexCast arg9
  let c304 : Index := 304#32
  ![v589.toNat, 304]
def k0_off155 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v607 : Index := Scalar.indexCast arg9
  let c320 : Index := 320#32
  ![v607.toNat, 320]
def k0_off156 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v625 : Index := Scalar.indexCast arg9
  let c336 : Index := 336#32
  ![v625.toNat, 336]
def k0_off157 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v643 : Index := Scalar.indexCast arg9
  let c352 : Index := 352#32
  ![v643.toNat, 352]
def k0_off158 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v661 : Index := Scalar.indexCast arg9
  let c368 : Index := 368#32
  ![v661.toNat, 368]
def k0_off159 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v679 : Index := Scalar.indexCast arg9
  let c384 : Index := 384#32
  ![v679.toNat, 384]
def k0_off160 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v697 : Index := Scalar.indexCast arg9
  let c400 : Index := 400#32
  ![v697.toNat, 400]
def k0_off161 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v715 : Index := Scalar.indexCast arg9
  let c416 : Index := 416#32
  ![v715.toNat, 416]
def k0_off162 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v733 : Index := Scalar.indexCast arg9
  let c432 : Index := 432#32
  ![v733.toNat, 432]
def k0_off163 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v751 : Index := Scalar.indexCast arg9
  let c448 : Index := 448#32
  ![v751.toNat, 448]
def k0_off164 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v769 : Index := Scalar.indexCast arg9
  let c464 : Index := 464#32
  ![v769.toNat, 464]
def k0_off165 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v787 : Index := Scalar.indexCast arg9
  let c480 : Index := 480#32
  ![v787.toNat, 480]
def k0_off166 (k0_t5 : Fin k0_t5_loop.trips) : Fin 2 → Nat :=
  let c0_i32_65 : BitVec 32 := 0#32
  let c1_i32_67 : BitVec 32 := 1#32
  let arg9 : BitVec 32 := Scf.iv c0_i32_65 c1_i32_67 k0_t5
  let v805 : Index := Scalar.indexCast arg9
  let c496 : Index := 496#32
  ![v805.toNat, 496]
def k0_off167 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_69 : BitVec 32 := 0#32
  let c384_i32 : BitVec 32 := 384#32
  let c0_i32_70 : BitVec 32 := 0#32
  ![v1.toNat, 0, 384, 0]
@[reducible] def k0_t6_loop : Scf.Loop 32 :=
  let c0_i32_78 : BitVec 32 := 0#32
  let c64_i32_79 : BitVec 32 := 64#32
  let v65 : BitVec 32 := Scalar.addi c0_i32_78 c64_i32_79
  let c1_i32_80 : BitVec 32 := 1#32
  ⟨c0_i32_78, v65, c1_i32_80⟩
def k0_off168 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v247 : Index := Scalar.indexCast arg9
  let c0_331 : Index := 0#32
  ![v247.toNat, 0]
def k0_off169 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v265 : Index := Scalar.indexCast arg9
  let c16 : Index := 16#32
  ![v265.toNat, 16]
def k0_off170 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v283 : Index := Scalar.indexCast arg9
  let c32 : Index := 32#32
  ![v283.toNat, 32]
def k0_off171 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v301 : Index := Scalar.indexCast arg9
  let c48 : Index := 48#32
  ![v301.toNat, 48]
def k0_off172 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v319 : Index := Scalar.indexCast arg9
  let c64 : Index := 64#32
  ![v319.toNat, 64]
def k0_off173 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v337 : Index := Scalar.indexCast arg9
  let c80 : Index := 80#32
  ![v337.toNat, 80]
def k0_off174 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v355 : Index := Scalar.indexCast arg9
  let c96 : Index := 96#32
  ![v355.toNat, 96]
def k0_off175 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v373 : Index := Scalar.indexCast arg9
  let c112 : Index := 112#32
  ![v373.toNat, 112]
def k0_off176 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v391 : Index := Scalar.indexCast arg9
  let c128 : Index := 128#32
  ![v391.toNat, 128]
def k0_off177 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v409 : Index := Scalar.indexCast arg9
  let c144 : Index := 144#32
  ![v409.toNat, 144]
def k0_off178 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v427 : Index := Scalar.indexCast arg9
  let c160 : Index := 160#32
  ![v427.toNat, 160]
def k0_off179 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v445 : Index := Scalar.indexCast arg9
  let c176 : Index := 176#32
  ![v445.toNat, 176]
def k0_off180 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v463 : Index := Scalar.indexCast arg9
  let c192 : Index := 192#32
  ![v463.toNat, 192]
def k0_off181 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v481 : Index := Scalar.indexCast arg9
  let c208 : Index := 208#32
  ![v481.toNat, 208]
def k0_off182 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v499 : Index := Scalar.indexCast arg9
  let c224 : Index := 224#32
  ![v499.toNat, 224]
def k0_off183 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v517 : Index := Scalar.indexCast arg9
  let c240 : Index := 240#32
  ![v517.toNat, 240]
def k0_off184 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v535 : Index := Scalar.indexCast arg9
  let c256 : Index := 256#32
  ![v535.toNat, 256]
def k0_off185 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v553 : Index := Scalar.indexCast arg9
  let c272 : Index := 272#32
  ![v553.toNat, 272]
def k0_off186 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v571 : Index := Scalar.indexCast arg9
  let c288 : Index := 288#32
  ![v571.toNat, 288]
def k0_off187 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v589 : Index := Scalar.indexCast arg9
  let c304 : Index := 304#32
  ![v589.toNat, 304]
def k0_off188 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v607 : Index := Scalar.indexCast arg9
  let c320 : Index := 320#32
  ![v607.toNat, 320]
def k0_off189 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v625 : Index := Scalar.indexCast arg9
  let c336 : Index := 336#32
  ![v625.toNat, 336]
def k0_off190 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v643 : Index := Scalar.indexCast arg9
  let c352 : Index := 352#32
  ![v643.toNat, 352]
def k0_off191 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v661 : Index := Scalar.indexCast arg9
  let c368 : Index := 368#32
  ![v661.toNat, 368]
def k0_off192 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v679 : Index := Scalar.indexCast arg9
  let c384 : Index := 384#32
  ![v679.toNat, 384]
def k0_off193 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v697 : Index := Scalar.indexCast arg9
  let c400 : Index := 400#32
  ![v697.toNat, 400]
def k0_off194 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v715 : Index := Scalar.indexCast arg9
  let c416 : Index := 416#32
  ![v715.toNat, 416]
def k0_off195 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v733 : Index := Scalar.indexCast arg9
  let c432 : Index := 432#32
  ![v733.toNat, 432]
def k0_off196 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v751 : Index := Scalar.indexCast arg9
  let c448 : Index := 448#32
  ![v751.toNat, 448]
def k0_off197 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v769 : Index := Scalar.indexCast arg9
  let c464 : Index := 464#32
  ![v769.toNat, 464]
def k0_off198 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v787 : Index := Scalar.indexCast arg9
  let c480 : Index := 480#32
  ![v787.toNat, 480]
def k0_off199 (k0_t6 : Fin k0_t6_loop.trips) : Fin 2 → Nat :=
  let c0_i32_78 : BitVec 32 := 0#32
  let c1_i32_80 : BitVec 32 := 1#32
  let arg9 : BitVec 32 := Scf.iv c0_i32_78 c1_i32_80 k0_t6
  let v805 : Index := Scalar.indexCast arg9
  let c496 : Index := 496#32
  ![v805.toNat, 496]
def k0_off200 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_82 : BitVec 32 := 0#32
  let c448_i32 : BitVec 32 := 448#32
  let c0_i32_83 : BitVec 32 := 0#32
  ![v1.toNat, 0, 448, 0]
@[reducible] def k0_t7_loop : Scf.Loop 32 :=
  let c0_i32_91 : BitVec 32 := 0#32
  let c64_i32_92 : BitVec 32 := 64#32
  let v75 : BitVec 32 := Scalar.addi c0_i32_91 c64_i32_92
  let c1_i32_93 : BitVec 32 := 1#32
  ⟨c0_i32_91, v75, c1_i32_93⟩
def k0_off201 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v247 : Index := Scalar.indexCast arg9
  let c0_331 : Index := 0#32
  ![v247.toNat, 0]
def k0_off202 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v265 : Index := Scalar.indexCast arg9
  let c16 : Index := 16#32
  ![v265.toNat, 16]
def k0_off203 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v283 : Index := Scalar.indexCast arg9
  let c32 : Index := 32#32
  ![v283.toNat, 32]
def k0_off204 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v301 : Index := Scalar.indexCast arg9
  let c48 : Index := 48#32
  ![v301.toNat, 48]
def k0_off205 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v319 : Index := Scalar.indexCast arg9
  let c64 : Index := 64#32
  ![v319.toNat, 64]
def k0_off206 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v337 : Index := Scalar.indexCast arg9
  let c80 : Index := 80#32
  ![v337.toNat, 80]
def k0_off207 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v355 : Index := Scalar.indexCast arg9
  let c96 : Index := 96#32
  ![v355.toNat, 96]
def k0_off208 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v373 : Index := Scalar.indexCast arg9
  let c112 : Index := 112#32
  ![v373.toNat, 112]
def k0_off209 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v391 : Index := Scalar.indexCast arg9
  let c128 : Index := 128#32
  ![v391.toNat, 128]
def k0_off210 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v409 : Index := Scalar.indexCast arg9
  let c144 : Index := 144#32
  ![v409.toNat, 144]
def k0_off211 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v427 : Index := Scalar.indexCast arg9
  let c160 : Index := 160#32
  ![v427.toNat, 160]
def k0_off212 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v445 : Index := Scalar.indexCast arg9
  let c176 : Index := 176#32
  ![v445.toNat, 176]
def k0_off213 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v463 : Index := Scalar.indexCast arg9
  let c192 : Index := 192#32
  ![v463.toNat, 192]
def k0_off214 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v481 : Index := Scalar.indexCast arg9
  let c208 : Index := 208#32
  ![v481.toNat, 208]
def k0_off215 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v499 : Index := Scalar.indexCast arg9
  let c224 : Index := 224#32
  ![v499.toNat, 224]
def k0_off216 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v517 : Index := Scalar.indexCast arg9
  let c240 : Index := 240#32
  ![v517.toNat, 240]
def k0_off217 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v535 : Index := Scalar.indexCast arg9
  let c256 : Index := 256#32
  ![v535.toNat, 256]
def k0_off218 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v553 : Index := Scalar.indexCast arg9
  let c272 : Index := 272#32
  ![v553.toNat, 272]
def k0_off219 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v571 : Index := Scalar.indexCast arg9
  let c288 : Index := 288#32
  ![v571.toNat, 288]
def k0_off220 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v589 : Index := Scalar.indexCast arg9
  let c304 : Index := 304#32
  ![v589.toNat, 304]
def k0_off221 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v607 : Index := Scalar.indexCast arg9
  let c320 : Index := 320#32
  ![v607.toNat, 320]
def k0_off222 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v625 : Index := Scalar.indexCast arg9
  let c336 : Index := 336#32
  ![v625.toNat, 336]
def k0_off223 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v643 : Index := Scalar.indexCast arg9
  let c352 : Index := 352#32
  ![v643.toNat, 352]
def k0_off224 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v661 : Index := Scalar.indexCast arg9
  let c368 : Index := 368#32
  ![v661.toNat, 368]
def k0_off225 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v679 : Index := Scalar.indexCast arg9
  let c384 : Index := 384#32
  ![v679.toNat, 384]
def k0_off226 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v697 : Index := Scalar.indexCast arg9
  let c400 : Index := 400#32
  ![v697.toNat, 400]
def k0_off227 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v715 : Index := Scalar.indexCast arg9
  let c416 : Index := 416#32
  ![v715.toNat, 416]
def k0_off228 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v733 : Index := Scalar.indexCast arg9
  let c432 : Index := 432#32
  ![v733.toNat, 432]
def k0_off229 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v751 : Index := Scalar.indexCast arg9
  let c448 : Index := 448#32
  ![v751.toNat, 448]
def k0_off230 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v769 : Index := Scalar.indexCast arg9
  let c464 : Index := 464#32
  ![v769.toNat, 464]
def k0_off231 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v787 : Index := Scalar.indexCast arg9
  let c480 : Index := 480#32
  ![v787.toNat, 480]
def k0_off232 (k0_t7 : Fin k0_t7_loop.trips) : Fin 2 → Nat :=
  let c0_i32_91 : BitVec 32 := 0#32
  let c1_i32_93 : BitVec 32 := 1#32
  let arg9 : BitVec 32 := Scf.iv c0_i32_91 c1_i32_93 k0_t7
  let v805 : Index := Scalar.indexCast arg9
  let c496 : Index := 496#32
  ![v805.toNat, 496]
def k0_off233 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_95 : BitVec 32 := 1#32
  let c0_i32_96 : BitVec 32 := 0#32
  let c0_i32_97 : BitVec 32 := 0#32
  ![v1.toNat, 1, 0, 0]
@[reducible] def k0_t8_loop : Scf.Loop 32 :=
  let c0_i32_105 : BitVec 32 := 0#32
  let c64_i32_106 : BitVec 32 := 64#32
  let v85 : BitVec 32 := Scalar.addi c0_i32_105 c64_i32_106
  let c1_i32_107 : BitVec 32 := 1#32
  ⟨c0_i32_105, v85, c1_i32_107⟩
def k0_off234 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v247 : Index := Scalar.indexCast arg9
  let c0_331 : Index := 0#32
  ![v247.toNat, 0]
def k0_off235 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v265 : Index := Scalar.indexCast arg9
  let c16 : Index := 16#32
  ![v265.toNat, 16]
def k0_off236 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v283 : Index := Scalar.indexCast arg9
  let c32 : Index := 32#32
  ![v283.toNat, 32]
def k0_off237 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v301 : Index := Scalar.indexCast arg9
  let c48 : Index := 48#32
  ![v301.toNat, 48]
def k0_off238 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v319 : Index := Scalar.indexCast arg9
  let c64 : Index := 64#32
  ![v319.toNat, 64]
def k0_off239 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v337 : Index := Scalar.indexCast arg9
  let c80 : Index := 80#32
  ![v337.toNat, 80]
def k0_off240 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v355 : Index := Scalar.indexCast arg9
  let c96 : Index := 96#32
  ![v355.toNat, 96]
def k0_off241 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v373 : Index := Scalar.indexCast arg9
  let c112 : Index := 112#32
  ![v373.toNat, 112]
def k0_off242 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v391 : Index := Scalar.indexCast arg9
  let c128 : Index := 128#32
  ![v391.toNat, 128]
def k0_off243 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v409 : Index := Scalar.indexCast arg9
  let c144 : Index := 144#32
  ![v409.toNat, 144]
def k0_off244 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v427 : Index := Scalar.indexCast arg9
  let c160 : Index := 160#32
  ![v427.toNat, 160]
def k0_off245 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v445 : Index := Scalar.indexCast arg9
  let c176 : Index := 176#32
  ![v445.toNat, 176]
def k0_off246 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v463 : Index := Scalar.indexCast arg9
  let c192 : Index := 192#32
  ![v463.toNat, 192]
def k0_off247 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v481 : Index := Scalar.indexCast arg9
  let c208 : Index := 208#32
  ![v481.toNat, 208]
def k0_off248 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v499 : Index := Scalar.indexCast arg9
  let c224 : Index := 224#32
  ![v499.toNat, 224]
def k0_off249 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v517 : Index := Scalar.indexCast arg9
  let c240 : Index := 240#32
  ![v517.toNat, 240]
def k0_off250 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v535 : Index := Scalar.indexCast arg9
  let c256 : Index := 256#32
  ![v535.toNat, 256]
def k0_off251 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v553 : Index := Scalar.indexCast arg9
  let c272 : Index := 272#32
  ![v553.toNat, 272]
def k0_off252 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v571 : Index := Scalar.indexCast arg9
  let c288 : Index := 288#32
  ![v571.toNat, 288]
def k0_off253 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v589 : Index := Scalar.indexCast arg9
  let c304 : Index := 304#32
  ![v589.toNat, 304]
def k0_off254 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v607 : Index := Scalar.indexCast arg9
  let c320 : Index := 320#32
  ![v607.toNat, 320]
def k0_off255 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v625 : Index := Scalar.indexCast arg9
  let c336 : Index := 336#32
  ![v625.toNat, 336]
def k0_off256 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v643 : Index := Scalar.indexCast arg9
  let c352 : Index := 352#32
  ![v643.toNat, 352]
def k0_off257 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v661 : Index := Scalar.indexCast arg9
  let c368 : Index := 368#32
  ![v661.toNat, 368]
def k0_off258 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v679 : Index := Scalar.indexCast arg9
  let c384 : Index := 384#32
  ![v679.toNat, 384]
def k0_off259 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v697 : Index := Scalar.indexCast arg9
  let c400 : Index := 400#32
  ![v697.toNat, 400]
def k0_off260 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v715 : Index := Scalar.indexCast arg9
  let c416 : Index := 416#32
  ![v715.toNat, 416]
def k0_off261 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v733 : Index := Scalar.indexCast arg9
  let c432 : Index := 432#32
  ![v733.toNat, 432]
def k0_off262 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v751 : Index := Scalar.indexCast arg9
  let c448 : Index := 448#32
  ![v751.toNat, 448]
def k0_off263 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v769 : Index := Scalar.indexCast arg9
  let c464 : Index := 464#32
  ![v769.toNat, 464]
def k0_off264 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v787 : Index := Scalar.indexCast arg9
  let c480 : Index := 480#32
  ![v787.toNat, 480]
def k0_off265 (k0_t8 : Fin k0_t8_loop.trips) : Fin 2 → Nat :=
  let c0_i32_105 : BitVec 32 := 0#32
  let c1_i32_107 : BitVec 32 := 1#32
  let arg9 : BitVec 32 := Scf.iv c0_i32_105 c1_i32_107 k0_t8
  let v805 : Index := Scalar.indexCast arg9
  let c496 : Index := 496#32
  ![v805.toNat, 496]
def k0_off266 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_109 : BitVec 32 := 1#32
  let c64_i32_110 : BitVec 32 := 64#32
  let c0_i32_111 : BitVec 32 := 0#32
  ![v1.toNat, 1, 64, 0]
@[reducible] def k0_t9_loop : Scf.Loop 32 :=
  let c0_i32_119 : BitVec 32 := 0#32
  let c64_i32_120 : BitVec 32 := 64#32
  let v95 : BitVec 32 := Scalar.addi c0_i32_119 c64_i32_120
  let c1_i32_121 : BitVec 32 := 1#32
  ⟨c0_i32_119, v95, c1_i32_121⟩
def k0_off267 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v247 : Index := Scalar.indexCast arg9
  let c0_331 : Index := 0#32
  ![v247.toNat, 0]
def k0_off268 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v265 : Index := Scalar.indexCast arg9
  let c16 : Index := 16#32
  ![v265.toNat, 16]
def k0_off269 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v283 : Index := Scalar.indexCast arg9
  let c32 : Index := 32#32
  ![v283.toNat, 32]
def k0_off270 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v301 : Index := Scalar.indexCast arg9
  let c48 : Index := 48#32
  ![v301.toNat, 48]
def k0_off271 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v319 : Index := Scalar.indexCast arg9
  let c64 : Index := 64#32
  ![v319.toNat, 64]
def k0_off272 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v337 : Index := Scalar.indexCast arg9
  let c80 : Index := 80#32
  ![v337.toNat, 80]
def k0_off273 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v355 : Index := Scalar.indexCast arg9
  let c96 : Index := 96#32
  ![v355.toNat, 96]
def k0_off274 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v373 : Index := Scalar.indexCast arg9
  let c112 : Index := 112#32
  ![v373.toNat, 112]
def k0_off275 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v391 : Index := Scalar.indexCast arg9
  let c128 : Index := 128#32
  ![v391.toNat, 128]
def k0_off276 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v409 : Index := Scalar.indexCast arg9
  let c144 : Index := 144#32
  ![v409.toNat, 144]
def k0_off277 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v427 : Index := Scalar.indexCast arg9
  let c160 : Index := 160#32
  ![v427.toNat, 160]
def k0_off278 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v445 : Index := Scalar.indexCast arg9
  let c176 : Index := 176#32
  ![v445.toNat, 176]
def k0_off279 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v463 : Index := Scalar.indexCast arg9
  let c192 : Index := 192#32
  ![v463.toNat, 192]
def k0_off280 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v481 : Index := Scalar.indexCast arg9
  let c208 : Index := 208#32
  ![v481.toNat, 208]
def k0_off281 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v499 : Index := Scalar.indexCast arg9
  let c224 : Index := 224#32
  ![v499.toNat, 224]
def k0_off282 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v517 : Index := Scalar.indexCast arg9
  let c240 : Index := 240#32
  ![v517.toNat, 240]
def k0_off283 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v535 : Index := Scalar.indexCast arg9
  let c256 : Index := 256#32
  ![v535.toNat, 256]
def k0_off284 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v553 : Index := Scalar.indexCast arg9
  let c272 : Index := 272#32
  ![v553.toNat, 272]
def k0_off285 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v571 : Index := Scalar.indexCast arg9
  let c288 : Index := 288#32
  ![v571.toNat, 288]
def k0_off286 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v589 : Index := Scalar.indexCast arg9
  let c304 : Index := 304#32
  ![v589.toNat, 304]
def k0_off287 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v607 : Index := Scalar.indexCast arg9
  let c320 : Index := 320#32
  ![v607.toNat, 320]
def k0_off288 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v625 : Index := Scalar.indexCast arg9
  let c336 : Index := 336#32
  ![v625.toNat, 336]
def k0_off289 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v643 : Index := Scalar.indexCast arg9
  let c352 : Index := 352#32
  ![v643.toNat, 352]
def k0_off290 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v661 : Index := Scalar.indexCast arg9
  let c368 : Index := 368#32
  ![v661.toNat, 368]
def k0_off291 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v679 : Index := Scalar.indexCast arg9
  let c384 : Index := 384#32
  ![v679.toNat, 384]
def k0_off292 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v697 : Index := Scalar.indexCast arg9
  let c400 : Index := 400#32
  ![v697.toNat, 400]
def k0_off293 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v715 : Index := Scalar.indexCast arg9
  let c416 : Index := 416#32
  ![v715.toNat, 416]
def k0_off294 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v733 : Index := Scalar.indexCast arg9
  let c432 : Index := 432#32
  ![v733.toNat, 432]
def k0_off295 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v751 : Index := Scalar.indexCast arg9
  let c448 : Index := 448#32
  ![v751.toNat, 448]
def k0_off296 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v769 : Index := Scalar.indexCast arg9
  let c464 : Index := 464#32
  ![v769.toNat, 464]
def k0_off297 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v787 : Index := Scalar.indexCast arg9
  let c480 : Index := 480#32
  ![v787.toNat, 480]
def k0_off298 (k0_t9 : Fin k0_t9_loop.trips) : Fin 2 → Nat :=
  let c0_i32_119 : BitVec 32 := 0#32
  let c1_i32_121 : BitVec 32 := 1#32
  let arg9 : BitVec 32 := Scf.iv c0_i32_119 c1_i32_121 k0_t9
  let v805 : Index := Scalar.indexCast arg9
  let c496 : Index := 496#32
  ![v805.toNat, 496]
def k0_off299 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_123 : BitVec 32 := 1#32
  let c128_i32_124 : BitVec 32 := 128#32
  let c0_i32_125 : BitVec 32 := 0#32
  ![v1.toNat, 1, 128, 0]
@[reducible] def k0_t10_loop : Scf.Loop 32 :=
  let c0_i32_133 : BitVec 32 := 0#32
  let c64_i32_134 : BitVec 32 := 64#32
  let v105 : BitVec 32 := Scalar.addi c0_i32_133 c64_i32_134
  let c1_i32_135 : BitVec 32 := 1#32
  ⟨c0_i32_133, v105, c1_i32_135⟩
def k0_off300 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v247 : Index := Scalar.indexCast arg9
  let c0_331 : Index := 0#32
  ![v247.toNat, 0]
def k0_off301 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v265 : Index := Scalar.indexCast arg9
  let c16 : Index := 16#32
  ![v265.toNat, 16]
def k0_off302 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v283 : Index := Scalar.indexCast arg9
  let c32 : Index := 32#32
  ![v283.toNat, 32]
def k0_off303 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v301 : Index := Scalar.indexCast arg9
  let c48 : Index := 48#32
  ![v301.toNat, 48]
def k0_off304 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v319 : Index := Scalar.indexCast arg9
  let c64 : Index := 64#32
  ![v319.toNat, 64]
def k0_off305 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v337 : Index := Scalar.indexCast arg9
  let c80 : Index := 80#32
  ![v337.toNat, 80]
def k0_off306 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v355 : Index := Scalar.indexCast arg9
  let c96 : Index := 96#32
  ![v355.toNat, 96]
def k0_off307 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v373 : Index := Scalar.indexCast arg9
  let c112 : Index := 112#32
  ![v373.toNat, 112]
def k0_off308 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v391 : Index := Scalar.indexCast arg9
  let c128 : Index := 128#32
  ![v391.toNat, 128]
def k0_off309 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v409 : Index := Scalar.indexCast arg9
  let c144 : Index := 144#32
  ![v409.toNat, 144]
def k0_off310 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v427 : Index := Scalar.indexCast arg9
  let c160 : Index := 160#32
  ![v427.toNat, 160]
def k0_off311 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v445 : Index := Scalar.indexCast arg9
  let c176 : Index := 176#32
  ![v445.toNat, 176]
def k0_off312 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v463 : Index := Scalar.indexCast arg9
  let c192 : Index := 192#32
  ![v463.toNat, 192]
def k0_off313 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v481 : Index := Scalar.indexCast arg9
  let c208 : Index := 208#32
  ![v481.toNat, 208]
def k0_off314 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v499 : Index := Scalar.indexCast arg9
  let c224 : Index := 224#32
  ![v499.toNat, 224]
def k0_off315 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v517 : Index := Scalar.indexCast arg9
  let c240 : Index := 240#32
  ![v517.toNat, 240]
def k0_off316 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v535 : Index := Scalar.indexCast arg9
  let c256 : Index := 256#32
  ![v535.toNat, 256]
def k0_off317 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v553 : Index := Scalar.indexCast arg9
  let c272 : Index := 272#32
  ![v553.toNat, 272]
def k0_off318 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v571 : Index := Scalar.indexCast arg9
  let c288 : Index := 288#32
  ![v571.toNat, 288]
def k0_off319 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v589 : Index := Scalar.indexCast arg9
  let c304 : Index := 304#32
  ![v589.toNat, 304]
def k0_off320 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v607 : Index := Scalar.indexCast arg9
  let c320 : Index := 320#32
  ![v607.toNat, 320]
def k0_off321 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v625 : Index := Scalar.indexCast arg9
  let c336 : Index := 336#32
  ![v625.toNat, 336]
def k0_off322 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v643 : Index := Scalar.indexCast arg9
  let c352 : Index := 352#32
  ![v643.toNat, 352]
def k0_off323 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v661 : Index := Scalar.indexCast arg9
  let c368 : Index := 368#32
  ![v661.toNat, 368]
def k0_off324 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v679 : Index := Scalar.indexCast arg9
  let c384 : Index := 384#32
  ![v679.toNat, 384]
def k0_off325 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v697 : Index := Scalar.indexCast arg9
  let c400 : Index := 400#32
  ![v697.toNat, 400]
def k0_off326 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v715 : Index := Scalar.indexCast arg9
  let c416 : Index := 416#32
  ![v715.toNat, 416]
def k0_off327 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v733 : Index := Scalar.indexCast arg9
  let c432 : Index := 432#32
  ![v733.toNat, 432]
def k0_off328 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v751 : Index := Scalar.indexCast arg9
  let c448 : Index := 448#32
  ![v751.toNat, 448]
def k0_off329 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v769 : Index := Scalar.indexCast arg9
  let c464 : Index := 464#32
  ![v769.toNat, 464]
def k0_off330 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v787 : Index := Scalar.indexCast arg9
  let c480 : Index := 480#32
  ![v787.toNat, 480]
def k0_off331 (k0_t10 : Fin k0_t10_loop.trips) : Fin 2 → Nat :=
  let c0_i32_133 : BitVec 32 := 0#32
  let c1_i32_135 : BitVec 32 := 1#32
  let arg9 : BitVec 32 := Scf.iv c0_i32_133 c1_i32_135 k0_t10
  let v805 : Index := Scalar.indexCast arg9
  let c496 : Index := 496#32
  ![v805.toNat, 496]
def k0_off332 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_137 : BitVec 32 := 1#32
  let c192_i32_138 : BitVec 32 := 192#32
  let c0_i32_139 : BitVec 32 := 0#32
  ![v1.toNat, 1, 192, 0]
@[reducible] def k0_t11_loop : Scf.Loop 32 :=
  let c0_i32_147 : BitVec 32 := 0#32
  let c64_i32_148 : BitVec 32 := 64#32
  let v115 : BitVec 32 := Scalar.addi c0_i32_147 c64_i32_148
  let c1_i32_149 : BitVec 32 := 1#32
  ⟨c0_i32_147, v115, c1_i32_149⟩
def k0_off333 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v247 : Index := Scalar.indexCast arg9
  let c0_331 : Index := 0#32
  ![v247.toNat, 0]
def k0_off334 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v265 : Index := Scalar.indexCast arg9
  let c16 : Index := 16#32
  ![v265.toNat, 16]
def k0_off335 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v283 : Index := Scalar.indexCast arg9
  let c32 : Index := 32#32
  ![v283.toNat, 32]
def k0_off336 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v301 : Index := Scalar.indexCast arg9
  let c48 : Index := 48#32
  ![v301.toNat, 48]
def k0_off337 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v319 : Index := Scalar.indexCast arg9
  let c64 : Index := 64#32
  ![v319.toNat, 64]
def k0_off338 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v337 : Index := Scalar.indexCast arg9
  let c80 : Index := 80#32
  ![v337.toNat, 80]
def k0_off339 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v355 : Index := Scalar.indexCast arg9
  let c96 : Index := 96#32
  ![v355.toNat, 96]
def k0_off340 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v373 : Index := Scalar.indexCast arg9
  let c112 : Index := 112#32
  ![v373.toNat, 112]
def k0_off341 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v391 : Index := Scalar.indexCast arg9
  let c128 : Index := 128#32
  ![v391.toNat, 128]
def k0_off342 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v409 : Index := Scalar.indexCast arg9
  let c144 : Index := 144#32
  ![v409.toNat, 144]
def k0_off343 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v427 : Index := Scalar.indexCast arg9
  let c160 : Index := 160#32
  ![v427.toNat, 160]
def k0_off344 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v445 : Index := Scalar.indexCast arg9
  let c176 : Index := 176#32
  ![v445.toNat, 176]
def k0_off345 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v463 : Index := Scalar.indexCast arg9
  let c192 : Index := 192#32
  ![v463.toNat, 192]
def k0_off346 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v481 : Index := Scalar.indexCast arg9
  let c208 : Index := 208#32
  ![v481.toNat, 208]
def k0_off347 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v499 : Index := Scalar.indexCast arg9
  let c224 : Index := 224#32
  ![v499.toNat, 224]
def k0_off348 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v517 : Index := Scalar.indexCast arg9
  let c240 : Index := 240#32
  ![v517.toNat, 240]
def k0_off349 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v535 : Index := Scalar.indexCast arg9
  let c256 : Index := 256#32
  ![v535.toNat, 256]
def k0_off350 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v553 : Index := Scalar.indexCast arg9
  let c272 : Index := 272#32
  ![v553.toNat, 272]
def k0_off351 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v571 : Index := Scalar.indexCast arg9
  let c288 : Index := 288#32
  ![v571.toNat, 288]
def k0_off352 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v589 : Index := Scalar.indexCast arg9
  let c304 : Index := 304#32
  ![v589.toNat, 304]
def k0_off353 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v607 : Index := Scalar.indexCast arg9
  let c320 : Index := 320#32
  ![v607.toNat, 320]
def k0_off354 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v625 : Index := Scalar.indexCast arg9
  let c336 : Index := 336#32
  ![v625.toNat, 336]
def k0_off355 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v643 : Index := Scalar.indexCast arg9
  let c352 : Index := 352#32
  ![v643.toNat, 352]
def k0_off356 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v661 : Index := Scalar.indexCast arg9
  let c368 : Index := 368#32
  ![v661.toNat, 368]
def k0_off357 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v679 : Index := Scalar.indexCast arg9
  let c384 : Index := 384#32
  ![v679.toNat, 384]
def k0_off358 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v697 : Index := Scalar.indexCast arg9
  let c400 : Index := 400#32
  ![v697.toNat, 400]
def k0_off359 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v715 : Index := Scalar.indexCast arg9
  let c416 : Index := 416#32
  ![v715.toNat, 416]
def k0_off360 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v733 : Index := Scalar.indexCast arg9
  let c432 : Index := 432#32
  ![v733.toNat, 432]
def k0_off361 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v751 : Index := Scalar.indexCast arg9
  let c448 : Index := 448#32
  ![v751.toNat, 448]
def k0_off362 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v769 : Index := Scalar.indexCast arg9
  let c464 : Index := 464#32
  ![v769.toNat, 464]
def k0_off363 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v787 : Index := Scalar.indexCast arg9
  let c480 : Index := 480#32
  ![v787.toNat, 480]
def k0_off364 (k0_t11 : Fin k0_t11_loop.trips) : Fin 2 → Nat :=
  let c0_i32_147 : BitVec 32 := 0#32
  let c1_i32_149 : BitVec 32 := 1#32
  let arg9 : BitVec 32 := Scf.iv c0_i32_147 c1_i32_149 k0_t11
  let v805 : Index := Scalar.indexCast arg9
  let c496 : Index := 496#32
  ![v805.toNat, 496]
def k0_off365 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_151 : BitVec 32 := 1#32
  let c256_i32_152 : BitVec 32 := 256#32
  let c0_i32_153 : BitVec 32 := 0#32
  ![v1.toNat, 1, 256, 0]
@[reducible] def k0_t12_loop : Scf.Loop 32 :=
  let c0_i32_161 : BitVec 32 := 0#32
  let c64_i32_162 : BitVec 32 := 64#32
  let v125 : BitVec 32 := Scalar.addi c0_i32_161 c64_i32_162
  let c1_i32_163 : BitVec 32 := 1#32
  ⟨c0_i32_161, v125, c1_i32_163⟩
def k0_off366 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v247 : Index := Scalar.indexCast arg9
  let c0_331 : Index := 0#32
  ![v247.toNat, 0]
def k0_off367 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v265 : Index := Scalar.indexCast arg9
  let c16 : Index := 16#32
  ![v265.toNat, 16]
def k0_off368 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v283 : Index := Scalar.indexCast arg9
  let c32 : Index := 32#32
  ![v283.toNat, 32]
def k0_off369 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v301 : Index := Scalar.indexCast arg9
  let c48 : Index := 48#32
  ![v301.toNat, 48]
def k0_off370 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v319 : Index := Scalar.indexCast arg9
  let c64 : Index := 64#32
  ![v319.toNat, 64]
def k0_off371 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v337 : Index := Scalar.indexCast arg9
  let c80 : Index := 80#32
  ![v337.toNat, 80]
def k0_off372 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v355 : Index := Scalar.indexCast arg9
  let c96 : Index := 96#32
  ![v355.toNat, 96]
def k0_off373 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v373 : Index := Scalar.indexCast arg9
  let c112 : Index := 112#32
  ![v373.toNat, 112]
def k0_off374 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v391 : Index := Scalar.indexCast arg9
  let c128 : Index := 128#32
  ![v391.toNat, 128]
def k0_off375 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v409 : Index := Scalar.indexCast arg9
  let c144 : Index := 144#32
  ![v409.toNat, 144]
def k0_off376 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v427 : Index := Scalar.indexCast arg9
  let c160 : Index := 160#32
  ![v427.toNat, 160]
def k0_off377 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v445 : Index := Scalar.indexCast arg9
  let c176 : Index := 176#32
  ![v445.toNat, 176]
def k0_off378 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v463 : Index := Scalar.indexCast arg9
  let c192 : Index := 192#32
  ![v463.toNat, 192]
def k0_off379 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v481 : Index := Scalar.indexCast arg9
  let c208 : Index := 208#32
  ![v481.toNat, 208]
def k0_off380 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v499 : Index := Scalar.indexCast arg9
  let c224 : Index := 224#32
  ![v499.toNat, 224]
def k0_off381 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v517 : Index := Scalar.indexCast arg9
  let c240 : Index := 240#32
  ![v517.toNat, 240]
def k0_off382 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v535 : Index := Scalar.indexCast arg9
  let c256 : Index := 256#32
  ![v535.toNat, 256]
def k0_off383 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v553 : Index := Scalar.indexCast arg9
  let c272 : Index := 272#32
  ![v553.toNat, 272]
def k0_off384 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v571 : Index := Scalar.indexCast arg9
  let c288 : Index := 288#32
  ![v571.toNat, 288]
def k0_off385 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v589 : Index := Scalar.indexCast arg9
  let c304 : Index := 304#32
  ![v589.toNat, 304]
def k0_off386 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v607 : Index := Scalar.indexCast arg9
  let c320 : Index := 320#32
  ![v607.toNat, 320]
def k0_off387 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v625 : Index := Scalar.indexCast arg9
  let c336 : Index := 336#32
  ![v625.toNat, 336]
def k0_off388 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v643 : Index := Scalar.indexCast arg9
  let c352 : Index := 352#32
  ![v643.toNat, 352]
def k0_off389 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v661 : Index := Scalar.indexCast arg9
  let c368 : Index := 368#32
  ![v661.toNat, 368]
def k0_off390 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v679 : Index := Scalar.indexCast arg9
  let c384 : Index := 384#32
  ![v679.toNat, 384]
def k0_off391 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v697 : Index := Scalar.indexCast arg9
  let c400 : Index := 400#32
  ![v697.toNat, 400]
def k0_off392 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v715 : Index := Scalar.indexCast arg9
  let c416 : Index := 416#32
  ![v715.toNat, 416]
def k0_off393 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v733 : Index := Scalar.indexCast arg9
  let c432 : Index := 432#32
  ![v733.toNat, 432]
def k0_off394 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v751 : Index := Scalar.indexCast arg9
  let c448 : Index := 448#32
  ![v751.toNat, 448]
def k0_off395 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v769 : Index := Scalar.indexCast arg9
  let c464 : Index := 464#32
  ![v769.toNat, 464]
def k0_off396 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v787 : Index := Scalar.indexCast arg9
  let c480 : Index := 480#32
  ![v787.toNat, 480]
def k0_off397 (k0_t12 : Fin k0_t12_loop.trips) : Fin 2 → Nat :=
  let c0_i32_161 : BitVec 32 := 0#32
  let c1_i32_163 : BitVec 32 := 1#32
  let arg9 : BitVec 32 := Scf.iv c0_i32_161 c1_i32_163 k0_t12
  let v805 : Index := Scalar.indexCast arg9
  let c496 : Index := 496#32
  ![v805.toNat, 496]
def k0_off398 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_165 : BitVec 32 := 1#32
  let c320_i32_166 : BitVec 32 := 320#32
  let c0_i32_167 : BitVec 32 := 0#32
  ![v1.toNat, 1, 320, 0]
@[reducible] def k0_t13_loop : Scf.Loop 32 :=
  let c0_i32_175 : BitVec 32 := 0#32
  let c64_i32_176 : BitVec 32 := 64#32
  let v135 : BitVec 32 := Scalar.addi c0_i32_175 c64_i32_176
  let c1_i32_177 : BitVec 32 := 1#32
  ⟨c0_i32_175, v135, c1_i32_177⟩
def k0_off399 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v247 : Index := Scalar.indexCast arg9
  let c0_331 : Index := 0#32
  ![v247.toNat, 0]
def k0_off400 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v265 : Index := Scalar.indexCast arg9
  let c16 : Index := 16#32
  ![v265.toNat, 16]
def k0_off401 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v283 : Index := Scalar.indexCast arg9
  let c32 : Index := 32#32
  ![v283.toNat, 32]
def k0_off402 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v301 : Index := Scalar.indexCast arg9
  let c48 : Index := 48#32
  ![v301.toNat, 48]
def k0_off403 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v319 : Index := Scalar.indexCast arg9
  let c64 : Index := 64#32
  ![v319.toNat, 64]
def k0_off404 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v337 : Index := Scalar.indexCast arg9
  let c80 : Index := 80#32
  ![v337.toNat, 80]
def k0_off405 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v355 : Index := Scalar.indexCast arg9
  let c96 : Index := 96#32
  ![v355.toNat, 96]
def k0_off406 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v373 : Index := Scalar.indexCast arg9
  let c112 : Index := 112#32
  ![v373.toNat, 112]
def k0_off407 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v391 : Index := Scalar.indexCast arg9
  let c128 : Index := 128#32
  ![v391.toNat, 128]
def k0_off408 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v409 : Index := Scalar.indexCast arg9
  let c144 : Index := 144#32
  ![v409.toNat, 144]
def k0_off409 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v427 : Index := Scalar.indexCast arg9
  let c160 : Index := 160#32
  ![v427.toNat, 160]
def k0_off410 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v445 : Index := Scalar.indexCast arg9
  let c176 : Index := 176#32
  ![v445.toNat, 176]
def k0_off411 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v463 : Index := Scalar.indexCast arg9
  let c192 : Index := 192#32
  ![v463.toNat, 192]
def k0_off412 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v481 : Index := Scalar.indexCast arg9
  let c208 : Index := 208#32
  ![v481.toNat, 208]
def k0_off413 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v499 : Index := Scalar.indexCast arg9
  let c224 : Index := 224#32
  ![v499.toNat, 224]
def k0_off414 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v517 : Index := Scalar.indexCast arg9
  let c240 : Index := 240#32
  ![v517.toNat, 240]
def k0_off415 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v535 : Index := Scalar.indexCast arg9
  let c256 : Index := 256#32
  ![v535.toNat, 256]
def k0_off416 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v553 : Index := Scalar.indexCast arg9
  let c272 : Index := 272#32
  ![v553.toNat, 272]
def k0_off417 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v571 : Index := Scalar.indexCast arg9
  let c288 : Index := 288#32
  ![v571.toNat, 288]
def k0_off418 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v589 : Index := Scalar.indexCast arg9
  let c304 : Index := 304#32
  ![v589.toNat, 304]
def k0_off419 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v607 : Index := Scalar.indexCast arg9
  let c320 : Index := 320#32
  ![v607.toNat, 320]
def k0_off420 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v625 : Index := Scalar.indexCast arg9
  let c336 : Index := 336#32
  ![v625.toNat, 336]
def k0_off421 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v643 : Index := Scalar.indexCast arg9
  let c352 : Index := 352#32
  ![v643.toNat, 352]
def k0_off422 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v661 : Index := Scalar.indexCast arg9
  let c368 : Index := 368#32
  ![v661.toNat, 368]
def k0_off423 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v679 : Index := Scalar.indexCast arg9
  let c384 : Index := 384#32
  ![v679.toNat, 384]
def k0_off424 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v697 : Index := Scalar.indexCast arg9
  let c400 : Index := 400#32
  ![v697.toNat, 400]
def k0_off425 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v715 : Index := Scalar.indexCast arg9
  let c416 : Index := 416#32
  ![v715.toNat, 416]
def k0_off426 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v733 : Index := Scalar.indexCast arg9
  let c432 : Index := 432#32
  ![v733.toNat, 432]
def k0_off427 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v751 : Index := Scalar.indexCast arg9
  let c448 : Index := 448#32
  ![v751.toNat, 448]
def k0_off428 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v769 : Index := Scalar.indexCast arg9
  let c464 : Index := 464#32
  ![v769.toNat, 464]
def k0_off429 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v787 : Index := Scalar.indexCast arg9
  let c480 : Index := 480#32
  ![v787.toNat, 480]
def k0_off430 (k0_t13 : Fin k0_t13_loop.trips) : Fin 2 → Nat :=
  let c0_i32_175 : BitVec 32 := 0#32
  let c1_i32_177 : BitVec 32 := 1#32
  let arg9 : BitVec 32 := Scf.iv c0_i32_175 c1_i32_177 k0_t13
  let v805 : Index := Scalar.indexCast arg9
  let c496 : Index := 496#32
  ![v805.toNat, 496]
def k0_off431 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_179 : BitVec 32 := 1#32
  let c384_i32_180 : BitVec 32 := 384#32
  let c0_i32_181 : BitVec 32 := 0#32
  ![v1.toNat, 1, 384, 0]
@[reducible] def k0_t14_loop : Scf.Loop 32 :=
  let c0_i32_189 : BitVec 32 := 0#32
  let c64_i32_190 : BitVec 32 := 64#32
  let v145 : BitVec 32 := Scalar.addi c0_i32_189 c64_i32_190
  let c1_i32_191 : BitVec 32 := 1#32
  ⟨c0_i32_189, v145, c1_i32_191⟩
def k0_off432 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v247 : Index := Scalar.indexCast arg9
  let c0_331 : Index := 0#32
  ![v247.toNat, 0]
def k0_off433 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v265 : Index := Scalar.indexCast arg9
  let c16 : Index := 16#32
  ![v265.toNat, 16]
def k0_off434 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v283 : Index := Scalar.indexCast arg9
  let c32 : Index := 32#32
  ![v283.toNat, 32]
def k0_off435 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v301 : Index := Scalar.indexCast arg9
  let c48 : Index := 48#32
  ![v301.toNat, 48]
def k0_off436 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v319 : Index := Scalar.indexCast arg9
  let c64 : Index := 64#32
  ![v319.toNat, 64]
def k0_off437 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v337 : Index := Scalar.indexCast arg9
  let c80 : Index := 80#32
  ![v337.toNat, 80]
def k0_off438 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v355 : Index := Scalar.indexCast arg9
  let c96 : Index := 96#32
  ![v355.toNat, 96]
def k0_off439 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v373 : Index := Scalar.indexCast arg9
  let c112 : Index := 112#32
  ![v373.toNat, 112]
def k0_off440 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v391 : Index := Scalar.indexCast arg9
  let c128 : Index := 128#32
  ![v391.toNat, 128]
def k0_off441 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v409 : Index := Scalar.indexCast arg9
  let c144 : Index := 144#32
  ![v409.toNat, 144]
def k0_off442 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v427 : Index := Scalar.indexCast arg9
  let c160 : Index := 160#32
  ![v427.toNat, 160]
def k0_off443 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v445 : Index := Scalar.indexCast arg9
  let c176 : Index := 176#32
  ![v445.toNat, 176]
def k0_off444 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v463 : Index := Scalar.indexCast arg9
  let c192 : Index := 192#32
  ![v463.toNat, 192]
def k0_off445 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v481 : Index := Scalar.indexCast arg9
  let c208 : Index := 208#32
  ![v481.toNat, 208]
def k0_off446 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v499 : Index := Scalar.indexCast arg9
  let c224 : Index := 224#32
  ![v499.toNat, 224]
def k0_off447 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v517 : Index := Scalar.indexCast arg9
  let c240 : Index := 240#32
  ![v517.toNat, 240]
def k0_off448 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v535 : Index := Scalar.indexCast arg9
  let c256 : Index := 256#32
  ![v535.toNat, 256]
def k0_off449 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v553 : Index := Scalar.indexCast arg9
  let c272 : Index := 272#32
  ![v553.toNat, 272]
def k0_off450 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v571 : Index := Scalar.indexCast arg9
  let c288 : Index := 288#32
  ![v571.toNat, 288]
def k0_off451 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v589 : Index := Scalar.indexCast arg9
  let c304 : Index := 304#32
  ![v589.toNat, 304]
def k0_off452 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v607 : Index := Scalar.indexCast arg9
  let c320 : Index := 320#32
  ![v607.toNat, 320]
def k0_off453 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v625 : Index := Scalar.indexCast arg9
  let c336 : Index := 336#32
  ![v625.toNat, 336]
def k0_off454 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v643 : Index := Scalar.indexCast arg9
  let c352 : Index := 352#32
  ![v643.toNat, 352]
def k0_off455 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v661 : Index := Scalar.indexCast arg9
  let c368 : Index := 368#32
  ![v661.toNat, 368]
def k0_off456 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v679 : Index := Scalar.indexCast arg9
  let c384 : Index := 384#32
  ![v679.toNat, 384]
def k0_off457 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v697 : Index := Scalar.indexCast arg9
  let c400 : Index := 400#32
  ![v697.toNat, 400]
def k0_off458 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v715 : Index := Scalar.indexCast arg9
  let c416 : Index := 416#32
  ![v715.toNat, 416]
def k0_off459 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v733 : Index := Scalar.indexCast arg9
  let c432 : Index := 432#32
  ![v733.toNat, 432]
def k0_off460 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v751 : Index := Scalar.indexCast arg9
  let c448 : Index := 448#32
  ![v751.toNat, 448]
def k0_off461 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v769 : Index := Scalar.indexCast arg9
  let c464 : Index := 464#32
  ![v769.toNat, 464]
def k0_off462 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v787 : Index := Scalar.indexCast arg9
  let c480 : Index := 480#32
  ![v787.toNat, 480]
def k0_off463 (k0_t14 : Fin k0_t14_loop.trips) : Fin 2 → Nat :=
  let c0_i32_189 : BitVec 32 := 0#32
  let c1_i32_191 : BitVec 32 := 1#32
  let arg9 : BitVec 32 := Scf.iv c0_i32_189 c1_i32_191 k0_t14
  let v805 : Index := Scalar.indexCast arg9
  let c496 : Index := 496#32
  ![v805.toNat, 496]
def k0_off464 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_193 : BitVec 32 := 1#32
  let c448_i32_194 : BitVec 32 := 448#32
  let c0_i32_195 : BitVec 32 := 0#32
  ![v1.toNat, 1, 448, 0]
@[reducible] def k0_t15_loop : Scf.Loop 32 :=
  let c0_i32_203 : BitVec 32 := 0#32
  let c64_i32_204 : BitVec 32 := 64#32
  let v155 : BitVec 32 := Scalar.addi c0_i32_203 c64_i32_204
  let c1_i32_205 : BitVec 32 := 1#32
  ⟨c0_i32_203, v155, c1_i32_205⟩
def k0_off465 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v247 : Index := Scalar.indexCast arg9
  let c0_331 : Index := 0#32
  ![v247.toNat, 0]
def k0_off466 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v265 : Index := Scalar.indexCast arg9
  let c16 : Index := 16#32
  ![v265.toNat, 16]
def k0_off467 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v283 : Index := Scalar.indexCast arg9
  let c32 : Index := 32#32
  ![v283.toNat, 32]
def k0_off468 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v301 : Index := Scalar.indexCast arg9
  let c48 : Index := 48#32
  ![v301.toNat, 48]
def k0_off469 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v319 : Index := Scalar.indexCast arg9
  let c64 : Index := 64#32
  ![v319.toNat, 64]
def k0_off470 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v337 : Index := Scalar.indexCast arg9
  let c80 : Index := 80#32
  ![v337.toNat, 80]
def k0_off471 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v355 : Index := Scalar.indexCast arg9
  let c96 : Index := 96#32
  ![v355.toNat, 96]
def k0_off472 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v373 : Index := Scalar.indexCast arg9
  let c112 : Index := 112#32
  ![v373.toNat, 112]
def k0_off473 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v391 : Index := Scalar.indexCast arg9
  let c128 : Index := 128#32
  ![v391.toNat, 128]
def k0_off474 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v409 : Index := Scalar.indexCast arg9
  let c144 : Index := 144#32
  ![v409.toNat, 144]
def k0_off475 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v427 : Index := Scalar.indexCast arg9
  let c160 : Index := 160#32
  ![v427.toNat, 160]
def k0_off476 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v445 : Index := Scalar.indexCast arg9
  let c176 : Index := 176#32
  ![v445.toNat, 176]
def k0_off477 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v463 : Index := Scalar.indexCast arg9
  let c192 : Index := 192#32
  ![v463.toNat, 192]
def k0_off478 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v481 : Index := Scalar.indexCast arg9
  let c208 : Index := 208#32
  ![v481.toNat, 208]
def k0_off479 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v499 : Index := Scalar.indexCast arg9
  let c224 : Index := 224#32
  ![v499.toNat, 224]
def k0_off480 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v517 : Index := Scalar.indexCast arg9
  let c240 : Index := 240#32
  ![v517.toNat, 240]
def k0_off481 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v535 : Index := Scalar.indexCast arg9
  let c256 : Index := 256#32
  ![v535.toNat, 256]
def k0_off482 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v553 : Index := Scalar.indexCast arg9
  let c272 : Index := 272#32
  ![v553.toNat, 272]
def k0_off483 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v571 : Index := Scalar.indexCast arg9
  let c288 : Index := 288#32
  ![v571.toNat, 288]
def k0_off484 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v589 : Index := Scalar.indexCast arg9
  let c304 : Index := 304#32
  ![v589.toNat, 304]
def k0_off485 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v607 : Index := Scalar.indexCast arg9
  let c320 : Index := 320#32
  ![v607.toNat, 320]
def k0_off486 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v625 : Index := Scalar.indexCast arg9
  let c336 : Index := 336#32
  ![v625.toNat, 336]
def k0_off487 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v643 : Index := Scalar.indexCast arg9
  let c352 : Index := 352#32
  ![v643.toNat, 352]
def k0_off488 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v661 : Index := Scalar.indexCast arg9
  let c368 : Index := 368#32
  ![v661.toNat, 368]
def k0_off489 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v679 : Index := Scalar.indexCast arg9
  let c384 : Index := 384#32
  ![v679.toNat, 384]
def k0_off490 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v697 : Index := Scalar.indexCast arg9
  let c400 : Index := 400#32
  ![v697.toNat, 400]
def k0_off491 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v715 : Index := Scalar.indexCast arg9
  let c416 : Index := 416#32
  ![v715.toNat, 416]
def k0_off492 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v733 : Index := Scalar.indexCast arg9
  let c432 : Index := 432#32
  ![v733.toNat, 432]
def k0_off493 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v751 : Index := Scalar.indexCast arg9
  let c448 : Index := 448#32
  ![v751.toNat, 448]
def k0_off494 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v769 : Index := Scalar.indexCast arg9
  let c464 : Index := 464#32
  ![v769.toNat, 464]
def k0_off495 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v787 : Index := Scalar.indexCast arg9
  let c480 : Index := 480#32
  ![v787.toNat, 480]
def k0_off496 (k0_t15 : Fin k0_t15_loop.trips) : Fin 2 → Nat :=
  let c0_i32_203 : BitVec 32 := 0#32
  let c1_i32_205 : BitVec 32 := 1#32
  let arg9 : BitVec 32 := Scf.iv c0_i32_203 c1_i32_205 k0_t15
  let v805 : Index := Scalar.indexCast arg9
  let c496 : Index := 496#32
  ![v805.toNat, 496]
def k0_off497 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_207 : BitVec 32 := 2#32
  let c0_i32_208 : BitVec 32 := 0#32
  let c0_i32_209 : BitVec 32 := 0#32
  ![v1.toNat, 2, 0, 0]
@[reducible] def k0_t16_loop : Scf.Loop 32 :=
  let c0_i32_217 : BitVec 32 := 0#32
  let c64_i32_218 : BitVec 32 := 64#32
  let v165 : BitVec 32 := Scalar.addi c0_i32_217 c64_i32_218
  let c1_i32_219 : BitVec 32 := 1#32
  ⟨c0_i32_217, v165, c1_i32_219⟩
def k0_off498 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v247 : Index := Scalar.indexCast arg9
  let c0_331 : Index := 0#32
  ![v247.toNat, 0]
def k0_off499 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v265 : Index := Scalar.indexCast arg9
  let c16 : Index := 16#32
  ![v265.toNat, 16]
def k0_off500 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v283 : Index := Scalar.indexCast arg9
  let c32 : Index := 32#32
  ![v283.toNat, 32]
def k0_off501 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v301 : Index := Scalar.indexCast arg9
  let c48 : Index := 48#32
  ![v301.toNat, 48]
def k0_off502 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v319 : Index := Scalar.indexCast arg9
  let c64 : Index := 64#32
  ![v319.toNat, 64]
def k0_off503 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v337 : Index := Scalar.indexCast arg9
  let c80 : Index := 80#32
  ![v337.toNat, 80]
def k0_off504 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v355 : Index := Scalar.indexCast arg9
  let c96 : Index := 96#32
  ![v355.toNat, 96]
def k0_off505 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v373 : Index := Scalar.indexCast arg9
  let c112 : Index := 112#32
  ![v373.toNat, 112]
def k0_off506 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v391 : Index := Scalar.indexCast arg9
  let c128 : Index := 128#32
  ![v391.toNat, 128]
def k0_off507 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v409 : Index := Scalar.indexCast arg9
  let c144 : Index := 144#32
  ![v409.toNat, 144]
def k0_off508 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v427 : Index := Scalar.indexCast arg9
  let c160 : Index := 160#32
  ![v427.toNat, 160]
def k0_off509 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v445 : Index := Scalar.indexCast arg9
  let c176 : Index := 176#32
  ![v445.toNat, 176]
def k0_off510 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v463 : Index := Scalar.indexCast arg9
  let c192 : Index := 192#32
  ![v463.toNat, 192]
def k0_off511 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v481 : Index := Scalar.indexCast arg9
  let c208 : Index := 208#32
  ![v481.toNat, 208]
def k0_off512 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v499 : Index := Scalar.indexCast arg9
  let c224 : Index := 224#32
  ![v499.toNat, 224]
def k0_off513 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v517 : Index := Scalar.indexCast arg9
  let c240 : Index := 240#32
  ![v517.toNat, 240]
def k0_off514 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v535 : Index := Scalar.indexCast arg9
  let c256 : Index := 256#32
  ![v535.toNat, 256]
def k0_off515 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v553 : Index := Scalar.indexCast arg9
  let c272 : Index := 272#32
  ![v553.toNat, 272]
def k0_off516 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v571 : Index := Scalar.indexCast arg9
  let c288 : Index := 288#32
  ![v571.toNat, 288]
def k0_off517 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v589 : Index := Scalar.indexCast arg9
  let c304 : Index := 304#32
  ![v589.toNat, 304]
def k0_off518 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v607 : Index := Scalar.indexCast arg9
  let c320 : Index := 320#32
  ![v607.toNat, 320]
def k0_off519 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v625 : Index := Scalar.indexCast arg9
  let c336 : Index := 336#32
  ![v625.toNat, 336]
def k0_off520 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v643 : Index := Scalar.indexCast arg9
  let c352 : Index := 352#32
  ![v643.toNat, 352]
def k0_off521 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v661 : Index := Scalar.indexCast arg9
  let c368 : Index := 368#32
  ![v661.toNat, 368]
def k0_off522 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v679 : Index := Scalar.indexCast arg9
  let c384 : Index := 384#32
  ![v679.toNat, 384]
def k0_off523 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v697 : Index := Scalar.indexCast arg9
  let c400 : Index := 400#32
  ![v697.toNat, 400]
def k0_off524 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v715 : Index := Scalar.indexCast arg9
  let c416 : Index := 416#32
  ![v715.toNat, 416]
def k0_off525 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v733 : Index := Scalar.indexCast arg9
  let c432 : Index := 432#32
  ![v733.toNat, 432]
def k0_off526 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v751 : Index := Scalar.indexCast arg9
  let c448 : Index := 448#32
  ![v751.toNat, 448]
def k0_off527 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v769 : Index := Scalar.indexCast arg9
  let c464 : Index := 464#32
  ![v769.toNat, 464]
def k0_off528 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v787 : Index := Scalar.indexCast arg9
  let c480 : Index := 480#32
  ![v787.toNat, 480]
def k0_off529 (k0_t16 : Fin k0_t16_loop.trips) : Fin 2 → Nat :=
  let c0_i32_217 : BitVec 32 := 0#32
  let c1_i32_219 : BitVec 32 := 1#32
  let arg9 : BitVec 32 := Scf.iv c0_i32_217 c1_i32_219 k0_t16
  let v805 : Index := Scalar.indexCast arg9
  let c496 : Index := 496#32
  ![v805.toNat, 496]
def k0_off530 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_221 : BitVec 32 := 2#32
  let c64_i32_222 : BitVec 32 := 64#32
  let c0_i32_223 : BitVec 32 := 0#32
  ![v1.toNat, 2, 64, 0]
@[reducible] def k0_t17_loop : Scf.Loop 32 :=
  let c0_i32_231 : BitVec 32 := 0#32
  let c64_i32_232 : BitVec 32 := 64#32
  let v175 : BitVec 32 := Scalar.addi c0_i32_231 c64_i32_232
  let c1_i32_233 : BitVec 32 := 1#32
  ⟨c0_i32_231, v175, c1_i32_233⟩
def k0_off531 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v247 : Index := Scalar.indexCast arg9
  let c0_331 : Index := 0#32
  ![v247.toNat, 0]
def k0_off532 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v265 : Index := Scalar.indexCast arg9
  let c16 : Index := 16#32
  ![v265.toNat, 16]
def k0_off533 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v283 : Index := Scalar.indexCast arg9
  let c32 : Index := 32#32
  ![v283.toNat, 32]
def k0_off534 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v301 : Index := Scalar.indexCast arg9
  let c48 : Index := 48#32
  ![v301.toNat, 48]
def k0_off535 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v319 : Index := Scalar.indexCast arg9
  let c64 : Index := 64#32
  ![v319.toNat, 64]
def k0_off536 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v337 : Index := Scalar.indexCast arg9
  let c80 : Index := 80#32
  ![v337.toNat, 80]
def k0_off537 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v355 : Index := Scalar.indexCast arg9
  let c96 : Index := 96#32
  ![v355.toNat, 96]
def k0_off538 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v373 : Index := Scalar.indexCast arg9
  let c112 : Index := 112#32
  ![v373.toNat, 112]
def k0_off539 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v391 : Index := Scalar.indexCast arg9
  let c128 : Index := 128#32
  ![v391.toNat, 128]
def k0_off540 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v409 : Index := Scalar.indexCast arg9
  let c144 : Index := 144#32
  ![v409.toNat, 144]
def k0_off541 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v427 : Index := Scalar.indexCast arg9
  let c160 : Index := 160#32
  ![v427.toNat, 160]
def k0_off542 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v445 : Index := Scalar.indexCast arg9
  let c176 : Index := 176#32
  ![v445.toNat, 176]
def k0_off543 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v463 : Index := Scalar.indexCast arg9
  let c192 : Index := 192#32
  ![v463.toNat, 192]
def k0_off544 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v481 : Index := Scalar.indexCast arg9
  let c208 : Index := 208#32
  ![v481.toNat, 208]
def k0_off545 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v499 : Index := Scalar.indexCast arg9
  let c224 : Index := 224#32
  ![v499.toNat, 224]
def k0_off546 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v517 : Index := Scalar.indexCast arg9
  let c240 : Index := 240#32
  ![v517.toNat, 240]
def k0_off547 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v535 : Index := Scalar.indexCast arg9
  let c256 : Index := 256#32
  ![v535.toNat, 256]
def k0_off548 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v553 : Index := Scalar.indexCast arg9
  let c272 : Index := 272#32
  ![v553.toNat, 272]
def k0_off549 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v571 : Index := Scalar.indexCast arg9
  let c288 : Index := 288#32
  ![v571.toNat, 288]
def k0_off550 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v589 : Index := Scalar.indexCast arg9
  let c304 : Index := 304#32
  ![v589.toNat, 304]
def k0_off551 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v607 : Index := Scalar.indexCast arg9
  let c320 : Index := 320#32
  ![v607.toNat, 320]
def k0_off552 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v625 : Index := Scalar.indexCast arg9
  let c336 : Index := 336#32
  ![v625.toNat, 336]
def k0_off553 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v643 : Index := Scalar.indexCast arg9
  let c352 : Index := 352#32
  ![v643.toNat, 352]
def k0_off554 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v661 : Index := Scalar.indexCast arg9
  let c368 : Index := 368#32
  ![v661.toNat, 368]
def k0_off555 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v679 : Index := Scalar.indexCast arg9
  let c384 : Index := 384#32
  ![v679.toNat, 384]
def k0_off556 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v697 : Index := Scalar.indexCast arg9
  let c400 : Index := 400#32
  ![v697.toNat, 400]
def k0_off557 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v715 : Index := Scalar.indexCast arg9
  let c416 : Index := 416#32
  ![v715.toNat, 416]
def k0_off558 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v733 : Index := Scalar.indexCast arg9
  let c432 : Index := 432#32
  ![v733.toNat, 432]
def k0_off559 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v751 : Index := Scalar.indexCast arg9
  let c448 : Index := 448#32
  ![v751.toNat, 448]
def k0_off560 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v769 : Index := Scalar.indexCast arg9
  let c464 : Index := 464#32
  ![v769.toNat, 464]
def k0_off561 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v787 : Index := Scalar.indexCast arg9
  let c480 : Index := 480#32
  ![v787.toNat, 480]
def k0_off562 (k0_t17 : Fin k0_t17_loop.trips) : Fin 2 → Nat :=
  let c0_i32_231 : BitVec 32 := 0#32
  let c1_i32_233 : BitVec 32 := 1#32
  let arg9 : BitVec 32 := Scf.iv c0_i32_231 c1_i32_233 k0_t17
  let v805 : Index := Scalar.indexCast arg9
  let c496 : Index := 496#32
  ![v805.toNat, 496]
def k0_off563 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_235 : BitVec 32 := 2#32
  let c128_i32_236 : BitVec 32 := 128#32
  let c0_i32_237 : BitVec 32 := 0#32
  ![v1.toNat, 2, 128, 0]
@[reducible] def k0_t18_loop : Scf.Loop 32 :=
  let c0_i32_245 : BitVec 32 := 0#32
  let c64_i32_246 : BitVec 32 := 64#32
  let v185 : BitVec 32 := Scalar.addi c0_i32_245 c64_i32_246
  let c1_i32_247 : BitVec 32 := 1#32
  ⟨c0_i32_245, v185, c1_i32_247⟩
def k0_off564 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v247 : Index := Scalar.indexCast arg9
  let c0_331 : Index := 0#32
  ![v247.toNat, 0]
def k0_off565 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v265 : Index := Scalar.indexCast arg9
  let c16 : Index := 16#32
  ![v265.toNat, 16]
def k0_off566 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v283 : Index := Scalar.indexCast arg9
  let c32 : Index := 32#32
  ![v283.toNat, 32]
def k0_off567 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v301 : Index := Scalar.indexCast arg9
  let c48 : Index := 48#32
  ![v301.toNat, 48]
def k0_off568 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v319 : Index := Scalar.indexCast arg9
  let c64 : Index := 64#32
  ![v319.toNat, 64]
def k0_off569 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v337 : Index := Scalar.indexCast arg9
  let c80 : Index := 80#32
  ![v337.toNat, 80]
def k0_off570 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v355 : Index := Scalar.indexCast arg9
  let c96 : Index := 96#32
  ![v355.toNat, 96]
def k0_off571 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v373 : Index := Scalar.indexCast arg9
  let c112 : Index := 112#32
  ![v373.toNat, 112]
def k0_off572 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v391 : Index := Scalar.indexCast arg9
  let c128 : Index := 128#32
  ![v391.toNat, 128]
def k0_off573 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v409 : Index := Scalar.indexCast arg9
  let c144 : Index := 144#32
  ![v409.toNat, 144]
def k0_off574 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v427 : Index := Scalar.indexCast arg9
  let c160 : Index := 160#32
  ![v427.toNat, 160]
def k0_off575 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v445 : Index := Scalar.indexCast arg9
  let c176 : Index := 176#32
  ![v445.toNat, 176]
def k0_off576 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v463 : Index := Scalar.indexCast arg9
  let c192 : Index := 192#32
  ![v463.toNat, 192]
def k0_off577 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v481 : Index := Scalar.indexCast arg9
  let c208 : Index := 208#32
  ![v481.toNat, 208]
def k0_off578 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v499 : Index := Scalar.indexCast arg9
  let c224 : Index := 224#32
  ![v499.toNat, 224]
def k0_off579 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v517 : Index := Scalar.indexCast arg9
  let c240 : Index := 240#32
  ![v517.toNat, 240]
def k0_off580 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v535 : Index := Scalar.indexCast arg9
  let c256 : Index := 256#32
  ![v535.toNat, 256]
def k0_off581 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v553 : Index := Scalar.indexCast arg9
  let c272 : Index := 272#32
  ![v553.toNat, 272]
def k0_off582 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v571 : Index := Scalar.indexCast arg9
  let c288 : Index := 288#32
  ![v571.toNat, 288]
def k0_off583 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v589 : Index := Scalar.indexCast arg9
  let c304 : Index := 304#32
  ![v589.toNat, 304]
def k0_off584 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v607 : Index := Scalar.indexCast arg9
  let c320 : Index := 320#32
  ![v607.toNat, 320]
def k0_off585 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v625 : Index := Scalar.indexCast arg9
  let c336 : Index := 336#32
  ![v625.toNat, 336]
def k0_off586 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v643 : Index := Scalar.indexCast arg9
  let c352 : Index := 352#32
  ![v643.toNat, 352]
def k0_off587 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v661 : Index := Scalar.indexCast arg9
  let c368 : Index := 368#32
  ![v661.toNat, 368]
def k0_off588 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v679 : Index := Scalar.indexCast arg9
  let c384 : Index := 384#32
  ![v679.toNat, 384]
def k0_off589 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v697 : Index := Scalar.indexCast arg9
  let c400 : Index := 400#32
  ![v697.toNat, 400]
def k0_off590 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v715 : Index := Scalar.indexCast arg9
  let c416 : Index := 416#32
  ![v715.toNat, 416]
def k0_off591 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v733 : Index := Scalar.indexCast arg9
  let c432 : Index := 432#32
  ![v733.toNat, 432]
def k0_off592 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v751 : Index := Scalar.indexCast arg9
  let c448 : Index := 448#32
  ![v751.toNat, 448]
def k0_off593 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v769 : Index := Scalar.indexCast arg9
  let c464 : Index := 464#32
  ![v769.toNat, 464]
def k0_off594 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v787 : Index := Scalar.indexCast arg9
  let c480 : Index := 480#32
  ![v787.toNat, 480]
def k0_off595 (k0_t18 : Fin k0_t18_loop.trips) : Fin 2 → Nat :=
  let c0_i32_245 : BitVec 32 := 0#32
  let c1_i32_247 : BitVec 32 := 1#32
  let arg9 : BitVec 32 := Scf.iv c0_i32_245 c1_i32_247 k0_t18
  let v805 : Index := Scalar.indexCast arg9
  let c496 : Index := 496#32
  ![v805.toNat, 496]
def k0_off596 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_249 : BitVec 32 := 2#32
  let c192_i32_250 : BitVec 32 := 192#32
  let c0_i32_251 : BitVec 32 := 0#32
  ![v1.toNat, 2, 192, 0]
@[reducible] def k0_t19_loop : Scf.Loop 32 :=
  let c0_i32_259 : BitVec 32 := 0#32
  let c64_i32_260 : BitVec 32 := 64#32
  let v195 : BitVec 32 := Scalar.addi c0_i32_259 c64_i32_260
  let c1_i32_261 : BitVec 32 := 1#32
  ⟨c0_i32_259, v195, c1_i32_261⟩
def k0_off597 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v247 : Index := Scalar.indexCast arg9
  let c0_331 : Index := 0#32
  ![v247.toNat, 0]
def k0_off598 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v265 : Index := Scalar.indexCast arg9
  let c16 : Index := 16#32
  ![v265.toNat, 16]
def k0_off599 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v283 : Index := Scalar.indexCast arg9
  let c32 : Index := 32#32
  ![v283.toNat, 32]
def k0_off600 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v301 : Index := Scalar.indexCast arg9
  let c48 : Index := 48#32
  ![v301.toNat, 48]
def k0_off601 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v319 : Index := Scalar.indexCast arg9
  let c64 : Index := 64#32
  ![v319.toNat, 64]
def k0_off602 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v337 : Index := Scalar.indexCast arg9
  let c80 : Index := 80#32
  ![v337.toNat, 80]
def k0_off603 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v355 : Index := Scalar.indexCast arg9
  let c96 : Index := 96#32
  ![v355.toNat, 96]
def k0_off604 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v373 : Index := Scalar.indexCast arg9
  let c112 : Index := 112#32
  ![v373.toNat, 112]
def k0_off605 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v391 : Index := Scalar.indexCast arg9
  let c128 : Index := 128#32
  ![v391.toNat, 128]
def k0_off606 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v409 : Index := Scalar.indexCast arg9
  let c144 : Index := 144#32
  ![v409.toNat, 144]
def k0_off607 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v427 : Index := Scalar.indexCast arg9
  let c160 : Index := 160#32
  ![v427.toNat, 160]
def k0_off608 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v445 : Index := Scalar.indexCast arg9
  let c176 : Index := 176#32
  ![v445.toNat, 176]
def k0_off609 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v463 : Index := Scalar.indexCast arg9
  let c192 : Index := 192#32
  ![v463.toNat, 192]
def k0_off610 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v481 : Index := Scalar.indexCast arg9
  let c208 : Index := 208#32
  ![v481.toNat, 208]
def k0_off611 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v499 : Index := Scalar.indexCast arg9
  let c224 : Index := 224#32
  ![v499.toNat, 224]
def k0_off612 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v517 : Index := Scalar.indexCast arg9
  let c240 : Index := 240#32
  ![v517.toNat, 240]
def k0_off613 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v535 : Index := Scalar.indexCast arg9
  let c256 : Index := 256#32
  ![v535.toNat, 256]
def k0_off614 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v553 : Index := Scalar.indexCast arg9
  let c272 : Index := 272#32
  ![v553.toNat, 272]
def k0_off615 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v571 : Index := Scalar.indexCast arg9
  let c288 : Index := 288#32
  ![v571.toNat, 288]
def k0_off616 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v589 : Index := Scalar.indexCast arg9
  let c304 : Index := 304#32
  ![v589.toNat, 304]
def k0_off617 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v607 : Index := Scalar.indexCast arg9
  let c320 : Index := 320#32
  ![v607.toNat, 320]
def k0_off618 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v625 : Index := Scalar.indexCast arg9
  let c336 : Index := 336#32
  ![v625.toNat, 336]
def k0_off619 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v643 : Index := Scalar.indexCast arg9
  let c352 : Index := 352#32
  ![v643.toNat, 352]
def k0_off620 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v661 : Index := Scalar.indexCast arg9
  let c368 : Index := 368#32
  ![v661.toNat, 368]
def k0_off621 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v679 : Index := Scalar.indexCast arg9
  let c384 : Index := 384#32
  ![v679.toNat, 384]
def k0_off622 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v697 : Index := Scalar.indexCast arg9
  let c400 : Index := 400#32
  ![v697.toNat, 400]
def k0_off623 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v715 : Index := Scalar.indexCast arg9
  let c416 : Index := 416#32
  ![v715.toNat, 416]
def k0_off624 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v733 : Index := Scalar.indexCast arg9
  let c432 : Index := 432#32
  ![v733.toNat, 432]
def k0_off625 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v751 : Index := Scalar.indexCast arg9
  let c448 : Index := 448#32
  ![v751.toNat, 448]
def k0_off626 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v769 : Index := Scalar.indexCast arg9
  let c464 : Index := 464#32
  ![v769.toNat, 464]
def k0_off627 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v787 : Index := Scalar.indexCast arg9
  let c480 : Index := 480#32
  ![v787.toNat, 480]
def k0_off628 (k0_t19 : Fin k0_t19_loop.trips) : Fin 2 → Nat :=
  let c0_i32_259 : BitVec 32 := 0#32
  let c1_i32_261 : BitVec 32 := 1#32
  let arg9 : BitVec 32 := Scf.iv c0_i32_259 c1_i32_261 k0_t19
  let v805 : Index := Scalar.indexCast arg9
  let c496 : Index := 496#32
  ![v805.toNat, 496]
def k0_off629 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_263 : BitVec 32 := 2#32
  let c256_i32_264 : BitVec 32 := 256#32
  let c0_i32_265 : BitVec 32 := 0#32
  ![v1.toNat, 2, 256, 0]
@[reducible] def k0_t20_loop : Scf.Loop 32 :=
  let c0_i32_273 : BitVec 32 := 0#32
  let c64_i32_274 : BitVec 32 := 64#32
  let v205 : BitVec 32 := Scalar.addi c0_i32_273 c64_i32_274
  let c1_i32_275 : BitVec 32 := 1#32
  ⟨c0_i32_273, v205, c1_i32_275⟩
def k0_off630 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v247 : Index := Scalar.indexCast arg9
  let c0_331 : Index := 0#32
  ![v247.toNat, 0]
def k0_off631 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v265 : Index := Scalar.indexCast arg9
  let c16 : Index := 16#32
  ![v265.toNat, 16]
def k0_off632 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v283 : Index := Scalar.indexCast arg9
  let c32 : Index := 32#32
  ![v283.toNat, 32]
def k0_off633 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v301 : Index := Scalar.indexCast arg9
  let c48 : Index := 48#32
  ![v301.toNat, 48]
def k0_off634 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v319 : Index := Scalar.indexCast arg9
  let c64 : Index := 64#32
  ![v319.toNat, 64]
def k0_off635 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v337 : Index := Scalar.indexCast arg9
  let c80 : Index := 80#32
  ![v337.toNat, 80]
def k0_off636 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v355 : Index := Scalar.indexCast arg9
  let c96 : Index := 96#32
  ![v355.toNat, 96]
def k0_off637 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v373 : Index := Scalar.indexCast arg9
  let c112 : Index := 112#32
  ![v373.toNat, 112]
def k0_off638 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v391 : Index := Scalar.indexCast arg9
  let c128 : Index := 128#32
  ![v391.toNat, 128]
def k0_off639 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v409 : Index := Scalar.indexCast arg9
  let c144 : Index := 144#32
  ![v409.toNat, 144]
def k0_off640 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v427 : Index := Scalar.indexCast arg9
  let c160 : Index := 160#32
  ![v427.toNat, 160]
def k0_off641 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v445 : Index := Scalar.indexCast arg9
  let c176 : Index := 176#32
  ![v445.toNat, 176]
def k0_off642 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v463 : Index := Scalar.indexCast arg9
  let c192 : Index := 192#32
  ![v463.toNat, 192]
def k0_off643 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v481 : Index := Scalar.indexCast arg9
  let c208 : Index := 208#32
  ![v481.toNat, 208]
def k0_off644 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v499 : Index := Scalar.indexCast arg9
  let c224 : Index := 224#32
  ![v499.toNat, 224]
def k0_off645 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v517 : Index := Scalar.indexCast arg9
  let c240 : Index := 240#32
  ![v517.toNat, 240]
def k0_off646 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v535 : Index := Scalar.indexCast arg9
  let c256 : Index := 256#32
  ![v535.toNat, 256]
def k0_off647 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v553 : Index := Scalar.indexCast arg9
  let c272 : Index := 272#32
  ![v553.toNat, 272]
def k0_off648 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v571 : Index := Scalar.indexCast arg9
  let c288 : Index := 288#32
  ![v571.toNat, 288]
def k0_off649 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v589 : Index := Scalar.indexCast arg9
  let c304 : Index := 304#32
  ![v589.toNat, 304]
def k0_off650 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v607 : Index := Scalar.indexCast arg9
  let c320 : Index := 320#32
  ![v607.toNat, 320]
def k0_off651 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v625 : Index := Scalar.indexCast arg9
  let c336 : Index := 336#32
  ![v625.toNat, 336]
def k0_off652 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v643 : Index := Scalar.indexCast arg9
  let c352 : Index := 352#32
  ![v643.toNat, 352]
def k0_off653 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v661 : Index := Scalar.indexCast arg9
  let c368 : Index := 368#32
  ![v661.toNat, 368]
def k0_off654 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v679 : Index := Scalar.indexCast arg9
  let c384 : Index := 384#32
  ![v679.toNat, 384]
def k0_off655 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v697 : Index := Scalar.indexCast arg9
  let c400 : Index := 400#32
  ![v697.toNat, 400]
def k0_off656 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v715 : Index := Scalar.indexCast arg9
  let c416 : Index := 416#32
  ![v715.toNat, 416]
def k0_off657 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v733 : Index := Scalar.indexCast arg9
  let c432 : Index := 432#32
  ![v733.toNat, 432]
def k0_off658 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v751 : Index := Scalar.indexCast arg9
  let c448 : Index := 448#32
  ![v751.toNat, 448]
def k0_off659 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v769 : Index := Scalar.indexCast arg9
  let c464 : Index := 464#32
  ![v769.toNat, 464]
def k0_off660 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v787 : Index := Scalar.indexCast arg9
  let c480 : Index := 480#32
  ![v787.toNat, 480]
def k0_off661 (k0_t20 : Fin k0_t20_loop.trips) : Fin 2 → Nat :=
  let c0_i32_273 : BitVec 32 := 0#32
  let c1_i32_275 : BitVec 32 := 1#32
  let arg9 : BitVec 32 := Scf.iv c0_i32_273 c1_i32_275 k0_t20
  let v805 : Index := Scalar.indexCast arg9
  let c496 : Index := 496#32
  ![v805.toNat, 496]
def k0_off662 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c320_i32_278 : BitVec 32 := 320#32
  let c0_i32_279 : BitVec 32 := 0#32
  ![v1.toNat, 2, 320, 0]
@[reducible] def k0_t21_loop : Scf.Loop 32 :=
  let c0_i32_287 : BitVec 32 := 0#32
  let c64_i32_288 : BitVec 32 := 64#32
  let v215 : BitVec 32 := Scalar.addi c0_i32_287 c64_i32_288
  let c1_i32_289 : BitVec 32 := 1#32
  ⟨c0_i32_287, v215, c1_i32_289⟩
def k0_off663 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v247 : Index := Scalar.indexCast arg9
  let c0_331 : Index := 0#32
  ![v247.toNat, 0]
def k0_off664 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v265 : Index := Scalar.indexCast arg9
  let c16 : Index := 16#32
  ![v265.toNat, 16]
def k0_off665 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v283 : Index := Scalar.indexCast arg9
  let c32 : Index := 32#32
  ![v283.toNat, 32]
def k0_off666 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v301 : Index := Scalar.indexCast arg9
  let c48 : Index := 48#32
  ![v301.toNat, 48]
def k0_off667 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v319 : Index := Scalar.indexCast arg9
  let c64 : Index := 64#32
  ![v319.toNat, 64]
def k0_off668 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v337 : Index := Scalar.indexCast arg9
  let c80 : Index := 80#32
  ![v337.toNat, 80]
def k0_off669 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v355 : Index := Scalar.indexCast arg9
  let c96 : Index := 96#32
  ![v355.toNat, 96]
def k0_off670 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v373 : Index := Scalar.indexCast arg9
  let c112 : Index := 112#32
  ![v373.toNat, 112]
def k0_off671 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v391 : Index := Scalar.indexCast arg9
  let c128 : Index := 128#32
  ![v391.toNat, 128]
def k0_off672 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v409 : Index := Scalar.indexCast arg9
  let c144 : Index := 144#32
  ![v409.toNat, 144]
def k0_off673 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v427 : Index := Scalar.indexCast arg9
  let c160 : Index := 160#32
  ![v427.toNat, 160]
def k0_off674 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v445 : Index := Scalar.indexCast arg9
  let c176 : Index := 176#32
  ![v445.toNat, 176]
def k0_off675 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v463 : Index := Scalar.indexCast arg9
  let c192 : Index := 192#32
  ![v463.toNat, 192]
def k0_off676 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v481 : Index := Scalar.indexCast arg9
  let c208 : Index := 208#32
  ![v481.toNat, 208]
def k0_off677 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v499 : Index := Scalar.indexCast arg9
  let c224 : Index := 224#32
  ![v499.toNat, 224]
def k0_off678 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v517 : Index := Scalar.indexCast arg9
  let c240 : Index := 240#32
  ![v517.toNat, 240]
def k0_off679 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v535 : Index := Scalar.indexCast arg9
  let c256 : Index := 256#32
  ![v535.toNat, 256]
def k0_off680 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v553 : Index := Scalar.indexCast arg9
  let c272 : Index := 272#32
  ![v553.toNat, 272]
def k0_off681 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v571 : Index := Scalar.indexCast arg9
  let c288 : Index := 288#32
  ![v571.toNat, 288]
def k0_off682 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v589 : Index := Scalar.indexCast arg9
  let c304 : Index := 304#32
  ![v589.toNat, 304]
def k0_off683 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v607 : Index := Scalar.indexCast arg9
  let c320 : Index := 320#32
  ![v607.toNat, 320]
def k0_off684 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v625 : Index := Scalar.indexCast arg9
  let c336 : Index := 336#32
  ![v625.toNat, 336]
def k0_off685 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v643 : Index := Scalar.indexCast arg9
  let c352 : Index := 352#32
  ![v643.toNat, 352]
def k0_off686 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v661 : Index := Scalar.indexCast arg9
  let c368 : Index := 368#32
  ![v661.toNat, 368]
def k0_off687 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v679 : Index := Scalar.indexCast arg9
  let c384 : Index := 384#32
  ![v679.toNat, 384]
def k0_off688 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v697 : Index := Scalar.indexCast arg9
  let c400 : Index := 400#32
  ![v697.toNat, 400]
def k0_off689 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v715 : Index := Scalar.indexCast arg9
  let c416 : Index := 416#32
  ![v715.toNat, 416]
def k0_off690 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v733 : Index := Scalar.indexCast arg9
  let c432 : Index := 432#32
  ![v733.toNat, 432]
def k0_off691 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v751 : Index := Scalar.indexCast arg9
  let c448 : Index := 448#32
  ![v751.toNat, 448]
def k0_off692 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v769 : Index := Scalar.indexCast arg9
  let c464 : Index := 464#32
  ![v769.toNat, 464]
def k0_off693 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v787 : Index := Scalar.indexCast arg9
  let c480 : Index := 480#32
  ![v787.toNat, 480]
def k0_off694 (k0_t21 : Fin k0_t21_loop.trips) : Fin 2 → Nat :=
  let c0_i32_287 : BitVec 32 := 0#32
  let c1_i32_289 : BitVec 32 := 1#32
  let arg9 : BitVec 32 := Scf.iv c0_i32_287 c1_i32_289 k0_t21
  let v805 : Index := Scalar.indexCast arg9
  let c496 : Index := 496#32
  ![v805.toNat, 496]
def k0_off695 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_291 : BitVec 32 := 2#32
  let c384_i32_292 : BitVec 32 := 384#32
  let c0_i32_293 : BitVec 32 := 0#32
  ![v1.toNat, 2, 384, 0]
@[reducible] def k0_t22_loop : Scf.Loop 32 :=
  let c0_i32_301 : BitVec 32 := 0#32
  let c64_i32_302 : BitVec 32 := 64#32
  let v225 : BitVec 32 := Scalar.addi c0_i32_301 c64_i32_302
  let c1_i32_303 : BitVec 32 := 1#32
  ⟨c0_i32_301, v225, c1_i32_303⟩
def k0_off696 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v247 : Index := Scalar.indexCast arg9
  let c0_331 : Index := 0#32
  ![v247.toNat, 0]
def k0_off697 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v265 : Index := Scalar.indexCast arg9
  let c16 : Index := 16#32
  ![v265.toNat, 16]
def k0_off698 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v283 : Index := Scalar.indexCast arg9
  let c32 : Index := 32#32
  ![v283.toNat, 32]
def k0_off699 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v301 : Index := Scalar.indexCast arg9
  let c48 : Index := 48#32
  ![v301.toNat, 48]
def k0_off700 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v319 : Index := Scalar.indexCast arg9
  let c64 : Index := 64#32
  ![v319.toNat, 64]
def k0_off701 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v337 : Index := Scalar.indexCast arg9
  let c80 : Index := 80#32
  ![v337.toNat, 80]
def k0_off702 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v355 : Index := Scalar.indexCast arg9
  let c96 : Index := 96#32
  ![v355.toNat, 96]
def k0_off703 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v373 : Index := Scalar.indexCast arg9
  let c112 : Index := 112#32
  ![v373.toNat, 112]
def k0_off704 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v391 : Index := Scalar.indexCast arg9
  let c128 : Index := 128#32
  ![v391.toNat, 128]
def k0_off705 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v409 : Index := Scalar.indexCast arg9
  let c144 : Index := 144#32
  ![v409.toNat, 144]
def k0_off706 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v427 : Index := Scalar.indexCast arg9
  let c160 : Index := 160#32
  ![v427.toNat, 160]
def k0_off707 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v445 : Index := Scalar.indexCast arg9
  let c176 : Index := 176#32
  ![v445.toNat, 176]
def k0_off708 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v463 : Index := Scalar.indexCast arg9
  let c192 : Index := 192#32
  ![v463.toNat, 192]
def k0_off709 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v481 : Index := Scalar.indexCast arg9
  let c208 : Index := 208#32
  ![v481.toNat, 208]
def k0_off710 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v499 : Index := Scalar.indexCast arg9
  let c224 : Index := 224#32
  ![v499.toNat, 224]
def k0_off711 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v517 : Index := Scalar.indexCast arg9
  let c240 : Index := 240#32
  ![v517.toNat, 240]
def k0_off712 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v535 : Index := Scalar.indexCast arg9
  let c256 : Index := 256#32
  ![v535.toNat, 256]
def k0_off713 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v553 : Index := Scalar.indexCast arg9
  let c272 : Index := 272#32
  ![v553.toNat, 272]
def k0_off714 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v571 : Index := Scalar.indexCast arg9
  let c288 : Index := 288#32
  ![v571.toNat, 288]
def k0_off715 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v589 : Index := Scalar.indexCast arg9
  let c304 : Index := 304#32
  ![v589.toNat, 304]
def k0_off716 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v607 : Index := Scalar.indexCast arg9
  let c320 : Index := 320#32
  ![v607.toNat, 320]
def k0_off717 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v625 : Index := Scalar.indexCast arg9
  let c336 : Index := 336#32
  ![v625.toNat, 336]
def k0_off718 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v643 : Index := Scalar.indexCast arg9
  let c352 : Index := 352#32
  ![v643.toNat, 352]
def k0_off719 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v661 : Index := Scalar.indexCast arg9
  let c368 : Index := 368#32
  ![v661.toNat, 368]
def k0_off720 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v679 : Index := Scalar.indexCast arg9
  let c384 : Index := 384#32
  ![v679.toNat, 384]
def k0_off721 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v697 : Index := Scalar.indexCast arg9
  let c400 : Index := 400#32
  ![v697.toNat, 400]
def k0_off722 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v715 : Index := Scalar.indexCast arg9
  let c416 : Index := 416#32
  ![v715.toNat, 416]
def k0_off723 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v733 : Index := Scalar.indexCast arg9
  let c432 : Index := 432#32
  ![v733.toNat, 432]
def k0_off724 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v751 : Index := Scalar.indexCast arg9
  let c448 : Index := 448#32
  ![v751.toNat, 448]
def k0_off725 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v769 : Index := Scalar.indexCast arg9
  let c464 : Index := 464#32
  ![v769.toNat, 464]
def k0_off726 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v787 : Index := Scalar.indexCast arg9
  let c480 : Index := 480#32
  ![v787.toNat, 480]
def k0_off727 (k0_t22 : Fin k0_t22_loop.trips) : Fin 2 → Nat :=
  let c0_i32_301 : BitVec 32 := 0#32
  let c1_i32_303 : BitVec 32 := 1#32
  let arg9 : BitVec 32 := Scf.iv c0_i32_301 c1_i32_303 k0_t22
  let v805 : Index := Scalar.indexCast arg9
  let c496 : Index := 496#32
  ![v805.toNat, 496]
def k0_off728 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_305 : BitVec 32 := 2#32
  let c448_i32_306 : BitVec 32 := 448#32
  let c0_i32_307 : BitVec 32 := 0#32
  ![v1.toNat, 2, 448, 0]
@[reducible] def k0_t23_loop : Scf.Loop 32 :=
  let c0_i32_315 : BitVec 32 := 0#32
  let c64_i32_316 : BitVec 32 := 64#32
  let v235 : BitVec 32 := Scalar.addi c0_i32_315 c64_i32_316
  let c1_i32_317 : BitVec 32 := 1#32
  ⟨c0_i32_315, v235, c1_i32_317⟩
def k0_off729 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v247 : Index := Scalar.indexCast arg9
  let c0_331 : Index := 0#32
  ![v247.toNat, 0]
def k0_off730 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v265 : Index := Scalar.indexCast arg9
  let c16 : Index := 16#32
  ![v265.toNat, 16]
def k0_off731 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v283 : Index := Scalar.indexCast arg9
  let c32 : Index := 32#32
  ![v283.toNat, 32]
def k0_off732 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v301 : Index := Scalar.indexCast arg9
  let c48 : Index := 48#32
  ![v301.toNat, 48]
def k0_off733 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v319 : Index := Scalar.indexCast arg9
  let c64 : Index := 64#32
  ![v319.toNat, 64]
def k0_off734 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v337 : Index := Scalar.indexCast arg9
  let c80 : Index := 80#32
  ![v337.toNat, 80]
def k0_off735 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v355 : Index := Scalar.indexCast arg9
  let c96 : Index := 96#32
  ![v355.toNat, 96]
def k0_off736 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v373 : Index := Scalar.indexCast arg9
  let c112 : Index := 112#32
  ![v373.toNat, 112]
def k0_off737 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v391 : Index := Scalar.indexCast arg9
  let c128 : Index := 128#32
  ![v391.toNat, 128]
def k0_off738 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v409 : Index := Scalar.indexCast arg9
  let c144 : Index := 144#32
  ![v409.toNat, 144]
def k0_off739 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v427 : Index := Scalar.indexCast arg9
  let c160 : Index := 160#32
  ![v427.toNat, 160]
def k0_off740 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v445 : Index := Scalar.indexCast arg9
  let c176 : Index := 176#32
  ![v445.toNat, 176]
def k0_off741 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v463 : Index := Scalar.indexCast arg9
  let c192 : Index := 192#32
  ![v463.toNat, 192]
def k0_off742 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v481 : Index := Scalar.indexCast arg9
  let c208 : Index := 208#32
  ![v481.toNat, 208]
def k0_off743 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v499 : Index := Scalar.indexCast arg9
  let c224 : Index := 224#32
  ![v499.toNat, 224]
def k0_off744 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v517 : Index := Scalar.indexCast arg9
  let c240 : Index := 240#32
  ![v517.toNat, 240]
def k0_off745 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v535 : Index := Scalar.indexCast arg9
  let c256 : Index := 256#32
  ![v535.toNat, 256]
def k0_off746 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v553 : Index := Scalar.indexCast arg9
  let c272 : Index := 272#32
  ![v553.toNat, 272]
def k0_off747 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v571 : Index := Scalar.indexCast arg9
  let c288 : Index := 288#32
  ![v571.toNat, 288]
def k0_off748 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v589 : Index := Scalar.indexCast arg9
  let c304 : Index := 304#32
  ![v589.toNat, 304]
def k0_off749 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v607 : Index := Scalar.indexCast arg9
  let c320 : Index := 320#32
  ![v607.toNat, 320]
def k0_off750 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v625 : Index := Scalar.indexCast arg9
  let c336 : Index := 336#32
  ![v625.toNat, 336]
def k0_off751 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v643 : Index := Scalar.indexCast arg9
  let c352 : Index := 352#32
  ![v643.toNat, 352]
def k0_off752 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v661 : Index := Scalar.indexCast arg9
  let c368 : Index := 368#32
  ![v661.toNat, 368]
def k0_off753 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v679 : Index := Scalar.indexCast arg9
  let c384 : Index := 384#32
  ![v679.toNat, 384]
def k0_off754 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v697 : Index := Scalar.indexCast arg9
  let c400 : Index := 400#32
  ![v697.toNat, 400]
def k0_off755 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v715 : Index := Scalar.indexCast arg9
  let c416 : Index := 416#32
  ![v715.toNat, 416]
def k0_off756 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v733 : Index := Scalar.indexCast arg9
  let c432 : Index := 432#32
  ![v733.toNat, 432]
def k0_off757 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v751 : Index := Scalar.indexCast arg9
  let c448 : Index := 448#32
  ![v751.toNat, 448]
def k0_off758 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v769 : Index := Scalar.indexCast arg9
  let c464 : Index := 464#32
  ![v769.toNat, 464]
def k0_off759 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v787 : Index := Scalar.indexCast arg9
  let c480 : Index := 480#32
  ![v787.toNat, 480]
def k0_off760 (k0_t23 : Fin k0_t23_loop.trips) : Fin 2 → Nat :=
  let c0_i32_315 : BitVec 32 := 0#32
  let c1_i32_317 : BitVec 32 := 1#32
  let arg9 : BitVec 32 := Scf.iv c0_i32_315 c1_i32_317 k0_t23
  let v805 : Index := Scalar.indexCast arg9
  let c496 : Index := 496#32
  ![v805.toNat, 496]
@[reducible] def k0_t24_loop : Scf.Loop 32 :=
  let c0_i32_324 : BitVec 32 := 0#32
  let c64_i32_325 : BitVec 32 := 64#32
  let v241 : BitVec 32 := Scalar.addi c0_i32_324 c64_i32_325
  let c1_i32_326 : BitVec 32 := 1#32
  ⟨c0_i32_324, v241, c1_i32_326⟩
def k0_off761 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v247 : Index := Scalar.indexCast arg9
  let c0_331 : Index := 0#32
  ![v247.toNat, 0]
def k0_off762 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v265 : Index := Scalar.indexCast arg9
  let c16 : Index := 16#32
  ![v265.toNat, 16]
def k0_off763 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v283 : Index := Scalar.indexCast arg9
  let c32 : Index := 32#32
  ![v283.toNat, 32]
def k0_off764 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v301 : Index := Scalar.indexCast arg9
  let c48 : Index := 48#32
  ![v301.toNat, 48]
def k0_off765 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v319 : Index := Scalar.indexCast arg9
  let c64 : Index := 64#32
  ![v319.toNat, 64]
def k0_off766 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v337 : Index := Scalar.indexCast arg9
  let c80 : Index := 80#32
  ![v337.toNat, 80]
def k0_off767 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v355 : Index := Scalar.indexCast arg9
  let c96 : Index := 96#32
  ![v355.toNat, 96]
def k0_off768 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v373 : Index := Scalar.indexCast arg9
  let c112 : Index := 112#32
  ![v373.toNat, 112]
def k0_off769 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v391 : Index := Scalar.indexCast arg9
  let c128 : Index := 128#32
  ![v391.toNat, 128]
def k0_off770 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v409 : Index := Scalar.indexCast arg9
  let c144 : Index := 144#32
  ![v409.toNat, 144]
def k0_off771 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v427 : Index := Scalar.indexCast arg9
  let c160 : Index := 160#32
  ![v427.toNat, 160]
def k0_off772 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v445 : Index := Scalar.indexCast arg9
  let c176 : Index := 176#32
  ![v445.toNat, 176]
def k0_off773 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v463 : Index := Scalar.indexCast arg9
  let c192 : Index := 192#32
  ![v463.toNat, 192]
def k0_off774 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v481 : Index := Scalar.indexCast arg9
  let c208 : Index := 208#32
  ![v481.toNat, 208]
def k0_off775 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v499 : Index := Scalar.indexCast arg9
  let c224 : Index := 224#32
  ![v499.toNat, 224]
def k0_off776 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v517 : Index := Scalar.indexCast arg9
  let c240 : Index := 240#32
  ![v517.toNat, 240]
def k0_off777 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v535 : Index := Scalar.indexCast arg9
  let c256 : Index := 256#32
  ![v535.toNat, 256]
def k0_off778 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v553 : Index := Scalar.indexCast arg9
  let c272 : Index := 272#32
  ![v553.toNat, 272]
def k0_off779 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v571 : Index := Scalar.indexCast arg9
  let c288 : Index := 288#32
  ![v571.toNat, 288]
def k0_off780 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v589 : Index := Scalar.indexCast arg9
  let c304 : Index := 304#32
  ![v589.toNat, 304]
def k0_off781 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v607 : Index := Scalar.indexCast arg9
  let c320 : Index := 320#32
  ![v607.toNat, 320]
def k0_off782 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v625 : Index := Scalar.indexCast arg9
  let c336 : Index := 336#32
  ![v625.toNat, 336]
def k0_off783 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v643 : Index := Scalar.indexCast arg9
  let c352 : Index := 352#32
  ![v643.toNat, 352]
def k0_off784 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v661 : Index := Scalar.indexCast arg9
  let c368 : Index := 368#32
  ![v661.toNat, 368]
def k0_off785 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v679 : Index := Scalar.indexCast arg9
  let c384 : Index := 384#32
  ![v679.toNat, 384]
def k0_off786 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v697 : Index := Scalar.indexCast arg9
  let c400 : Index := 400#32
  ![v697.toNat, 400]
def k0_off787 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v715 : Index := Scalar.indexCast arg9
  let c416 : Index := 416#32
  ![v715.toNat, 416]
def k0_off788 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v733 : Index := Scalar.indexCast arg9
  let c432 : Index := 432#32
  ![v733.toNat, 432]
def k0_off789 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v751 : Index := Scalar.indexCast arg9
  let c448 : Index := 448#32
  ![v751.toNat, 448]
def k0_off790 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v769 : Index := Scalar.indexCast arg9
  let c464 : Index := 464#32
  ![v769.toNat, 464]
def k0_off791 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v787 : Index := Scalar.indexCast arg9
  let c480 : Index := 480#32
  ![v787.toNat, 480]
def k0_off792 (k0_t24 : Fin k0_t24_loop.trips) : Fin 2 → Nat :=
  let c0_i32_324 : BitVec 32 := 0#32
  let c1_i32_326 : BitVec 32 := 1#32
  let arg9 : BitVec 32 := Scf.iv c0_i32_324 c1_i32_326 k0_t24
  let v805 : Index := Scalar.indexCast arg9
  let c496 : Index := 496#32
  ![v805.toNat, 496]
def k0_off793 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_331_r0 : BitVec 32 := 0#32
  let c0_i32_332_r0 : BitVec 32 := 0#32
  ![v1.toNat, 0, 0]
abbrev grid1 : Pipeline.Grid := ⟨2, ![2, 16], ![false, false]⟩

def k1_off1 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_161 : BitVec 32 := 0#32
  let c0_i32_162 : BitVec 32 := 0#32
  let c0_i32_163 : BitVec 32 := 0#32
  ![v1.toNat, 0, 0, 0]
def k1_off2 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_166 : BitVec 32 := 0#32
  let c64_i32 : BitVec 32 := 64#32
  let c0_i32_167 : BitVec 32 := 0#32
  ![v1.toNat, 0, 64, 0]
@[reducible] def k1_t1_loop : Scf.Loop 32 :=
  let c0_i32_176 : BitVec 32 := 0#32
  let c64_i32_177 : BitVec 32 := 64#32
  let v277 : BitVec 32 := Scalar.addi c0_i32_176 c64_i32_177
  let c1_i32_178 : BitVec 32 := 1#32
  ⟨c0_i32_176, v277, c1_i32_178⟩
def k1_off3 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v673 : Index := Scalar.indexCast arg12
  let c0_754 : Index := 0#32
  ![v673.toNat, 0]
def k1_off4 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v678 : Index := Scalar.indexCast arg12
  let c16 : Index := 16#32
  ![v678.toNat, 16]
def k1_off5 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v683 : Index := Scalar.indexCast arg12
  let c32 : Index := 32#32
  ![v683.toNat, 32]
def k1_off6 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v688 : Index := Scalar.indexCast arg12
  let c48 : Index := 48#32
  ![v688.toNat, 48]
def k1_off7 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v693 : Index := Scalar.indexCast arg12
  let c64 : Index := 64#32
  ![v693.toNat, 64]
def k1_off8 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v698 : Index := Scalar.indexCast arg12
  let c80 : Index := 80#32
  ![v698.toNat, 80]
def k1_off9 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v703 : Index := Scalar.indexCast arg12
  let c96 : Index := 96#32
  ![v703.toNat, 96]
def k1_off10 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v708 : Index := Scalar.indexCast arg12
  let c112 : Index := 112#32
  ![v708.toNat, 112]
def k1_off11 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v713 : Index := Scalar.indexCast arg12
  let c128 : Index := 128#32
  ![v713.toNat, 128]
def k1_off12 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v718 : Index := Scalar.indexCast arg12
  let c144 : Index := 144#32
  ![v718.toNat, 144]
def k1_off13 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v723 : Index := Scalar.indexCast arg12
  let c160 : Index := 160#32
  ![v723.toNat, 160]
def k1_off14 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v728 : Index := Scalar.indexCast arg12
  let c176 : Index := 176#32
  ![v728.toNat, 176]
def k1_off15 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v733 : Index := Scalar.indexCast arg12
  let c192 : Index := 192#32
  ![v733.toNat, 192]
def k1_off16 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v738 : Index := Scalar.indexCast arg12
  let c208 : Index := 208#32
  ![v738.toNat, 208]
def k1_off17 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v743 : Index := Scalar.indexCast arg12
  let c224 : Index := 224#32
  ![v743.toNat, 224]
def k1_off18 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v748 : Index := Scalar.indexCast arg12
  let c240 : Index := 240#32
  ![v748.toNat, 240]
def k1_off19 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v753 : Index := Scalar.indexCast arg12
  let c256 : Index := 256#32
  ![v753.toNat, 256]
def k1_off20 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v758 : Index := Scalar.indexCast arg12
  let c272 : Index := 272#32
  ![v758.toNat, 272]
def k1_off21 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v763 : Index := Scalar.indexCast arg12
  let c288 : Index := 288#32
  ![v763.toNat, 288]
def k1_off22 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v768 : Index := Scalar.indexCast arg12
  let c304 : Index := 304#32
  ![v768.toNat, 304]
def k1_off23 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v773 : Index := Scalar.indexCast arg12
  let c320 : Index := 320#32
  ![v773.toNat, 320]
def k1_off24 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v778 : Index := Scalar.indexCast arg12
  let c336 : Index := 336#32
  ![v778.toNat, 336]
def k1_off25 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v783 : Index := Scalar.indexCast arg12
  let c352 : Index := 352#32
  ![v783.toNat, 352]
def k1_off26 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v788 : Index := Scalar.indexCast arg12
  let c368 : Index := 368#32
  ![v788.toNat, 368]
def k1_off27 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v793 : Index := Scalar.indexCast arg12
  let c384 : Index := 384#32
  ![v793.toNat, 384]
def k1_off28 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v798 : Index := Scalar.indexCast arg12
  let c400 : Index := 400#32
  ![v798.toNat, 400]
def k1_off29 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v803 : Index := Scalar.indexCast arg12
  let c416 : Index := 416#32
  ![v803.toNat, 416]
def k1_off30 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v808 : Index := Scalar.indexCast arg12
  let c432 : Index := 432#32
  ![v808.toNat, 432]
def k1_off31 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v813 : Index := Scalar.indexCast arg12
  let c448 : Index := 448#32
  ![v813.toNat, 448]
def k1_off32 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v818 : Index := Scalar.indexCast arg12
  let c464 : Index := 464#32
  ![v818.toNat, 464]
def k1_off33 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v823 : Index := Scalar.indexCast arg12
  let c480 : Index := 480#32
  ![v823.toNat, 480]
def k1_off34 (k1_t1 : Fin k1_t1_loop.trips) : Fin 2 → Nat :=
  let c0_i32_176 : BitVec 32 := 0#32
  let c1_i32_178 : BitVec 32 := 1#32
  let arg12 : BitVec 32 := Scf.iv c0_i32_176 c1_i32_178 k1_t1
  let v828 : Index := Scalar.indexCast arg12
  let c496 : Index := 496#32
  ![v828.toNat, 496]
def k1_off35 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_190 : BitVec 32 := 0#32
  let c128_i32 : BitVec 32 := 128#32
  let c0_i32_191 : BitVec 32 := 0#32
  ![v1.toNat, 0, 128, 0]
@[reducible] def k1_t2_loop : Scf.Loop 32 :=
  let c0_i32_200 : BitVec 32 := 0#32
  let c64_i32_201 : BitVec 32 := 64#32
  let v294 : BitVec 32 := Scalar.addi c0_i32_200 c64_i32_201
  let c1_i32_202 : BitVec 32 := 1#32
  ⟨c0_i32_200, v294, c1_i32_202⟩
def k1_off36 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v673 : Index := Scalar.indexCast arg12
  let c0_754 : Index := 0#32
  ![v673.toNat, 0]
def k1_off37 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v678 : Index := Scalar.indexCast arg12
  let c16 : Index := 16#32
  ![v678.toNat, 16]
def k1_off38 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v683 : Index := Scalar.indexCast arg12
  let c32 : Index := 32#32
  ![v683.toNat, 32]
def k1_off39 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v688 : Index := Scalar.indexCast arg12
  let c48 : Index := 48#32
  ![v688.toNat, 48]
def k1_off40 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v693 : Index := Scalar.indexCast arg12
  let c64 : Index := 64#32
  ![v693.toNat, 64]
def k1_off41 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v698 : Index := Scalar.indexCast arg12
  let c80 : Index := 80#32
  ![v698.toNat, 80]
def k1_off42 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v703 : Index := Scalar.indexCast arg12
  let c96 : Index := 96#32
  ![v703.toNat, 96]
def k1_off43 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v708 : Index := Scalar.indexCast arg12
  let c112 : Index := 112#32
  ![v708.toNat, 112]
def k1_off44 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v713 : Index := Scalar.indexCast arg12
  let c128 : Index := 128#32
  ![v713.toNat, 128]
def k1_off45 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v718 : Index := Scalar.indexCast arg12
  let c144 : Index := 144#32
  ![v718.toNat, 144]
def k1_off46 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v723 : Index := Scalar.indexCast arg12
  let c160 : Index := 160#32
  ![v723.toNat, 160]
def k1_off47 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v728 : Index := Scalar.indexCast arg12
  let c176 : Index := 176#32
  ![v728.toNat, 176]
def k1_off48 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v733 : Index := Scalar.indexCast arg12
  let c192 : Index := 192#32
  ![v733.toNat, 192]
def k1_off49 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v738 : Index := Scalar.indexCast arg12
  let c208 : Index := 208#32
  ![v738.toNat, 208]
def k1_off50 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v743 : Index := Scalar.indexCast arg12
  let c224 : Index := 224#32
  ![v743.toNat, 224]
def k1_off51 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v748 : Index := Scalar.indexCast arg12
  let c240 : Index := 240#32
  ![v748.toNat, 240]
def k1_off52 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v753 : Index := Scalar.indexCast arg12
  let c256 : Index := 256#32
  ![v753.toNat, 256]
def k1_off53 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v758 : Index := Scalar.indexCast arg12
  let c272 : Index := 272#32
  ![v758.toNat, 272]
def k1_off54 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v763 : Index := Scalar.indexCast arg12
  let c288 : Index := 288#32
  ![v763.toNat, 288]
def k1_off55 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v768 : Index := Scalar.indexCast arg12
  let c304 : Index := 304#32
  ![v768.toNat, 304]
def k1_off56 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v773 : Index := Scalar.indexCast arg12
  let c320 : Index := 320#32
  ![v773.toNat, 320]
def k1_off57 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v778 : Index := Scalar.indexCast arg12
  let c336 : Index := 336#32
  ![v778.toNat, 336]
def k1_off58 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v783 : Index := Scalar.indexCast arg12
  let c352 : Index := 352#32
  ![v783.toNat, 352]
def k1_off59 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v788 : Index := Scalar.indexCast arg12
  let c368 : Index := 368#32
  ![v788.toNat, 368]
def k1_off60 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v793 : Index := Scalar.indexCast arg12
  let c384 : Index := 384#32
  ![v793.toNat, 384]
def k1_off61 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v798 : Index := Scalar.indexCast arg12
  let c400 : Index := 400#32
  ![v798.toNat, 400]
def k1_off62 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v803 : Index := Scalar.indexCast arg12
  let c416 : Index := 416#32
  ![v803.toNat, 416]
def k1_off63 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v808 : Index := Scalar.indexCast arg12
  let c432 : Index := 432#32
  ![v808.toNat, 432]
def k1_off64 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v813 : Index := Scalar.indexCast arg12
  let c448 : Index := 448#32
  ![v813.toNat, 448]
def k1_off65 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v818 : Index := Scalar.indexCast arg12
  let c464 : Index := 464#32
  ![v818.toNat, 464]
def k1_off66 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v823 : Index := Scalar.indexCast arg12
  let c480 : Index := 480#32
  ![v823.toNat, 480]
def k1_off67 (k1_t2 : Fin k1_t2_loop.trips) : Fin 2 → Nat :=
  let c0_i32_200 : BitVec 32 := 0#32
  let c1_i32_202 : BitVec 32 := 1#32
  let arg12 : BitVec 32 := Scf.iv c0_i32_200 c1_i32_202 k1_t2
  let v828 : Index := Scalar.indexCast arg12
  let c496 : Index := 496#32
  ![v828.toNat, 496]
def k1_off68 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_214 : BitVec 32 := 0#32
  let c192_i32 : BitVec 32 := 192#32
  let c0_i32_215 : BitVec 32 := 0#32
  ![v1.toNat, 0, 192, 0]
@[reducible] def k1_t3_loop : Scf.Loop 32 :=
  let c0_i32_224 : BitVec 32 := 0#32
  let c64_i32_225 : BitVec 32 := 64#32
  let v311 : BitVec 32 := Scalar.addi c0_i32_224 c64_i32_225
  let c1_i32_226 : BitVec 32 := 1#32
  ⟨c0_i32_224, v311, c1_i32_226⟩
def k1_off69 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v673 : Index := Scalar.indexCast arg12
  let c0_754 : Index := 0#32
  ![v673.toNat, 0]
def k1_off70 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v678 : Index := Scalar.indexCast arg12
  let c16 : Index := 16#32
  ![v678.toNat, 16]
def k1_off71 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v683 : Index := Scalar.indexCast arg12
  let c32 : Index := 32#32
  ![v683.toNat, 32]
def k1_off72 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v688 : Index := Scalar.indexCast arg12
  let c48 : Index := 48#32
  ![v688.toNat, 48]
def k1_off73 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v693 : Index := Scalar.indexCast arg12
  let c64 : Index := 64#32
  ![v693.toNat, 64]
def k1_off74 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v698 : Index := Scalar.indexCast arg12
  let c80 : Index := 80#32
  ![v698.toNat, 80]
def k1_off75 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v703 : Index := Scalar.indexCast arg12
  let c96 : Index := 96#32
  ![v703.toNat, 96]
def k1_off76 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v708 : Index := Scalar.indexCast arg12
  let c112 : Index := 112#32
  ![v708.toNat, 112]
def k1_off77 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v713 : Index := Scalar.indexCast arg12
  let c128 : Index := 128#32
  ![v713.toNat, 128]
def k1_off78 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v718 : Index := Scalar.indexCast arg12
  let c144 : Index := 144#32
  ![v718.toNat, 144]
def k1_off79 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v723 : Index := Scalar.indexCast arg12
  let c160 : Index := 160#32
  ![v723.toNat, 160]
def k1_off80 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v728 : Index := Scalar.indexCast arg12
  let c176 : Index := 176#32
  ![v728.toNat, 176]
def k1_off81 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v733 : Index := Scalar.indexCast arg12
  let c192 : Index := 192#32
  ![v733.toNat, 192]
def k1_off82 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v738 : Index := Scalar.indexCast arg12
  let c208 : Index := 208#32
  ![v738.toNat, 208]
def k1_off83 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v743 : Index := Scalar.indexCast arg12
  let c224 : Index := 224#32
  ![v743.toNat, 224]
def k1_off84 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v748 : Index := Scalar.indexCast arg12
  let c240 : Index := 240#32
  ![v748.toNat, 240]
def k1_off85 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v753 : Index := Scalar.indexCast arg12
  let c256 : Index := 256#32
  ![v753.toNat, 256]
def k1_off86 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v758 : Index := Scalar.indexCast arg12
  let c272 : Index := 272#32
  ![v758.toNat, 272]
def k1_off87 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v763 : Index := Scalar.indexCast arg12
  let c288 : Index := 288#32
  ![v763.toNat, 288]
def k1_off88 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v768 : Index := Scalar.indexCast arg12
  let c304 : Index := 304#32
  ![v768.toNat, 304]
def k1_off89 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v773 : Index := Scalar.indexCast arg12
  let c320 : Index := 320#32
  ![v773.toNat, 320]
def k1_off90 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v778 : Index := Scalar.indexCast arg12
  let c336 : Index := 336#32
  ![v778.toNat, 336]
def k1_off91 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v783 : Index := Scalar.indexCast arg12
  let c352 : Index := 352#32
  ![v783.toNat, 352]
def k1_off92 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v788 : Index := Scalar.indexCast arg12
  let c368 : Index := 368#32
  ![v788.toNat, 368]
def k1_off93 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v793 : Index := Scalar.indexCast arg12
  let c384 : Index := 384#32
  ![v793.toNat, 384]
def k1_off94 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v798 : Index := Scalar.indexCast arg12
  let c400 : Index := 400#32
  ![v798.toNat, 400]
def k1_off95 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v803 : Index := Scalar.indexCast arg12
  let c416 : Index := 416#32
  ![v803.toNat, 416]
def k1_off96 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v808 : Index := Scalar.indexCast arg12
  let c432 : Index := 432#32
  ![v808.toNat, 432]
def k1_off97 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v813 : Index := Scalar.indexCast arg12
  let c448 : Index := 448#32
  ![v813.toNat, 448]
def k1_off98 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v818 : Index := Scalar.indexCast arg12
  let c464 : Index := 464#32
  ![v818.toNat, 464]
def k1_off99 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v823 : Index := Scalar.indexCast arg12
  let c480 : Index := 480#32
  ![v823.toNat, 480]
def k1_off100 (k1_t3 : Fin k1_t3_loop.trips) : Fin 2 → Nat :=
  let c0_i32_224 : BitVec 32 := 0#32
  let c1_i32_226 : BitVec 32 := 1#32
  let arg12 : BitVec 32 := Scf.iv c0_i32_224 c1_i32_226 k1_t3
  let v828 : Index := Scalar.indexCast arg12
  let c496 : Index := 496#32
  ![v828.toNat, 496]
def k1_off101 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_238 : BitVec 32 := 0#32
  let c256_i32 : BitVec 32 := 256#32
  let c0_i32_239 : BitVec 32 := 0#32
  ![v1.toNat, 0, 256, 0]
@[reducible] def k1_t4_loop : Scf.Loop 32 :=
  let c0_i32_248 : BitVec 32 := 0#32
  let c64_i32_249 : BitVec 32 := 64#32
  let v328 : BitVec 32 := Scalar.addi c0_i32_248 c64_i32_249
  let c1_i32_250 : BitVec 32 := 1#32
  ⟨c0_i32_248, v328, c1_i32_250⟩
def k1_off102 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v673 : Index := Scalar.indexCast arg12
  let c0_754 : Index := 0#32
  ![v673.toNat, 0]
def k1_off103 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v678 : Index := Scalar.indexCast arg12
  let c16 : Index := 16#32
  ![v678.toNat, 16]
def k1_off104 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v683 : Index := Scalar.indexCast arg12
  let c32 : Index := 32#32
  ![v683.toNat, 32]
def k1_off105 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v688 : Index := Scalar.indexCast arg12
  let c48 : Index := 48#32
  ![v688.toNat, 48]
def k1_off106 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v693 : Index := Scalar.indexCast arg12
  let c64 : Index := 64#32
  ![v693.toNat, 64]
def k1_off107 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v698 : Index := Scalar.indexCast arg12
  let c80 : Index := 80#32
  ![v698.toNat, 80]
def k1_off108 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v703 : Index := Scalar.indexCast arg12
  let c96 : Index := 96#32
  ![v703.toNat, 96]
def k1_off109 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v708 : Index := Scalar.indexCast arg12
  let c112 : Index := 112#32
  ![v708.toNat, 112]
def k1_off110 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v713 : Index := Scalar.indexCast arg12
  let c128 : Index := 128#32
  ![v713.toNat, 128]
def k1_off111 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v718 : Index := Scalar.indexCast arg12
  let c144 : Index := 144#32
  ![v718.toNat, 144]
def k1_off112 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v723 : Index := Scalar.indexCast arg12
  let c160 : Index := 160#32
  ![v723.toNat, 160]
def k1_off113 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v728 : Index := Scalar.indexCast arg12
  let c176 : Index := 176#32
  ![v728.toNat, 176]
def k1_off114 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v733 : Index := Scalar.indexCast arg12
  let c192 : Index := 192#32
  ![v733.toNat, 192]
def k1_off115 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v738 : Index := Scalar.indexCast arg12
  let c208 : Index := 208#32
  ![v738.toNat, 208]
def k1_off116 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v743 : Index := Scalar.indexCast arg12
  let c224 : Index := 224#32
  ![v743.toNat, 224]
def k1_off117 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v748 : Index := Scalar.indexCast arg12
  let c240 : Index := 240#32
  ![v748.toNat, 240]
def k1_off118 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v753 : Index := Scalar.indexCast arg12
  let c256 : Index := 256#32
  ![v753.toNat, 256]
def k1_off119 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v758 : Index := Scalar.indexCast arg12
  let c272 : Index := 272#32
  ![v758.toNat, 272]
def k1_off120 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v763 : Index := Scalar.indexCast arg12
  let c288 : Index := 288#32
  ![v763.toNat, 288]
def k1_off121 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v768 : Index := Scalar.indexCast arg12
  let c304 : Index := 304#32
  ![v768.toNat, 304]
def k1_off122 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v773 : Index := Scalar.indexCast arg12
  let c320 : Index := 320#32
  ![v773.toNat, 320]
def k1_off123 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v778 : Index := Scalar.indexCast arg12
  let c336 : Index := 336#32
  ![v778.toNat, 336]
def k1_off124 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v783 : Index := Scalar.indexCast arg12
  let c352 : Index := 352#32
  ![v783.toNat, 352]
def k1_off125 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v788 : Index := Scalar.indexCast arg12
  let c368 : Index := 368#32
  ![v788.toNat, 368]
def k1_off126 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v793 : Index := Scalar.indexCast arg12
  let c384 : Index := 384#32
  ![v793.toNat, 384]
def k1_off127 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v798 : Index := Scalar.indexCast arg12
  let c400 : Index := 400#32
  ![v798.toNat, 400]
def k1_off128 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v803 : Index := Scalar.indexCast arg12
  let c416 : Index := 416#32
  ![v803.toNat, 416]
def k1_off129 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v808 : Index := Scalar.indexCast arg12
  let c432 : Index := 432#32
  ![v808.toNat, 432]
def k1_off130 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v813 : Index := Scalar.indexCast arg12
  let c448 : Index := 448#32
  ![v813.toNat, 448]
def k1_off131 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v818 : Index := Scalar.indexCast arg12
  let c464 : Index := 464#32
  ![v818.toNat, 464]
def k1_off132 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v823 : Index := Scalar.indexCast arg12
  let c480 : Index := 480#32
  ![v823.toNat, 480]
def k1_off133 (k1_t4 : Fin k1_t4_loop.trips) : Fin 2 → Nat :=
  let c0_i32_248 : BitVec 32 := 0#32
  let c1_i32_250 : BitVec 32 := 1#32
  let arg12 : BitVec 32 := Scf.iv c0_i32_248 c1_i32_250 k1_t4
  let v828 : Index := Scalar.indexCast arg12
  let c496 : Index := 496#32
  ![v828.toNat, 496]
def k1_off134 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_262 : BitVec 32 := 0#32
  let c320_i32 : BitVec 32 := 320#32
  let c0_i32_263 : BitVec 32 := 0#32
  ![v1.toNat, 0, 320, 0]
@[reducible] def k1_t5_loop : Scf.Loop 32 :=
  let c0_i32_272 : BitVec 32 := 0#32
  let c64_i32_273 : BitVec 32 := 64#32
  let v345 : BitVec 32 := Scalar.addi c0_i32_272 c64_i32_273
  let c1_i32_274 : BitVec 32 := 1#32
  ⟨c0_i32_272, v345, c1_i32_274⟩
def k1_off135 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v673 : Index := Scalar.indexCast arg12
  let c0_754 : Index := 0#32
  ![v673.toNat, 0]
def k1_off136 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v678 : Index := Scalar.indexCast arg12
  let c16 : Index := 16#32
  ![v678.toNat, 16]
def k1_off137 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v683 : Index := Scalar.indexCast arg12
  let c32 : Index := 32#32
  ![v683.toNat, 32]
def k1_off138 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v688 : Index := Scalar.indexCast arg12
  let c48 : Index := 48#32
  ![v688.toNat, 48]
def k1_off139 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v693 : Index := Scalar.indexCast arg12
  let c64 : Index := 64#32
  ![v693.toNat, 64]
def k1_off140 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v698 : Index := Scalar.indexCast arg12
  let c80 : Index := 80#32
  ![v698.toNat, 80]
def k1_off141 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v703 : Index := Scalar.indexCast arg12
  let c96 : Index := 96#32
  ![v703.toNat, 96]
def k1_off142 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v708 : Index := Scalar.indexCast arg12
  let c112 : Index := 112#32
  ![v708.toNat, 112]
def k1_off143 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v713 : Index := Scalar.indexCast arg12
  let c128 : Index := 128#32
  ![v713.toNat, 128]
def k1_off144 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v718 : Index := Scalar.indexCast arg12
  let c144 : Index := 144#32
  ![v718.toNat, 144]
def k1_off145 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v723 : Index := Scalar.indexCast arg12
  let c160 : Index := 160#32
  ![v723.toNat, 160]
def k1_off146 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v728 : Index := Scalar.indexCast arg12
  let c176 : Index := 176#32
  ![v728.toNat, 176]
def k1_off147 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v733 : Index := Scalar.indexCast arg12
  let c192 : Index := 192#32
  ![v733.toNat, 192]
def k1_off148 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v738 : Index := Scalar.indexCast arg12
  let c208 : Index := 208#32
  ![v738.toNat, 208]
def k1_off149 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v743 : Index := Scalar.indexCast arg12
  let c224 : Index := 224#32
  ![v743.toNat, 224]
def k1_off150 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v748 : Index := Scalar.indexCast arg12
  let c240 : Index := 240#32
  ![v748.toNat, 240]
def k1_off151 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v753 : Index := Scalar.indexCast arg12
  let c256 : Index := 256#32
  ![v753.toNat, 256]
def k1_off152 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v758 : Index := Scalar.indexCast arg12
  let c272 : Index := 272#32
  ![v758.toNat, 272]
def k1_off153 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v763 : Index := Scalar.indexCast arg12
  let c288 : Index := 288#32
  ![v763.toNat, 288]
def k1_off154 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v768 : Index := Scalar.indexCast arg12
  let c304 : Index := 304#32
  ![v768.toNat, 304]
def k1_off155 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v773 : Index := Scalar.indexCast arg12
  let c320 : Index := 320#32
  ![v773.toNat, 320]
def k1_off156 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v778 : Index := Scalar.indexCast arg12
  let c336 : Index := 336#32
  ![v778.toNat, 336]
def k1_off157 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v783 : Index := Scalar.indexCast arg12
  let c352 : Index := 352#32
  ![v783.toNat, 352]
def k1_off158 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v788 : Index := Scalar.indexCast arg12
  let c368 : Index := 368#32
  ![v788.toNat, 368]
def k1_off159 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v793 : Index := Scalar.indexCast arg12
  let c384 : Index := 384#32
  ![v793.toNat, 384]
def k1_off160 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v798 : Index := Scalar.indexCast arg12
  let c400 : Index := 400#32
  ![v798.toNat, 400]
def k1_off161 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v803 : Index := Scalar.indexCast arg12
  let c416 : Index := 416#32
  ![v803.toNat, 416]
def k1_off162 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v808 : Index := Scalar.indexCast arg12
  let c432 : Index := 432#32
  ![v808.toNat, 432]
def k1_off163 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v813 : Index := Scalar.indexCast arg12
  let c448 : Index := 448#32
  ![v813.toNat, 448]
def k1_off164 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v818 : Index := Scalar.indexCast arg12
  let c464 : Index := 464#32
  ![v818.toNat, 464]
def k1_off165 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v823 : Index := Scalar.indexCast arg12
  let c480 : Index := 480#32
  ![v823.toNat, 480]
def k1_off166 (k1_t5 : Fin k1_t5_loop.trips) : Fin 2 → Nat :=
  let c0_i32_272 : BitVec 32 := 0#32
  let c1_i32_274 : BitVec 32 := 1#32
  let arg12 : BitVec 32 := Scf.iv c0_i32_272 c1_i32_274 k1_t5
  let v828 : Index := Scalar.indexCast arg12
  let c496 : Index := 496#32
  ![v828.toNat, 496]
def k1_off167 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_286 : BitVec 32 := 0#32
  let c384_i32 : BitVec 32 := 384#32
  let c0_i32_287 : BitVec 32 := 0#32
  ![v1.toNat, 0, 384, 0]
@[reducible] def k1_t6_loop : Scf.Loop 32 :=
  let c0_i32_296 : BitVec 32 := 0#32
  let c64_i32_297 : BitVec 32 := 64#32
  let v362 : BitVec 32 := Scalar.addi c0_i32_296 c64_i32_297
  let c1_i32_298 : BitVec 32 := 1#32
  ⟨c0_i32_296, v362, c1_i32_298⟩
def k1_off168 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v673 : Index := Scalar.indexCast arg12
  let c0_754 : Index := 0#32
  ![v673.toNat, 0]
def k1_off169 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v678 : Index := Scalar.indexCast arg12
  let c16 : Index := 16#32
  ![v678.toNat, 16]
def k1_off170 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v683 : Index := Scalar.indexCast arg12
  let c32 : Index := 32#32
  ![v683.toNat, 32]
def k1_off171 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v688 : Index := Scalar.indexCast arg12
  let c48 : Index := 48#32
  ![v688.toNat, 48]
def k1_off172 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v693 : Index := Scalar.indexCast arg12
  let c64 : Index := 64#32
  ![v693.toNat, 64]
def k1_off173 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v698 : Index := Scalar.indexCast arg12
  let c80 : Index := 80#32
  ![v698.toNat, 80]
def k1_off174 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v703 : Index := Scalar.indexCast arg12
  let c96 : Index := 96#32
  ![v703.toNat, 96]
def k1_off175 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v708 : Index := Scalar.indexCast arg12
  let c112 : Index := 112#32
  ![v708.toNat, 112]
def k1_off176 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v713 : Index := Scalar.indexCast arg12
  let c128 : Index := 128#32
  ![v713.toNat, 128]
def k1_off177 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v718 : Index := Scalar.indexCast arg12
  let c144 : Index := 144#32
  ![v718.toNat, 144]
def k1_off178 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v723 : Index := Scalar.indexCast arg12
  let c160 : Index := 160#32
  ![v723.toNat, 160]
def k1_off179 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v728 : Index := Scalar.indexCast arg12
  let c176 : Index := 176#32
  ![v728.toNat, 176]
def k1_off180 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v733 : Index := Scalar.indexCast arg12
  let c192 : Index := 192#32
  ![v733.toNat, 192]
def k1_off181 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v738 : Index := Scalar.indexCast arg12
  let c208 : Index := 208#32
  ![v738.toNat, 208]
def k1_off182 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v743 : Index := Scalar.indexCast arg12
  let c224 : Index := 224#32
  ![v743.toNat, 224]
def k1_off183 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v748 : Index := Scalar.indexCast arg12
  let c240 : Index := 240#32
  ![v748.toNat, 240]
def k1_off184 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v753 : Index := Scalar.indexCast arg12
  let c256 : Index := 256#32
  ![v753.toNat, 256]
def k1_off185 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v758 : Index := Scalar.indexCast arg12
  let c272 : Index := 272#32
  ![v758.toNat, 272]
def k1_off186 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v763 : Index := Scalar.indexCast arg12
  let c288 : Index := 288#32
  ![v763.toNat, 288]
def k1_off187 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v768 : Index := Scalar.indexCast arg12
  let c304 : Index := 304#32
  ![v768.toNat, 304]
def k1_off188 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v773 : Index := Scalar.indexCast arg12
  let c320 : Index := 320#32
  ![v773.toNat, 320]
def k1_off189 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v778 : Index := Scalar.indexCast arg12
  let c336 : Index := 336#32
  ![v778.toNat, 336]
def k1_off190 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v783 : Index := Scalar.indexCast arg12
  let c352 : Index := 352#32
  ![v783.toNat, 352]
def k1_off191 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v788 : Index := Scalar.indexCast arg12
  let c368 : Index := 368#32
  ![v788.toNat, 368]
def k1_off192 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v793 : Index := Scalar.indexCast arg12
  let c384 : Index := 384#32
  ![v793.toNat, 384]
def k1_off193 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v798 : Index := Scalar.indexCast arg12
  let c400 : Index := 400#32
  ![v798.toNat, 400]
def k1_off194 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v803 : Index := Scalar.indexCast arg12
  let c416 : Index := 416#32
  ![v803.toNat, 416]
def k1_off195 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v808 : Index := Scalar.indexCast arg12
  let c432 : Index := 432#32
  ![v808.toNat, 432]
def k1_off196 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v813 : Index := Scalar.indexCast arg12
  let c448 : Index := 448#32
  ![v813.toNat, 448]
def k1_off197 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v818 : Index := Scalar.indexCast arg12
  let c464 : Index := 464#32
  ![v818.toNat, 464]
def k1_off198 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v823 : Index := Scalar.indexCast arg12
  let c480 : Index := 480#32
  ![v823.toNat, 480]
def k1_off199 (k1_t6 : Fin k1_t6_loop.trips) : Fin 2 → Nat :=
  let c0_i32_296 : BitVec 32 := 0#32
  let c1_i32_298 : BitVec 32 := 1#32
  let arg12 : BitVec 32 := Scf.iv c0_i32_296 c1_i32_298 k1_t6
  let v828 : Index := Scalar.indexCast arg12
  let c496 : Index := 496#32
  ![v828.toNat, 496]
def k1_off200 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_310 : BitVec 32 := 0#32
  let c448_i32 : BitVec 32 := 448#32
  let c0_i32_311 : BitVec 32 := 0#32
  ![v1.toNat, 0, 448, 0]
@[reducible] def k1_t7_loop : Scf.Loop 32 :=
  let c0_i32_320 : BitVec 32 := 0#32
  let c64_i32_321 : BitVec 32 := 64#32
  let v379 : BitVec 32 := Scalar.addi c0_i32_320 c64_i32_321
  let c1_i32_322 : BitVec 32 := 1#32
  ⟨c0_i32_320, v379, c1_i32_322⟩
def k1_off201 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v673 : Index := Scalar.indexCast arg12
  let c0_754 : Index := 0#32
  ![v673.toNat, 0]
def k1_off202 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v678 : Index := Scalar.indexCast arg12
  let c16 : Index := 16#32
  ![v678.toNat, 16]
def k1_off203 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v683 : Index := Scalar.indexCast arg12
  let c32 : Index := 32#32
  ![v683.toNat, 32]
def k1_off204 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v688 : Index := Scalar.indexCast arg12
  let c48 : Index := 48#32
  ![v688.toNat, 48]
def k1_off205 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v693 : Index := Scalar.indexCast arg12
  let c64 : Index := 64#32
  ![v693.toNat, 64]
def k1_off206 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v698 : Index := Scalar.indexCast arg12
  let c80 : Index := 80#32
  ![v698.toNat, 80]
def k1_off207 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v703 : Index := Scalar.indexCast arg12
  let c96 : Index := 96#32
  ![v703.toNat, 96]
def k1_off208 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v708 : Index := Scalar.indexCast arg12
  let c112 : Index := 112#32
  ![v708.toNat, 112]
def k1_off209 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v713 : Index := Scalar.indexCast arg12
  let c128 : Index := 128#32
  ![v713.toNat, 128]
def k1_off210 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v718 : Index := Scalar.indexCast arg12
  let c144 : Index := 144#32
  ![v718.toNat, 144]
def k1_off211 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v723 : Index := Scalar.indexCast arg12
  let c160 : Index := 160#32
  ![v723.toNat, 160]
def k1_off212 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v728 : Index := Scalar.indexCast arg12
  let c176 : Index := 176#32
  ![v728.toNat, 176]
def k1_off213 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v733 : Index := Scalar.indexCast arg12
  let c192 : Index := 192#32
  ![v733.toNat, 192]
def k1_off214 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v738 : Index := Scalar.indexCast arg12
  let c208 : Index := 208#32
  ![v738.toNat, 208]
def k1_off215 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v743 : Index := Scalar.indexCast arg12
  let c224 : Index := 224#32
  ![v743.toNat, 224]
def k1_off216 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v748 : Index := Scalar.indexCast arg12
  let c240 : Index := 240#32
  ![v748.toNat, 240]
def k1_off217 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v753 : Index := Scalar.indexCast arg12
  let c256 : Index := 256#32
  ![v753.toNat, 256]
def k1_off218 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v758 : Index := Scalar.indexCast arg12
  let c272 : Index := 272#32
  ![v758.toNat, 272]
def k1_off219 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v763 : Index := Scalar.indexCast arg12
  let c288 : Index := 288#32
  ![v763.toNat, 288]
def k1_off220 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v768 : Index := Scalar.indexCast arg12
  let c304 : Index := 304#32
  ![v768.toNat, 304]
def k1_off221 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v773 : Index := Scalar.indexCast arg12
  let c320 : Index := 320#32
  ![v773.toNat, 320]
def k1_off222 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v778 : Index := Scalar.indexCast arg12
  let c336 : Index := 336#32
  ![v778.toNat, 336]
def k1_off223 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v783 : Index := Scalar.indexCast arg12
  let c352 : Index := 352#32
  ![v783.toNat, 352]
def k1_off224 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v788 : Index := Scalar.indexCast arg12
  let c368 : Index := 368#32
  ![v788.toNat, 368]
def k1_off225 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v793 : Index := Scalar.indexCast arg12
  let c384 : Index := 384#32
  ![v793.toNat, 384]
def k1_off226 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v798 : Index := Scalar.indexCast arg12
  let c400 : Index := 400#32
  ![v798.toNat, 400]
def k1_off227 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v803 : Index := Scalar.indexCast arg12
  let c416 : Index := 416#32
  ![v803.toNat, 416]
def k1_off228 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v808 : Index := Scalar.indexCast arg12
  let c432 : Index := 432#32
  ![v808.toNat, 432]
def k1_off229 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v813 : Index := Scalar.indexCast arg12
  let c448 : Index := 448#32
  ![v813.toNat, 448]
def k1_off230 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v818 : Index := Scalar.indexCast arg12
  let c464 : Index := 464#32
  ![v818.toNat, 464]
def k1_off231 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v823 : Index := Scalar.indexCast arg12
  let c480 : Index := 480#32
  ![v823.toNat, 480]
def k1_off232 (k1_t7 : Fin k1_t7_loop.trips) : Fin 2 → Nat :=
  let c0_i32_320 : BitVec 32 := 0#32
  let c1_i32_322 : BitVec 32 := 1#32
  let arg12 : BitVec 32 := Scf.iv c0_i32_320 c1_i32_322 k1_t7
  let v828 : Index := Scalar.indexCast arg12
  let c496 : Index := 496#32
  ![v828.toNat, 496]
def k1_off233 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_334 : BitVec 32 := 1#32
  let c0_i32_335 : BitVec 32 := 0#32
  let c0_i32_336 : BitVec 32 := 0#32
  ![v1.toNat, 1, 0, 0]
@[reducible] def k1_t8_loop : Scf.Loop 32 :=
  let c0_i32_345 : BitVec 32 := 0#32
  let c64_i32_346 : BitVec 32 := 64#32
  let v396 : BitVec 32 := Scalar.addi c0_i32_345 c64_i32_346
  let c1_i32_347 : BitVec 32 := 1#32
  ⟨c0_i32_345, v396, c1_i32_347⟩
def k1_off234 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v673 : Index := Scalar.indexCast arg12
  let c0_754 : Index := 0#32
  ![v673.toNat, 0]
def k1_off235 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v678 : Index := Scalar.indexCast arg12
  let c16 : Index := 16#32
  ![v678.toNat, 16]
def k1_off236 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v683 : Index := Scalar.indexCast arg12
  let c32 : Index := 32#32
  ![v683.toNat, 32]
def k1_off237 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v688 : Index := Scalar.indexCast arg12
  let c48 : Index := 48#32
  ![v688.toNat, 48]
def k1_off238 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v693 : Index := Scalar.indexCast arg12
  let c64 : Index := 64#32
  ![v693.toNat, 64]
def k1_off239 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v698 : Index := Scalar.indexCast arg12
  let c80 : Index := 80#32
  ![v698.toNat, 80]
def k1_off240 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v703 : Index := Scalar.indexCast arg12
  let c96 : Index := 96#32
  ![v703.toNat, 96]
def k1_off241 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v708 : Index := Scalar.indexCast arg12
  let c112 : Index := 112#32
  ![v708.toNat, 112]
def k1_off242 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v713 : Index := Scalar.indexCast arg12
  let c128 : Index := 128#32
  ![v713.toNat, 128]
def k1_off243 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v718 : Index := Scalar.indexCast arg12
  let c144 : Index := 144#32
  ![v718.toNat, 144]
def k1_off244 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v723 : Index := Scalar.indexCast arg12
  let c160 : Index := 160#32
  ![v723.toNat, 160]
def k1_off245 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v728 : Index := Scalar.indexCast arg12
  let c176 : Index := 176#32
  ![v728.toNat, 176]
def k1_off246 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v733 : Index := Scalar.indexCast arg12
  let c192 : Index := 192#32
  ![v733.toNat, 192]
def k1_off247 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v738 : Index := Scalar.indexCast arg12
  let c208 : Index := 208#32
  ![v738.toNat, 208]
def k1_off248 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v743 : Index := Scalar.indexCast arg12
  let c224 : Index := 224#32
  ![v743.toNat, 224]
def k1_off249 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v748 : Index := Scalar.indexCast arg12
  let c240 : Index := 240#32
  ![v748.toNat, 240]
def k1_off250 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v753 : Index := Scalar.indexCast arg12
  let c256 : Index := 256#32
  ![v753.toNat, 256]
def k1_off251 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v758 : Index := Scalar.indexCast arg12
  let c272 : Index := 272#32
  ![v758.toNat, 272]
def k1_off252 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v763 : Index := Scalar.indexCast arg12
  let c288 : Index := 288#32
  ![v763.toNat, 288]
def k1_off253 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v768 : Index := Scalar.indexCast arg12
  let c304 : Index := 304#32
  ![v768.toNat, 304]
def k1_off254 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v773 : Index := Scalar.indexCast arg12
  let c320 : Index := 320#32
  ![v773.toNat, 320]
def k1_off255 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v778 : Index := Scalar.indexCast arg12
  let c336 : Index := 336#32
  ![v778.toNat, 336]
def k1_off256 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v783 : Index := Scalar.indexCast arg12
  let c352 : Index := 352#32
  ![v783.toNat, 352]
def k1_off257 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v788 : Index := Scalar.indexCast arg12
  let c368 : Index := 368#32
  ![v788.toNat, 368]
def k1_off258 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v793 : Index := Scalar.indexCast arg12
  let c384 : Index := 384#32
  ![v793.toNat, 384]
def k1_off259 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v798 : Index := Scalar.indexCast arg12
  let c400 : Index := 400#32
  ![v798.toNat, 400]
def k1_off260 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v803 : Index := Scalar.indexCast arg12
  let c416 : Index := 416#32
  ![v803.toNat, 416]
def k1_off261 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v808 : Index := Scalar.indexCast arg12
  let c432 : Index := 432#32
  ![v808.toNat, 432]
def k1_off262 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v813 : Index := Scalar.indexCast arg12
  let c448 : Index := 448#32
  ![v813.toNat, 448]
def k1_off263 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v818 : Index := Scalar.indexCast arg12
  let c464 : Index := 464#32
  ![v818.toNat, 464]
def k1_off264 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v823 : Index := Scalar.indexCast arg12
  let c480 : Index := 480#32
  ![v823.toNat, 480]
def k1_off265 (k1_t8 : Fin k1_t8_loop.trips) : Fin 2 → Nat :=
  let c0_i32_345 : BitVec 32 := 0#32
  let c1_i32_347 : BitVec 32 := 1#32
  let arg12 : BitVec 32 := Scf.iv c0_i32_345 c1_i32_347 k1_t8
  let v828 : Index := Scalar.indexCast arg12
  let c496 : Index := 496#32
  ![v828.toNat, 496]
def k1_off266 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_359 : BitVec 32 := 1#32
  let c64_i32_360 : BitVec 32 := 64#32
  let c0_i32_361 : BitVec 32 := 0#32
  ![v1.toNat, 1, 64, 0]
@[reducible] def k1_t9_loop : Scf.Loop 32 :=
  let c0_i32_370 : BitVec 32 := 0#32
  let c64_i32_371 : BitVec 32 := 64#32
  let v413 : BitVec 32 := Scalar.addi c0_i32_370 c64_i32_371
  let c1_i32_372 : BitVec 32 := 1#32
  ⟨c0_i32_370, v413, c1_i32_372⟩
def k1_off267 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v673 : Index := Scalar.indexCast arg12
  let c0_754 : Index := 0#32
  ![v673.toNat, 0]
def k1_off268 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v678 : Index := Scalar.indexCast arg12
  let c16 : Index := 16#32
  ![v678.toNat, 16]
def k1_off269 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v683 : Index := Scalar.indexCast arg12
  let c32 : Index := 32#32
  ![v683.toNat, 32]
def k1_off270 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v688 : Index := Scalar.indexCast arg12
  let c48 : Index := 48#32
  ![v688.toNat, 48]
def k1_off271 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v693 : Index := Scalar.indexCast arg12
  let c64 : Index := 64#32
  ![v693.toNat, 64]
def k1_off272 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v698 : Index := Scalar.indexCast arg12
  let c80 : Index := 80#32
  ![v698.toNat, 80]
def k1_off273 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v703 : Index := Scalar.indexCast arg12
  let c96 : Index := 96#32
  ![v703.toNat, 96]
def k1_off274 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v708 : Index := Scalar.indexCast arg12
  let c112 : Index := 112#32
  ![v708.toNat, 112]
def k1_off275 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v713 : Index := Scalar.indexCast arg12
  let c128 : Index := 128#32
  ![v713.toNat, 128]
def k1_off276 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v718 : Index := Scalar.indexCast arg12
  let c144 : Index := 144#32
  ![v718.toNat, 144]
def k1_off277 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v723 : Index := Scalar.indexCast arg12
  let c160 : Index := 160#32
  ![v723.toNat, 160]
def k1_off278 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v728 : Index := Scalar.indexCast arg12
  let c176 : Index := 176#32
  ![v728.toNat, 176]
def k1_off279 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v733 : Index := Scalar.indexCast arg12
  let c192 : Index := 192#32
  ![v733.toNat, 192]
def k1_off280 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v738 : Index := Scalar.indexCast arg12
  let c208 : Index := 208#32
  ![v738.toNat, 208]
def k1_off281 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v743 : Index := Scalar.indexCast arg12
  let c224 : Index := 224#32
  ![v743.toNat, 224]
def k1_off282 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v748 : Index := Scalar.indexCast arg12
  let c240 : Index := 240#32
  ![v748.toNat, 240]
def k1_off283 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v753 : Index := Scalar.indexCast arg12
  let c256 : Index := 256#32
  ![v753.toNat, 256]
def k1_off284 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v758 : Index := Scalar.indexCast arg12
  let c272 : Index := 272#32
  ![v758.toNat, 272]
def k1_off285 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v763 : Index := Scalar.indexCast arg12
  let c288 : Index := 288#32
  ![v763.toNat, 288]
def k1_off286 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v768 : Index := Scalar.indexCast arg12
  let c304 : Index := 304#32
  ![v768.toNat, 304]
def k1_off287 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v773 : Index := Scalar.indexCast arg12
  let c320 : Index := 320#32
  ![v773.toNat, 320]
def k1_off288 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v778 : Index := Scalar.indexCast arg12
  let c336 : Index := 336#32
  ![v778.toNat, 336]
def k1_off289 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v783 : Index := Scalar.indexCast arg12
  let c352 : Index := 352#32
  ![v783.toNat, 352]
def k1_off290 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v788 : Index := Scalar.indexCast arg12
  let c368 : Index := 368#32
  ![v788.toNat, 368]
def k1_off291 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v793 : Index := Scalar.indexCast arg12
  let c384 : Index := 384#32
  ![v793.toNat, 384]
def k1_off292 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v798 : Index := Scalar.indexCast arg12
  let c400 : Index := 400#32
  ![v798.toNat, 400]
def k1_off293 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v803 : Index := Scalar.indexCast arg12
  let c416 : Index := 416#32
  ![v803.toNat, 416]
def k1_off294 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v808 : Index := Scalar.indexCast arg12
  let c432 : Index := 432#32
  ![v808.toNat, 432]
def k1_off295 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v813 : Index := Scalar.indexCast arg12
  let c448 : Index := 448#32
  ![v813.toNat, 448]
def k1_off296 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v818 : Index := Scalar.indexCast arg12
  let c464 : Index := 464#32
  ![v818.toNat, 464]
def k1_off297 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v823 : Index := Scalar.indexCast arg12
  let c480 : Index := 480#32
  ![v823.toNat, 480]
def k1_off298 (k1_t9 : Fin k1_t9_loop.trips) : Fin 2 → Nat :=
  let c0_i32_370 : BitVec 32 := 0#32
  let c1_i32_372 : BitVec 32 := 1#32
  let arg12 : BitVec 32 := Scf.iv c0_i32_370 c1_i32_372 k1_t9
  let v828 : Index := Scalar.indexCast arg12
  let c496 : Index := 496#32
  ![v828.toNat, 496]
def k1_off299 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_384 : BitVec 32 := 1#32
  let c128_i32_385 : BitVec 32 := 128#32
  let c0_i32_386 : BitVec 32 := 0#32
  ![v1.toNat, 1, 128, 0]
@[reducible] def k1_t10_loop : Scf.Loop 32 :=
  let c0_i32_395 : BitVec 32 := 0#32
  let c64_i32_396 : BitVec 32 := 64#32
  let v430 : BitVec 32 := Scalar.addi c0_i32_395 c64_i32_396
  let c1_i32_397 : BitVec 32 := 1#32
  ⟨c0_i32_395, v430, c1_i32_397⟩
def k1_off300 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v673 : Index := Scalar.indexCast arg12
  let c0_754 : Index := 0#32
  ![v673.toNat, 0]
def k1_off301 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v678 : Index := Scalar.indexCast arg12
  let c16 : Index := 16#32
  ![v678.toNat, 16]
def k1_off302 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v683 : Index := Scalar.indexCast arg12
  let c32 : Index := 32#32
  ![v683.toNat, 32]
def k1_off303 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v688 : Index := Scalar.indexCast arg12
  let c48 : Index := 48#32
  ![v688.toNat, 48]
def k1_off304 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v693 : Index := Scalar.indexCast arg12
  let c64 : Index := 64#32
  ![v693.toNat, 64]
def k1_off305 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v698 : Index := Scalar.indexCast arg12
  let c80 : Index := 80#32
  ![v698.toNat, 80]
def k1_off306 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v703 : Index := Scalar.indexCast arg12
  let c96 : Index := 96#32
  ![v703.toNat, 96]
def k1_off307 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v708 : Index := Scalar.indexCast arg12
  let c112 : Index := 112#32
  ![v708.toNat, 112]
def k1_off308 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v713 : Index := Scalar.indexCast arg12
  let c128 : Index := 128#32
  ![v713.toNat, 128]
def k1_off309 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v718 : Index := Scalar.indexCast arg12
  let c144 : Index := 144#32
  ![v718.toNat, 144]
def k1_off310 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v723 : Index := Scalar.indexCast arg12
  let c160 : Index := 160#32
  ![v723.toNat, 160]
def k1_off311 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v728 : Index := Scalar.indexCast arg12
  let c176 : Index := 176#32
  ![v728.toNat, 176]
def k1_off312 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v733 : Index := Scalar.indexCast arg12
  let c192 : Index := 192#32
  ![v733.toNat, 192]
def k1_off313 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v738 : Index := Scalar.indexCast arg12
  let c208 : Index := 208#32
  ![v738.toNat, 208]
def k1_off314 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v743 : Index := Scalar.indexCast arg12
  let c224 : Index := 224#32
  ![v743.toNat, 224]
def k1_off315 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v748 : Index := Scalar.indexCast arg12
  let c240 : Index := 240#32
  ![v748.toNat, 240]
def k1_off316 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v753 : Index := Scalar.indexCast arg12
  let c256 : Index := 256#32
  ![v753.toNat, 256]
def k1_off317 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v758 : Index := Scalar.indexCast arg12
  let c272 : Index := 272#32
  ![v758.toNat, 272]
def k1_off318 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v763 : Index := Scalar.indexCast arg12
  let c288 : Index := 288#32
  ![v763.toNat, 288]
def k1_off319 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v768 : Index := Scalar.indexCast arg12
  let c304 : Index := 304#32
  ![v768.toNat, 304]
def k1_off320 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v773 : Index := Scalar.indexCast arg12
  let c320 : Index := 320#32
  ![v773.toNat, 320]
def k1_off321 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v778 : Index := Scalar.indexCast arg12
  let c336 : Index := 336#32
  ![v778.toNat, 336]
def k1_off322 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v783 : Index := Scalar.indexCast arg12
  let c352 : Index := 352#32
  ![v783.toNat, 352]
def k1_off323 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v788 : Index := Scalar.indexCast arg12
  let c368 : Index := 368#32
  ![v788.toNat, 368]
def k1_off324 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v793 : Index := Scalar.indexCast arg12
  let c384 : Index := 384#32
  ![v793.toNat, 384]
def k1_off325 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v798 : Index := Scalar.indexCast arg12
  let c400 : Index := 400#32
  ![v798.toNat, 400]
def k1_off326 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v803 : Index := Scalar.indexCast arg12
  let c416 : Index := 416#32
  ![v803.toNat, 416]
def k1_off327 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v808 : Index := Scalar.indexCast arg12
  let c432 : Index := 432#32
  ![v808.toNat, 432]
def k1_off328 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v813 : Index := Scalar.indexCast arg12
  let c448 : Index := 448#32
  ![v813.toNat, 448]
def k1_off329 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v818 : Index := Scalar.indexCast arg12
  let c464 : Index := 464#32
  ![v818.toNat, 464]
def k1_off330 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v823 : Index := Scalar.indexCast arg12
  let c480 : Index := 480#32
  ![v823.toNat, 480]
def k1_off331 (k1_t10 : Fin k1_t10_loop.trips) : Fin 2 → Nat :=
  let c0_i32_395 : BitVec 32 := 0#32
  let c1_i32_397 : BitVec 32 := 1#32
  let arg12 : BitVec 32 := Scf.iv c0_i32_395 c1_i32_397 k1_t10
  let v828 : Index := Scalar.indexCast arg12
  let c496 : Index := 496#32
  ![v828.toNat, 496]
def k1_off332 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_409 : BitVec 32 := 1#32
  let c192_i32_410 : BitVec 32 := 192#32
  let c0_i32_411 : BitVec 32 := 0#32
  ![v1.toNat, 1, 192, 0]
@[reducible] def k1_t11_loop : Scf.Loop 32 :=
  let c0_i32_420 : BitVec 32 := 0#32
  let c64_i32_421 : BitVec 32 := 64#32
  let v447 : BitVec 32 := Scalar.addi c0_i32_420 c64_i32_421
  let c1_i32_422 : BitVec 32 := 1#32
  ⟨c0_i32_420, v447, c1_i32_422⟩
def k1_off333 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v673 : Index := Scalar.indexCast arg12
  let c0_754 : Index := 0#32
  ![v673.toNat, 0]
def k1_off334 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v678 : Index := Scalar.indexCast arg12
  let c16 : Index := 16#32
  ![v678.toNat, 16]
def k1_off335 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v683 : Index := Scalar.indexCast arg12
  let c32 : Index := 32#32
  ![v683.toNat, 32]
def k1_off336 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v688 : Index := Scalar.indexCast arg12
  let c48 : Index := 48#32
  ![v688.toNat, 48]
def k1_off337 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v693 : Index := Scalar.indexCast arg12
  let c64 : Index := 64#32
  ![v693.toNat, 64]
def k1_off338 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v698 : Index := Scalar.indexCast arg12
  let c80 : Index := 80#32
  ![v698.toNat, 80]
def k1_off339 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v703 : Index := Scalar.indexCast arg12
  let c96 : Index := 96#32
  ![v703.toNat, 96]
def k1_off340 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v708 : Index := Scalar.indexCast arg12
  let c112 : Index := 112#32
  ![v708.toNat, 112]
def k1_off341 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v713 : Index := Scalar.indexCast arg12
  let c128 : Index := 128#32
  ![v713.toNat, 128]
def k1_off342 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v718 : Index := Scalar.indexCast arg12
  let c144 : Index := 144#32
  ![v718.toNat, 144]
def k1_off343 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v723 : Index := Scalar.indexCast arg12
  let c160 : Index := 160#32
  ![v723.toNat, 160]
def k1_off344 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v728 : Index := Scalar.indexCast arg12
  let c176 : Index := 176#32
  ![v728.toNat, 176]
def k1_off345 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v733 : Index := Scalar.indexCast arg12
  let c192 : Index := 192#32
  ![v733.toNat, 192]
def k1_off346 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v738 : Index := Scalar.indexCast arg12
  let c208 : Index := 208#32
  ![v738.toNat, 208]
def k1_off347 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v743 : Index := Scalar.indexCast arg12
  let c224 : Index := 224#32
  ![v743.toNat, 224]
def k1_off348 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v748 : Index := Scalar.indexCast arg12
  let c240 : Index := 240#32
  ![v748.toNat, 240]
def k1_off349 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v753 : Index := Scalar.indexCast arg12
  let c256 : Index := 256#32
  ![v753.toNat, 256]
def k1_off350 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v758 : Index := Scalar.indexCast arg12
  let c272 : Index := 272#32
  ![v758.toNat, 272]
def k1_off351 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v763 : Index := Scalar.indexCast arg12
  let c288 : Index := 288#32
  ![v763.toNat, 288]
def k1_off352 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v768 : Index := Scalar.indexCast arg12
  let c304 : Index := 304#32
  ![v768.toNat, 304]
def k1_off353 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v773 : Index := Scalar.indexCast arg12
  let c320 : Index := 320#32
  ![v773.toNat, 320]
def k1_off354 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v778 : Index := Scalar.indexCast arg12
  let c336 : Index := 336#32
  ![v778.toNat, 336]
def k1_off355 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v783 : Index := Scalar.indexCast arg12
  let c352 : Index := 352#32
  ![v783.toNat, 352]
def k1_off356 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v788 : Index := Scalar.indexCast arg12
  let c368 : Index := 368#32
  ![v788.toNat, 368]
def k1_off357 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v793 : Index := Scalar.indexCast arg12
  let c384 : Index := 384#32
  ![v793.toNat, 384]
def k1_off358 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v798 : Index := Scalar.indexCast arg12
  let c400 : Index := 400#32
  ![v798.toNat, 400]
def k1_off359 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v803 : Index := Scalar.indexCast arg12
  let c416 : Index := 416#32
  ![v803.toNat, 416]
def k1_off360 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v808 : Index := Scalar.indexCast arg12
  let c432 : Index := 432#32
  ![v808.toNat, 432]
def k1_off361 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v813 : Index := Scalar.indexCast arg12
  let c448 : Index := 448#32
  ![v813.toNat, 448]
def k1_off362 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v818 : Index := Scalar.indexCast arg12
  let c464 : Index := 464#32
  ![v818.toNat, 464]
def k1_off363 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v823 : Index := Scalar.indexCast arg12
  let c480 : Index := 480#32
  ![v823.toNat, 480]
def k1_off364 (k1_t11 : Fin k1_t11_loop.trips) : Fin 2 → Nat :=
  let c0_i32_420 : BitVec 32 := 0#32
  let c1_i32_422 : BitVec 32 := 1#32
  let arg12 : BitVec 32 := Scf.iv c0_i32_420 c1_i32_422 k1_t11
  let v828 : Index := Scalar.indexCast arg12
  let c496 : Index := 496#32
  ![v828.toNat, 496]
def k1_off365 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_434 : BitVec 32 := 1#32
  let c256_i32_435 : BitVec 32 := 256#32
  let c0_i32_436 : BitVec 32 := 0#32
  ![v1.toNat, 1, 256, 0]
@[reducible] def k1_t12_loop : Scf.Loop 32 :=
  let c0_i32_445 : BitVec 32 := 0#32
  let c64_i32_446 : BitVec 32 := 64#32
  let v464 : BitVec 32 := Scalar.addi c0_i32_445 c64_i32_446
  let c1_i32_447 : BitVec 32 := 1#32
  ⟨c0_i32_445, v464, c1_i32_447⟩
def k1_off366 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v673 : Index := Scalar.indexCast arg12
  let c0_754 : Index := 0#32
  ![v673.toNat, 0]
def k1_off367 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v678 : Index := Scalar.indexCast arg12
  let c16 : Index := 16#32
  ![v678.toNat, 16]
def k1_off368 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v683 : Index := Scalar.indexCast arg12
  let c32 : Index := 32#32
  ![v683.toNat, 32]
def k1_off369 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v688 : Index := Scalar.indexCast arg12
  let c48 : Index := 48#32
  ![v688.toNat, 48]
def k1_off370 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v693 : Index := Scalar.indexCast arg12
  let c64 : Index := 64#32
  ![v693.toNat, 64]
def k1_off371 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v698 : Index := Scalar.indexCast arg12
  let c80 : Index := 80#32
  ![v698.toNat, 80]
def k1_off372 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v703 : Index := Scalar.indexCast arg12
  let c96 : Index := 96#32
  ![v703.toNat, 96]
def k1_off373 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v708 : Index := Scalar.indexCast arg12
  let c112 : Index := 112#32
  ![v708.toNat, 112]
def k1_off374 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v713 : Index := Scalar.indexCast arg12
  let c128 : Index := 128#32
  ![v713.toNat, 128]
def k1_off375 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v718 : Index := Scalar.indexCast arg12
  let c144 : Index := 144#32
  ![v718.toNat, 144]
def k1_off376 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v723 : Index := Scalar.indexCast arg12
  let c160 : Index := 160#32
  ![v723.toNat, 160]
def k1_off377 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v728 : Index := Scalar.indexCast arg12
  let c176 : Index := 176#32
  ![v728.toNat, 176]
def k1_off378 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v733 : Index := Scalar.indexCast arg12
  let c192 : Index := 192#32
  ![v733.toNat, 192]
def k1_off379 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v738 : Index := Scalar.indexCast arg12
  let c208 : Index := 208#32
  ![v738.toNat, 208]
def k1_off380 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v743 : Index := Scalar.indexCast arg12
  let c224 : Index := 224#32
  ![v743.toNat, 224]
def k1_off381 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v748 : Index := Scalar.indexCast arg12
  let c240 : Index := 240#32
  ![v748.toNat, 240]
def k1_off382 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v753 : Index := Scalar.indexCast arg12
  let c256 : Index := 256#32
  ![v753.toNat, 256]
def k1_off383 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v758 : Index := Scalar.indexCast arg12
  let c272 : Index := 272#32
  ![v758.toNat, 272]
def k1_off384 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v763 : Index := Scalar.indexCast arg12
  let c288 : Index := 288#32
  ![v763.toNat, 288]
def k1_off385 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v768 : Index := Scalar.indexCast arg12
  let c304 : Index := 304#32
  ![v768.toNat, 304]
def k1_off386 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v773 : Index := Scalar.indexCast arg12
  let c320 : Index := 320#32
  ![v773.toNat, 320]
def k1_off387 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v778 : Index := Scalar.indexCast arg12
  let c336 : Index := 336#32
  ![v778.toNat, 336]
def k1_off388 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v783 : Index := Scalar.indexCast arg12
  let c352 : Index := 352#32
  ![v783.toNat, 352]
def k1_off389 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v788 : Index := Scalar.indexCast arg12
  let c368 : Index := 368#32
  ![v788.toNat, 368]
def k1_off390 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v793 : Index := Scalar.indexCast arg12
  let c384 : Index := 384#32
  ![v793.toNat, 384]
def k1_off391 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v798 : Index := Scalar.indexCast arg12
  let c400 : Index := 400#32
  ![v798.toNat, 400]
def k1_off392 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v803 : Index := Scalar.indexCast arg12
  let c416 : Index := 416#32
  ![v803.toNat, 416]
def k1_off393 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v808 : Index := Scalar.indexCast arg12
  let c432 : Index := 432#32
  ![v808.toNat, 432]
def k1_off394 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v813 : Index := Scalar.indexCast arg12
  let c448 : Index := 448#32
  ![v813.toNat, 448]
def k1_off395 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v818 : Index := Scalar.indexCast arg12
  let c464 : Index := 464#32
  ![v818.toNat, 464]
def k1_off396 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v823 : Index := Scalar.indexCast arg12
  let c480 : Index := 480#32
  ![v823.toNat, 480]
def k1_off397 (k1_t12 : Fin k1_t12_loop.trips) : Fin 2 → Nat :=
  let c0_i32_445 : BitVec 32 := 0#32
  let c1_i32_447 : BitVec 32 := 1#32
  let arg12 : BitVec 32 := Scf.iv c0_i32_445 c1_i32_447 k1_t12
  let v828 : Index := Scalar.indexCast arg12
  let c496 : Index := 496#32
  ![v828.toNat, 496]
def k1_off398 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_459 : BitVec 32 := 1#32
  let c320_i32_460 : BitVec 32 := 320#32
  let c0_i32_461 : BitVec 32 := 0#32
  ![v1.toNat, 1, 320, 0]
@[reducible] def k1_t13_loop : Scf.Loop 32 :=
  let c0_i32_470 : BitVec 32 := 0#32
  let c64_i32_471 : BitVec 32 := 64#32
  let v481 : BitVec 32 := Scalar.addi c0_i32_470 c64_i32_471
  let c1_i32_472 : BitVec 32 := 1#32
  ⟨c0_i32_470, v481, c1_i32_472⟩
def k1_off399 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v673 : Index := Scalar.indexCast arg12
  let c0_754 : Index := 0#32
  ![v673.toNat, 0]
def k1_off400 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v678 : Index := Scalar.indexCast arg12
  let c16 : Index := 16#32
  ![v678.toNat, 16]
def k1_off401 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v683 : Index := Scalar.indexCast arg12
  let c32 : Index := 32#32
  ![v683.toNat, 32]
def k1_off402 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v688 : Index := Scalar.indexCast arg12
  let c48 : Index := 48#32
  ![v688.toNat, 48]
def k1_off403 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v693 : Index := Scalar.indexCast arg12
  let c64 : Index := 64#32
  ![v693.toNat, 64]
def k1_off404 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v698 : Index := Scalar.indexCast arg12
  let c80 : Index := 80#32
  ![v698.toNat, 80]
def k1_off405 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v703 : Index := Scalar.indexCast arg12
  let c96 : Index := 96#32
  ![v703.toNat, 96]
def k1_off406 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v708 : Index := Scalar.indexCast arg12
  let c112 : Index := 112#32
  ![v708.toNat, 112]
def k1_off407 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v713 : Index := Scalar.indexCast arg12
  let c128 : Index := 128#32
  ![v713.toNat, 128]
def k1_off408 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v718 : Index := Scalar.indexCast arg12
  let c144 : Index := 144#32
  ![v718.toNat, 144]
def k1_off409 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v723 : Index := Scalar.indexCast arg12
  let c160 : Index := 160#32
  ![v723.toNat, 160]
def k1_off410 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v728 : Index := Scalar.indexCast arg12
  let c176 : Index := 176#32
  ![v728.toNat, 176]
def k1_off411 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v733 : Index := Scalar.indexCast arg12
  let c192 : Index := 192#32
  ![v733.toNat, 192]
def k1_off412 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v738 : Index := Scalar.indexCast arg12
  let c208 : Index := 208#32
  ![v738.toNat, 208]
def k1_off413 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v743 : Index := Scalar.indexCast arg12
  let c224 : Index := 224#32
  ![v743.toNat, 224]
def k1_off414 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v748 : Index := Scalar.indexCast arg12
  let c240 : Index := 240#32
  ![v748.toNat, 240]
def k1_off415 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v753 : Index := Scalar.indexCast arg12
  let c256 : Index := 256#32
  ![v753.toNat, 256]
def k1_off416 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v758 : Index := Scalar.indexCast arg12
  let c272 : Index := 272#32
  ![v758.toNat, 272]
def k1_off417 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v763 : Index := Scalar.indexCast arg12
  let c288 : Index := 288#32
  ![v763.toNat, 288]
def k1_off418 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v768 : Index := Scalar.indexCast arg12
  let c304 : Index := 304#32
  ![v768.toNat, 304]
def k1_off419 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v773 : Index := Scalar.indexCast arg12
  let c320 : Index := 320#32
  ![v773.toNat, 320]
def k1_off420 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v778 : Index := Scalar.indexCast arg12
  let c336 : Index := 336#32
  ![v778.toNat, 336]
def k1_off421 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v783 : Index := Scalar.indexCast arg12
  let c352 : Index := 352#32
  ![v783.toNat, 352]
def k1_off422 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v788 : Index := Scalar.indexCast arg12
  let c368 : Index := 368#32
  ![v788.toNat, 368]
def k1_off423 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v793 : Index := Scalar.indexCast arg12
  let c384 : Index := 384#32
  ![v793.toNat, 384]
def k1_off424 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v798 : Index := Scalar.indexCast arg12
  let c400 : Index := 400#32
  ![v798.toNat, 400]
def k1_off425 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v803 : Index := Scalar.indexCast arg12
  let c416 : Index := 416#32
  ![v803.toNat, 416]
def k1_off426 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v808 : Index := Scalar.indexCast arg12
  let c432 : Index := 432#32
  ![v808.toNat, 432]
def k1_off427 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v813 : Index := Scalar.indexCast arg12
  let c448 : Index := 448#32
  ![v813.toNat, 448]
def k1_off428 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v818 : Index := Scalar.indexCast arg12
  let c464 : Index := 464#32
  ![v818.toNat, 464]
def k1_off429 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v823 : Index := Scalar.indexCast arg12
  let c480 : Index := 480#32
  ![v823.toNat, 480]
def k1_off430 (k1_t13 : Fin k1_t13_loop.trips) : Fin 2 → Nat :=
  let c0_i32_470 : BitVec 32 := 0#32
  let c1_i32_472 : BitVec 32 := 1#32
  let arg12 : BitVec 32 := Scf.iv c0_i32_470 c1_i32_472 k1_t13
  let v828 : Index := Scalar.indexCast arg12
  let c496 : Index := 496#32
  ![v828.toNat, 496]
def k1_off431 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_484 : BitVec 32 := 1#32
  let c384_i32_485 : BitVec 32 := 384#32
  let c0_i32_486 : BitVec 32 := 0#32
  ![v1.toNat, 1, 384, 0]
@[reducible] def k1_t14_loop : Scf.Loop 32 :=
  let c0_i32_495 : BitVec 32 := 0#32
  let c64_i32_496 : BitVec 32 := 64#32
  let v498 : BitVec 32 := Scalar.addi c0_i32_495 c64_i32_496
  let c1_i32_497 : BitVec 32 := 1#32
  ⟨c0_i32_495, v498, c1_i32_497⟩
def k1_off432 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v673 : Index := Scalar.indexCast arg12
  let c0_754 : Index := 0#32
  ![v673.toNat, 0]
def k1_off433 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v678 : Index := Scalar.indexCast arg12
  let c16 : Index := 16#32
  ![v678.toNat, 16]
def k1_off434 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v683 : Index := Scalar.indexCast arg12
  let c32 : Index := 32#32
  ![v683.toNat, 32]
def k1_off435 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v688 : Index := Scalar.indexCast arg12
  let c48 : Index := 48#32
  ![v688.toNat, 48]
def k1_off436 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v693 : Index := Scalar.indexCast arg12
  let c64 : Index := 64#32
  ![v693.toNat, 64]
def k1_off437 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v698 : Index := Scalar.indexCast arg12
  let c80 : Index := 80#32
  ![v698.toNat, 80]
def k1_off438 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v703 : Index := Scalar.indexCast arg12
  let c96 : Index := 96#32
  ![v703.toNat, 96]
def k1_off439 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v708 : Index := Scalar.indexCast arg12
  let c112 : Index := 112#32
  ![v708.toNat, 112]
def k1_off440 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v713 : Index := Scalar.indexCast arg12
  let c128 : Index := 128#32
  ![v713.toNat, 128]
def k1_off441 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v718 : Index := Scalar.indexCast arg12
  let c144 : Index := 144#32
  ![v718.toNat, 144]
def k1_off442 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v723 : Index := Scalar.indexCast arg12
  let c160 : Index := 160#32
  ![v723.toNat, 160]
def k1_off443 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v728 : Index := Scalar.indexCast arg12
  let c176 : Index := 176#32
  ![v728.toNat, 176]
def k1_off444 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v733 : Index := Scalar.indexCast arg12
  let c192 : Index := 192#32
  ![v733.toNat, 192]
def k1_off445 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v738 : Index := Scalar.indexCast arg12
  let c208 : Index := 208#32
  ![v738.toNat, 208]
def k1_off446 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v743 : Index := Scalar.indexCast arg12
  let c224 : Index := 224#32
  ![v743.toNat, 224]
def k1_off447 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v748 : Index := Scalar.indexCast arg12
  let c240 : Index := 240#32
  ![v748.toNat, 240]
def k1_off448 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v753 : Index := Scalar.indexCast arg12
  let c256 : Index := 256#32
  ![v753.toNat, 256]
def k1_off449 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v758 : Index := Scalar.indexCast arg12
  let c272 : Index := 272#32
  ![v758.toNat, 272]
def k1_off450 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v763 : Index := Scalar.indexCast arg12
  let c288 : Index := 288#32
  ![v763.toNat, 288]
def k1_off451 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v768 : Index := Scalar.indexCast arg12
  let c304 : Index := 304#32
  ![v768.toNat, 304]
def k1_off452 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v773 : Index := Scalar.indexCast arg12
  let c320 : Index := 320#32
  ![v773.toNat, 320]
def k1_off453 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v778 : Index := Scalar.indexCast arg12
  let c336 : Index := 336#32
  ![v778.toNat, 336]
def k1_off454 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v783 : Index := Scalar.indexCast arg12
  let c352 : Index := 352#32
  ![v783.toNat, 352]
def k1_off455 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v788 : Index := Scalar.indexCast arg12
  let c368 : Index := 368#32
  ![v788.toNat, 368]
def k1_off456 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v793 : Index := Scalar.indexCast arg12
  let c384 : Index := 384#32
  ![v793.toNat, 384]
def k1_off457 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v798 : Index := Scalar.indexCast arg12
  let c400 : Index := 400#32
  ![v798.toNat, 400]
def k1_off458 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v803 : Index := Scalar.indexCast arg12
  let c416 : Index := 416#32
  ![v803.toNat, 416]
def k1_off459 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v808 : Index := Scalar.indexCast arg12
  let c432 : Index := 432#32
  ![v808.toNat, 432]
def k1_off460 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v813 : Index := Scalar.indexCast arg12
  let c448 : Index := 448#32
  ![v813.toNat, 448]
def k1_off461 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v818 : Index := Scalar.indexCast arg12
  let c464 : Index := 464#32
  ![v818.toNat, 464]
def k1_off462 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v823 : Index := Scalar.indexCast arg12
  let c480 : Index := 480#32
  ![v823.toNat, 480]
def k1_off463 (k1_t14 : Fin k1_t14_loop.trips) : Fin 2 → Nat :=
  let c0_i32_495 : BitVec 32 := 0#32
  let c1_i32_497 : BitVec 32 := 1#32
  let arg12 : BitVec 32 := Scf.iv c0_i32_495 c1_i32_497 k1_t14
  let v828 : Index := Scalar.indexCast arg12
  let c496 : Index := 496#32
  ![v828.toNat, 496]
def k1_off464 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_509 : BitVec 32 := 1#32
  let c448_i32_510 : BitVec 32 := 448#32
  let c0_i32_511 : BitVec 32 := 0#32
  ![v1.toNat, 1, 448, 0]
@[reducible] def k1_t15_loop : Scf.Loop 32 :=
  let c0_i32_520 : BitVec 32 := 0#32
  let c64_i32_521 : BitVec 32 := 64#32
  let v515 : BitVec 32 := Scalar.addi c0_i32_520 c64_i32_521
  let c1_i32_522 : BitVec 32 := 1#32
  ⟨c0_i32_520, v515, c1_i32_522⟩
def k1_off465 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v673 : Index := Scalar.indexCast arg12
  let c0_754 : Index := 0#32
  ![v673.toNat, 0]
def k1_off466 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v678 : Index := Scalar.indexCast arg12
  let c16 : Index := 16#32
  ![v678.toNat, 16]
def k1_off467 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v683 : Index := Scalar.indexCast arg12
  let c32 : Index := 32#32
  ![v683.toNat, 32]
def k1_off468 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v688 : Index := Scalar.indexCast arg12
  let c48 : Index := 48#32
  ![v688.toNat, 48]
def k1_off469 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v693 : Index := Scalar.indexCast arg12
  let c64 : Index := 64#32
  ![v693.toNat, 64]
def k1_off470 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v698 : Index := Scalar.indexCast arg12
  let c80 : Index := 80#32
  ![v698.toNat, 80]
def k1_off471 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v703 : Index := Scalar.indexCast arg12
  let c96 : Index := 96#32
  ![v703.toNat, 96]
def k1_off472 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v708 : Index := Scalar.indexCast arg12
  let c112 : Index := 112#32
  ![v708.toNat, 112]
def k1_off473 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v713 : Index := Scalar.indexCast arg12
  let c128 : Index := 128#32
  ![v713.toNat, 128]
def k1_off474 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v718 : Index := Scalar.indexCast arg12
  let c144 : Index := 144#32
  ![v718.toNat, 144]
def k1_off475 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v723 : Index := Scalar.indexCast arg12
  let c160 : Index := 160#32
  ![v723.toNat, 160]
def k1_off476 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v728 : Index := Scalar.indexCast arg12
  let c176 : Index := 176#32
  ![v728.toNat, 176]
def k1_off477 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v733 : Index := Scalar.indexCast arg12
  let c192 : Index := 192#32
  ![v733.toNat, 192]
def k1_off478 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v738 : Index := Scalar.indexCast arg12
  let c208 : Index := 208#32
  ![v738.toNat, 208]
def k1_off479 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v743 : Index := Scalar.indexCast arg12
  let c224 : Index := 224#32
  ![v743.toNat, 224]
def k1_off480 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v748 : Index := Scalar.indexCast arg12
  let c240 : Index := 240#32
  ![v748.toNat, 240]
def k1_off481 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v753 : Index := Scalar.indexCast arg12
  let c256 : Index := 256#32
  ![v753.toNat, 256]
def k1_off482 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v758 : Index := Scalar.indexCast arg12
  let c272 : Index := 272#32
  ![v758.toNat, 272]
def k1_off483 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v763 : Index := Scalar.indexCast arg12
  let c288 : Index := 288#32
  ![v763.toNat, 288]
def k1_off484 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v768 : Index := Scalar.indexCast arg12
  let c304 : Index := 304#32
  ![v768.toNat, 304]
def k1_off485 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v773 : Index := Scalar.indexCast arg12
  let c320 : Index := 320#32
  ![v773.toNat, 320]
def k1_off486 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v778 : Index := Scalar.indexCast arg12
  let c336 : Index := 336#32
  ![v778.toNat, 336]
def k1_off487 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v783 : Index := Scalar.indexCast arg12
  let c352 : Index := 352#32
  ![v783.toNat, 352]
def k1_off488 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v788 : Index := Scalar.indexCast arg12
  let c368 : Index := 368#32
  ![v788.toNat, 368]
def k1_off489 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v793 : Index := Scalar.indexCast arg12
  let c384 : Index := 384#32
  ![v793.toNat, 384]
def k1_off490 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v798 : Index := Scalar.indexCast arg12
  let c400 : Index := 400#32
  ![v798.toNat, 400]
def k1_off491 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v803 : Index := Scalar.indexCast arg12
  let c416 : Index := 416#32
  ![v803.toNat, 416]
def k1_off492 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v808 : Index := Scalar.indexCast arg12
  let c432 : Index := 432#32
  ![v808.toNat, 432]
def k1_off493 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v813 : Index := Scalar.indexCast arg12
  let c448 : Index := 448#32
  ![v813.toNat, 448]
def k1_off494 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v818 : Index := Scalar.indexCast arg12
  let c464 : Index := 464#32
  ![v818.toNat, 464]
def k1_off495 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v823 : Index := Scalar.indexCast arg12
  let c480 : Index := 480#32
  ![v823.toNat, 480]
def k1_off496 (k1_t15 : Fin k1_t15_loop.trips) : Fin 2 → Nat :=
  let c0_i32_520 : BitVec 32 := 0#32
  let c1_i32_522 : BitVec 32 := 1#32
  let arg12 : BitVec 32 := Scf.iv c0_i32_520 c1_i32_522 k1_t15
  let v828 : Index := Scalar.indexCast arg12
  let c496 : Index := 496#32
  ![v828.toNat, 496]
def k1_off497 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_534 : BitVec 32 := 2#32
  let c0_i32_535 : BitVec 32 := 0#32
  let c0_i32_536 : BitVec 32 := 0#32
  ![v1.toNat, 2, 0, 0]
@[reducible] def k1_t16_loop : Scf.Loop 32 :=
  let c0_i32_545 : BitVec 32 := 0#32
  let c64_i32_546 : BitVec 32 := 64#32
  let v532 : BitVec 32 := Scalar.addi c0_i32_545 c64_i32_546
  let c1_i32_547 : BitVec 32 := 1#32
  ⟨c0_i32_545, v532, c1_i32_547⟩
def k1_off498 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v673 : Index := Scalar.indexCast arg12
  let c0_754 : Index := 0#32
  ![v673.toNat, 0]
def k1_off499 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v678 : Index := Scalar.indexCast arg12
  let c16 : Index := 16#32
  ![v678.toNat, 16]
def k1_off500 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v683 : Index := Scalar.indexCast arg12
  let c32 : Index := 32#32
  ![v683.toNat, 32]
def k1_off501 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v688 : Index := Scalar.indexCast arg12
  let c48 : Index := 48#32
  ![v688.toNat, 48]
def k1_off502 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v693 : Index := Scalar.indexCast arg12
  let c64 : Index := 64#32
  ![v693.toNat, 64]
def k1_off503 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v698 : Index := Scalar.indexCast arg12
  let c80 : Index := 80#32
  ![v698.toNat, 80]
def k1_off504 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v703 : Index := Scalar.indexCast arg12
  let c96 : Index := 96#32
  ![v703.toNat, 96]
def k1_off505 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v708 : Index := Scalar.indexCast arg12
  let c112 : Index := 112#32
  ![v708.toNat, 112]
def k1_off506 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v713 : Index := Scalar.indexCast arg12
  let c128 : Index := 128#32
  ![v713.toNat, 128]
def k1_off507 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v718 : Index := Scalar.indexCast arg12
  let c144 : Index := 144#32
  ![v718.toNat, 144]
def k1_off508 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v723 : Index := Scalar.indexCast arg12
  let c160 : Index := 160#32
  ![v723.toNat, 160]
def k1_off509 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v728 : Index := Scalar.indexCast arg12
  let c176 : Index := 176#32
  ![v728.toNat, 176]
def k1_off510 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v733 : Index := Scalar.indexCast arg12
  let c192 : Index := 192#32
  ![v733.toNat, 192]
def k1_off511 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v738 : Index := Scalar.indexCast arg12
  let c208 : Index := 208#32
  ![v738.toNat, 208]
def k1_off512 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v743 : Index := Scalar.indexCast arg12
  let c224 : Index := 224#32
  ![v743.toNat, 224]
def k1_off513 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v748 : Index := Scalar.indexCast arg12
  let c240 : Index := 240#32
  ![v748.toNat, 240]
def k1_off514 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v753 : Index := Scalar.indexCast arg12
  let c256 : Index := 256#32
  ![v753.toNat, 256]
def k1_off515 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v758 : Index := Scalar.indexCast arg12
  let c272 : Index := 272#32
  ![v758.toNat, 272]
def k1_off516 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v763 : Index := Scalar.indexCast arg12
  let c288 : Index := 288#32
  ![v763.toNat, 288]
def k1_off517 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v768 : Index := Scalar.indexCast arg12
  let c304 : Index := 304#32
  ![v768.toNat, 304]
def k1_off518 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v773 : Index := Scalar.indexCast arg12
  let c320 : Index := 320#32
  ![v773.toNat, 320]
def k1_off519 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v778 : Index := Scalar.indexCast arg12
  let c336 : Index := 336#32
  ![v778.toNat, 336]
def k1_off520 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v783 : Index := Scalar.indexCast arg12
  let c352 : Index := 352#32
  ![v783.toNat, 352]
def k1_off521 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v788 : Index := Scalar.indexCast arg12
  let c368 : Index := 368#32
  ![v788.toNat, 368]
def k1_off522 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v793 : Index := Scalar.indexCast arg12
  let c384 : Index := 384#32
  ![v793.toNat, 384]
def k1_off523 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v798 : Index := Scalar.indexCast arg12
  let c400 : Index := 400#32
  ![v798.toNat, 400]
def k1_off524 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v803 : Index := Scalar.indexCast arg12
  let c416 : Index := 416#32
  ![v803.toNat, 416]
def k1_off525 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v808 : Index := Scalar.indexCast arg12
  let c432 : Index := 432#32
  ![v808.toNat, 432]
def k1_off526 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v813 : Index := Scalar.indexCast arg12
  let c448 : Index := 448#32
  ![v813.toNat, 448]
def k1_off527 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v818 : Index := Scalar.indexCast arg12
  let c464 : Index := 464#32
  ![v818.toNat, 464]
def k1_off528 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v823 : Index := Scalar.indexCast arg12
  let c480 : Index := 480#32
  ![v823.toNat, 480]
def k1_off529 (k1_t16 : Fin k1_t16_loop.trips) : Fin 2 → Nat :=
  let c0_i32_545 : BitVec 32 := 0#32
  let c1_i32_547 : BitVec 32 := 1#32
  let arg12 : BitVec 32 := Scf.iv c0_i32_545 c1_i32_547 k1_t16
  let v828 : Index := Scalar.indexCast arg12
  let c496 : Index := 496#32
  ![v828.toNat, 496]
def k1_off530 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_559 : BitVec 32 := 2#32
  let c64_i32_560 : BitVec 32 := 64#32
  let c0_i32_561 : BitVec 32 := 0#32
  ![v1.toNat, 2, 64, 0]
@[reducible] def k1_t17_loop : Scf.Loop 32 :=
  let c0_i32_570 : BitVec 32 := 0#32
  let c64_i32_571 : BitVec 32 := 64#32
  let v549 : BitVec 32 := Scalar.addi c0_i32_570 c64_i32_571
  let c1_i32_572 : BitVec 32 := 1#32
  ⟨c0_i32_570, v549, c1_i32_572⟩
def k1_off531 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v673 : Index := Scalar.indexCast arg12
  let c0_754 : Index := 0#32
  ![v673.toNat, 0]
def k1_off532 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v678 : Index := Scalar.indexCast arg12
  let c16 : Index := 16#32
  ![v678.toNat, 16]
def k1_off533 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v683 : Index := Scalar.indexCast arg12
  let c32 : Index := 32#32
  ![v683.toNat, 32]
def k1_off534 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v688 : Index := Scalar.indexCast arg12
  let c48 : Index := 48#32
  ![v688.toNat, 48]
def k1_off535 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v693 : Index := Scalar.indexCast arg12
  let c64 : Index := 64#32
  ![v693.toNat, 64]
def k1_off536 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v698 : Index := Scalar.indexCast arg12
  let c80 : Index := 80#32
  ![v698.toNat, 80]
def k1_off537 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v703 : Index := Scalar.indexCast arg12
  let c96 : Index := 96#32
  ![v703.toNat, 96]
def k1_off538 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v708 : Index := Scalar.indexCast arg12
  let c112 : Index := 112#32
  ![v708.toNat, 112]
def k1_off539 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v713 : Index := Scalar.indexCast arg12
  let c128 : Index := 128#32
  ![v713.toNat, 128]
def k1_off540 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v718 : Index := Scalar.indexCast arg12
  let c144 : Index := 144#32
  ![v718.toNat, 144]
def k1_off541 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v723 : Index := Scalar.indexCast arg12
  let c160 : Index := 160#32
  ![v723.toNat, 160]
def k1_off542 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v728 : Index := Scalar.indexCast arg12
  let c176 : Index := 176#32
  ![v728.toNat, 176]
def k1_off543 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v733 : Index := Scalar.indexCast arg12
  let c192 : Index := 192#32
  ![v733.toNat, 192]
def k1_off544 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v738 : Index := Scalar.indexCast arg12
  let c208 : Index := 208#32
  ![v738.toNat, 208]
def k1_off545 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v743 : Index := Scalar.indexCast arg12
  let c224 : Index := 224#32
  ![v743.toNat, 224]
def k1_off546 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v748 : Index := Scalar.indexCast arg12
  let c240 : Index := 240#32
  ![v748.toNat, 240]
def k1_off547 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v753 : Index := Scalar.indexCast arg12
  let c256 : Index := 256#32
  ![v753.toNat, 256]
def k1_off548 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v758 : Index := Scalar.indexCast arg12
  let c272 : Index := 272#32
  ![v758.toNat, 272]
def k1_off549 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v763 : Index := Scalar.indexCast arg12
  let c288 : Index := 288#32
  ![v763.toNat, 288]
def k1_off550 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v768 : Index := Scalar.indexCast arg12
  let c304 : Index := 304#32
  ![v768.toNat, 304]
def k1_off551 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v773 : Index := Scalar.indexCast arg12
  let c320 : Index := 320#32
  ![v773.toNat, 320]
def k1_off552 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v778 : Index := Scalar.indexCast arg12
  let c336 : Index := 336#32
  ![v778.toNat, 336]
def k1_off553 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v783 : Index := Scalar.indexCast arg12
  let c352 : Index := 352#32
  ![v783.toNat, 352]
def k1_off554 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v788 : Index := Scalar.indexCast arg12
  let c368 : Index := 368#32
  ![v788.toNat, 368]
def k1_off555 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v793 : Index := Scalar.indexCast arg12
  let c384 : Index := 384#32
  ![v793.toNat, 384]
def k1_off556 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v798 : Index := Scalar.indexCast arg12
  let c400 : Index := 400#32
  ![v798.toNat, 400]
def k1_off557 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v803 : Index := Scalar.indexCast arg12
  let c416 : Index := 416#32
  ![v803.toNat, 416]
def k1_off558 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v808 : Index := Scalar.indexCast arg12
  let c432 : Index := 432#32
  ![v808.toNat, 432]
def k1_off559 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v813 : Index := Scalar.indexCast arg12
  let c448 : Index := 448#32
  ![v813.toNat, 448]
def k1_off560 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v818 : Index := Scalar.indexCast arg12
  let c464 : Index := 464#32
  ![v818.toNat, 464]
def k1_off561 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v823 : Index := Scalar.indexCast arg12
  let c480 : Index := 480#32
  ![v823.toNat, 480]
def k1_off562 (k1_t17 : Fin k1_t17_loop.trips) : Fin 2 → Nat :=
  let c0_i32_570 : BitVec 32 := 0#32
  let c1_i32_572 : BitVec 32 := 1#32
  let arg12 : BitVec 32 := Scf.iv c0_i32_570 c1_i32_572 k1_t17
  let v828 : Index := Scalar.indexCast arg12
  let c496 : Index := 496#32
  ![v828.toNat, 496]
def k1_off563 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_584 : BitVec 32 := 2#32
  let c128_i32_585 : BitVec 32 := 128#32
  let c0_i32_586 : BitVec 32 := 0#32
  ![v1.toNat, 2, 128, 0]
@[reducible] def k1_t18_loop : Scf.Loop 32 :=
  let c0_i32_595 : BitVec 32 := 0#32
  let c64_i32_596 : BitVec 32 := 64#32
  let v566 : BitVec 32 := Scalar.addi c0_i32_595 c64_i32_596
  let c1_i32_597 : BitVec 32 := 1#32
  ⟨c0_i32_595, v566, c1_i32_597⟩
def k1_off564 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v673 : Index := Scalar.indexCast arg12
  let c0_754 : Index := 0#32
  ![v673.toNat, 0]
def k1_off565 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v678 : Index := Scalar.indexCast arg12
  let c16 : Index := 16#32
  ![v678.toNat, 16]
def k1_off566 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v683 : Index := Scalar.indexCast arg12
  let c32 : Index := 32#32
  ![v683.toNat, 32]
def k1_off567 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v688 : Index := Scalar.indexCast arg12
  let c48 : Index := 48#32
  ![v688.toNat, 48]
def k1_off568 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v693 : Index := Scalar.indexCast arg12
  let c64 : Index := 64#32
  ![v693.toNat, 64]
def k1_off569 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v698 : Index := Scalar.indexCast arg12
  let c80 : Index := 80#32
  ![v698.toNat, 80]
def k1_off570 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v703 : Index := Scalar.indexCast arg12
  let c96 : Index := 96#32
  ![v703.toNat, 96]
def k1_off571 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v708 : Index := Scalar.indexCast arg12
  let c112 : Index := 112#32
  ![v708.toNat, 112]
def k1_off572 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v713 : Index := Scalar.indexCast arg12
  let c128 : Index := 128#32
  ![v713.toNat, 128]
def k1_off573 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v718 : Index := Scalar.indexCast arg12
  let c144 : Index := 144#32
  ![v718.toNat, 144]
def k1_off574 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v723 : Index := Scalar.indexCast arg12
  let c160 : Index := 160#32
  ![v723.toNat, 160]
def k1_off575 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v728 : Index := Scalar.indexCast arg12
  let c176 : Index := 176#32
  ![v728.toNat, 176]
def k1_off576 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v733 : Index := Scalar.indexCast arg12
  let c192 : Index := 192#32
  ![v733.toNat, 192]
def k1_off577 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v738 : Index := Scalar.indexCast arg12
  let c208 : Index := 208#32
  ![v738.toNat, 208]
def k1_off578 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v743 : Index := Scalar.indexCast arg12
  let c224 : Index := 224#32
  ![v743.toNat, 224]
def k1_off579 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v748 : Index := Scalar.indexCast arg12
  let c240 : Index := 240#32
  ![v748.toNat, 240]
def k1_off580 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v753 : Index := Scalar.indexCast arg12
  let c256 : Index := 256#32
  ![v753.toNat, 256]
def k1_off581 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v758 : Index := Scalar.indexCast arg12
  let c272 : Index := 272#32
  ![v758.toNat, 272]
def k1_off582 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v763 : Index := Scalar.indexCast arg12
  let c288 : Index := 288#32
  ![v763.toNat, 288]
def k1_off583 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v768 : Index := Scalar.indexCast arg12
  let c304 : Index := 304#32
  ![v768.toNat, 304]
def k1_off584 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v773 : Index := Scalar.indexCast arg12
  let c320 : Index := 320#32
  ![v773.toNat, 320]
def k1_off585 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v778 : Index := Scalar.indexCast arg12
  let c336 : Index := 336#32
  ![v778.toNat, 336]
def k1_off586 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v783 : Index := Scalar.indexCast arg12
  let c352 : Index := 352#32
  ![v783.toNat, 352]
def k1_off587 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v788 : Index := Scalar.indexCast arg12
  let c368 : Index := 368#32
  ![v788.toNat, 368]
def k1_off588 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v793 : Index := Scalar.indexCast arg12
  let c384 : Index := 384#32
  ![v793.toNat, 384]
def k1_off589 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v798 : Index := Scalar.indexCast arg12
  let c400 : Index := 400#32
  ![v798.toNat, 400]
def k1_off590 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v803 : Index := Scalar.indexCast arg12
  let c416 : Index := 416#32
  ![v803.toNat, 416]
def k1_off591 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v808 : Index := Scalar.indexCast arg12
  let c432 : Index := 432#32
  ![v808.toNat, 432]
def k1_off592 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v813 : Index := Scalar.indexCast arg12
  let c448 : Index := 448#32
  ![v813.toNat, 448]
def k1_off593 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v818 : Index := Scalar.indexCast arg12
  let c464 : Index := 464#32
  ![v818.toNat, 464]
def k1_off594 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v823 : Index := Scalar.indexCast arg12
  let c480 : Index := 480#32
  ![v823.toNat, 480]
def k1_off595 (k1_t18 : Fin k1_t18_loop.trips) : Fin 2 → Nat :=
  let c0_i32_595 : BitVec 32 := 0#32
  let c1_i32_597 : BitVec 32 := 1#32
  let arg12 : BitVec 32 := Scf.iv c0_i32_595 c1_i32_597 k1_t18
  let v828 : Index := Scalar.indexCast arg12
  let c496 : Index := 496#32
  ![v828.toNat, 496]
def k1_off596 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_609 : BitVec 32 := 2#32
  let c192_i32_610 : BitVec 32 := 192#32
  let c0_i32_611 : BitVec 32 := 0#32
  ![v1.toNat, 2, 192, 0]
@[reducible] def k1_t19_loop : Scf.Loop 32 :=
  let c0_i32_620 : BitVec 32 := 0#32
  let c64_i32_621 : BitVec 32 := 64#32
  let v583 : BitVec 32 := Scalar.addi c0_i32_620 c64_i32_621
  let c1_i32_622 : BitVec 32 := 1#32
  ⟨c0_i32_620, v583, c1_i32_622⟩
def k1_off597 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v673 : Index := Scalar.indexCast arg12
  let c0_754 : Index := 0#32
  ![v673.toNat, 0]
def k1_off598 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v678 : Index := Scalar.indexCast arg12
  let c16 : Index := 16#32
  ![v678.toNat, 16]
def k1_off599 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v683 : Index := Scalar.indexCast arg12
  let c32 : Index := 32#32
  ![v683.toNat, 32]
def k1_off600 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v688 : Index := Scalar.indexCast arg12
  let c48 : Index := 48#32
  ![v688.toNat, 48]
def k1_off601 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v693 : Index := Scalar.indexCast arg12
  let c64 : Index := 64#32
  ![v693.toNat, 64]
def k1_off602 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v698 : Index := Scalar.indexCast arg12
  let c80 : Index := 80#32
  ![v698.toNat, 80]
def k1_off603 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v703 : Index := Scalar.indexCast arg12
  let c96 : Index := 96#32
  ![v703.toNat, 96]
def k1_off604 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v708 : Index := Scalar.indexCast arg12
  let c112 : Index := 112#32
  ![v708.toNat, 112]
def k1_off605 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v713 : Index := Scalar.indexCast arg12
  let c128 : Index := 128#32
  ![v713.toNat, 128]
def k1_off606 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v718 : Index := Scalar.indexCast arg12
  let c144 : Index := 144#32
  ![v718.toNat, 144]
def k1_off607 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v723 : Index := Scalar.indexCast arg12
  let c160 : Index := 160#32
  ![v723.toNat, 160]
def k1_off608 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v728 : Index := Scalar.indexCast arg12
  let c176 : Index := 176#32
  ![v728.toNat, 176]
def k1_off609 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v733 : Index := Scalar.indexCast arg12
  let c192 : Index := 192#32
  ![v733.toNat, 192]
def k1_off610 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v738 : Index := Scalar.indexCast arg12
  let c208 : Index := 208#32
  ![v738.toNat, 208]
def k1_off611 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v743 : Index := Scalar.indexCast arg12
  let c224 : Index := 224#32
  ![v743.toNat, 224]
def k1_off612 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v748 : Index := Scalar.indexCast arg12
  let c240 : Index := 240#32
  ![v748.toNat, 240]
def k1_off613 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v753 : Index := Scalar.indexCast arg12
  let c256 : Index := 256#32
  ![v753.toNat, 256]
def k1_off614 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v758 : Index := Scalar.indexCast arg12
  let c272 : Index := 272#32
  ![v758.toNat, 272]
def k1_off615 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v763 : Index := Scalar.indexCast arg12
  let c288 : Index := 288#32
  ![v763.toNat, 288]
def k1_off616 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v768 : Index := Scalar.indexCast arg12
  let c304 : Index := 304#32
  ![v768.toNat, 304]
def k1_off617 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v773 : Index := Scalar.indexCast arg12
  let c320 : Index := 320#32
  ![v773.toNat, 320]
def k1_off618 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v778 : Index := Scalar.indexCast arg12
  let c336 : Index := 336#32
  ![v778.toNat, 336]
def k1_off619 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v783 : Index := Scalar.indexCast arg12
  let c352 : Index := 352#32
  ![v783.toNat, 352]
def k1_off620 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v788 : Index := Scalar.indexCast arg12
  let c368 : Index := 368#32
  ![v788.toNat, 368]
def k1_off621 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v793 : Index := Scalar.indexCast arg12
  let c384 : Index := 384#32
  ![v793.toNat, 384]
def k1_off622 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v798 : Index := Scalar.indexCast arg12
  let c400 : Index := 400#32
  ![v798.toNat, 400]
def k1_off623 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v803 : Index := Scalar.indexCast arg12
  let c416 : Index := 416#32
  ![v803.toNat, 416]
def k1_off624 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v808 : Index := Scalar.indexCast arg12
  let c432 : Index := 432#32
  ![v808.toNat, 432]
def k1_off625 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v813 : Index := Scalar.indexCast arg12
  let c448 : Index := 448#32
  ![v813.toNat, 448]
def k1_off626 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v818 : Index := Scalar.indexCast arg12
  let c464 : Index := 464#32
  ![v818.toNat, 464]
def k1_off627 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v823 : Index := Scalar.indexCast arg12
  let c480 : Index := 480#32
  ![v823.toNat, 480]
def k1_off628 (k1_t19 : Fin k1_t19_loop.trips) : Fin 2 → Nat :=
  let c0_i32_620 : BitVec 32 := 0#32
  let c1_i32_622 : BitVec 32 := 1#32
  let arg12 : BitVec 32 := Scf.iv c0_i32_620 c1_i32_622 k1_t19
  let v828 : Index := Scalar.indexCast arg12
  let c496 : Index := 496#32
  ![v828.toNat, 496]
def k1_off629 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_634 : BitVec 32 := 2#32
  let c256_i32_635 : BitVec 32 := 256#32
  let c0_i32_636 : BitVec 32 := 0#32
  ![v1.toNat, 2, 256, 0]
@[reducible] def k1_t20_loop : Scf.Loop 32 :=
  let c0_i32_645 : BitVec 32 := 0#32
  let c64_i32_646 : BitVec 32 := 64#32
  let v600 : BitVec 32 := Scalar.addi c0_i32_645 c64_i32_646
  let c1_i32_647 : BitVec 32 := 1#32
  ⟨c0_i32_645, v600, c1_i32_647⟩
def k1_off630 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v673 : Index := Scalar.indexCast arg12
  let c0_754 : Index := 0#32
  ![v673.toNat, 0]
def k1_off631 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v678 : Index := Scalar.indexCast arg12
  let c16 : Index := 16#32
  ![v678.toNat, 16]
def k1_off632 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v683 : Index := Scalar.indexCast arg12
  let c32 : Index := 32#32
  ![v683.toNat, 32]
def k1_off633 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v688 : Index := Scalar.indexCast arg12
  let c48 : Index := 48#32
  ![v688.toNat, 48]
def k1_off634 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v693 : Index := Scalar.indexCast arg12
  let c64 : Index := 64#32
  ![v693.toNat, 64]
def k1_off635 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v698 : Index := Scalar.indexCast arg12
  let c80 : Index := 80#32
  ![v698.toNat, 80]
def k1_off636 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v703 : Index := Scalar.indexCast arg12
  let c96 : Index := 96#32
  ![v703.toNat, 96]
def k1_off637 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v708 : Index := Scalar.indexCast arg12
  let c112 : Index := 112#32
  ![v708.toNat, 112]
def k1_off638 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v713 : Index := Scalar.indexCast arg12
  let c128 : Index := 128#32
  ![v713.toNat, 128]
def k1_off639 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v718 : Index := Scalar.indexCast arg12
  let c144 : Index := 144#32
  ![v718.toNat, 144]
def k1_off640 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v723 : Index := Scalar.indexCast arg12
  let c160 : Index := 160#32
  ![v723.toNat, 160]
def k1_off641 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v728 : Index := Scalar.indexCast arg12
  let c176 : Index := 176#32
  ![v728.toNat, 176]
def k1_off642 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v733 : Index := Scalar.indexCast arg12
  let c192 : Index := 192#32
  ![v733.toNat, 192]
def k1_off643 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v738 : Index := Scalar.indexCast arg12
  let c208 : Index := 208#32
  ![v738.toNat, 208]
def k1_off644 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v743 : Index := Scalar.indexCast arg12
  let c224 : Index := 224#32
  ![v743.toNat, 224]
def k1_off645 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v748 : Index := Scalar.indexCast arg12
  let c240 : Index := 240#32
  ![v748.toNat, 240]
def k1_off646 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v753 : Index := Scalar.indexCast arg12
  let c256 : Index := 256#32
  ![v753.toNat, 256]
def k1_off647 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v758 : Index := Scalar.indexCast arg12
  let c272 : Index := 272#32
  ![v758.toNat, 272]
def k1_off648 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v763 : Index := Scalar.indexCast arg12
  let c288 : Index := 288#32
  ![v763.toNat, 288]
def k1_off649 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v768 : Index := Scalar.indexCast arg12
  let c304 : Index := 304#32
  ![v768.toNat, 304]
def k1_off650 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v773 : Index := Scalar.indexCast arg12
  let c320 : Index := 320#32
  ![v773.toNat, 320]
def k1_off651 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v778 : Index := Scalar.indexCast arg12
  let c336 : Index := 336#32
  ![v778.toNat, 336]
def k1_off652 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v783 : Index := Scalar.indexCast arg12
  let c352 : Index := 352#32
  ![v783.toNat, 352]
def k1_off653 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v788 : Index := Scalar.indexCast arg12
  let c368 : Index := 368#32
  ![v788.toNat, 368]
def k1_off654 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v793 : Index := Scalar.indexCast arg12
  let c384 : Index := 384#32
  ![v793.toNat, 384]
def k1_off655 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v798 : Index := Scalar.indexCast arg12
  let c400 : Index := 400#32
  ![v798.toNat, 400]
def k1_off656 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v803 : Index := Scalar.indexCast arg12
  let c416 : Index := 416#32
  ![v803.toNat, 416]
def k1_off657 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v808 : Index := Scalar.indexCast arg12
  let c432 : Index := 432#32
  ![v808.toNat, 432]
def k1_off658 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v813 : Index := Scalar.indexCast arg12
  let c448 : Index := 448#32
  ![v813.toNat, 448]
def k1_off659 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v818 : Index := Scalar.indexCast arg12
  let c464 : Index := 464#32
  ![v818.toNat, 464]
def k1_off660 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v823 : Index := Scalar.indexCast arg12
  let c480 : Index := 480#32
  ![v823.toNat, 480]
def k1_off661 (k1_t20 : Fin k1_t20_loop.trips) : Fin 2 → Nat :=
  let c0_i32_645 : BitVec 32 := 0#32
  let c1_i32_647 : BitVec 32 := 1#32
  let arg12 : BitVec 32 := Scf.iv c0_i32_645 c1_i32_647 k1_t20
  let v828 : Index := Scalar.indexCast arg12
  let c496 : Index := 496#32
  ![v828.toNat, 496]
def k1_off662 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_659 : BitVec 32 := 2#32
  let c320_i32_660 : BitVec 32 := 320#32
  let c0_i32_661 : BitVec 32 := 0#32
  ![v1.toNat, 2, 320, 0]
@[reducible] def k1_t21_loop : Scf.Loop 32 :=
  let c0_i32_670 : BitVec 32 := 0#32
  let c64_i32_671 : BitVec 32 := 64#32
  let v617 : BitVec 32 := Scalar.addi c0_i32_670 c64_i32_671
  let c1_i32_672 : BitVec 32 := 1#32
  ⟨c0_i32_670, v617, c1_i32_672⟩
def k1_off663 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v673 : Index := Scalar.indexCast arg12
  let c0_754 : Index := 0#32
  ![v673.toNat, 0]
def k1_off664 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v678 : Index := Scalar.indexCast arg12
  let c16 : Index := 16#32
  ![v678.toNat, 16]
def k1_off665 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v683 : Index := Scalar.indexCast arg12
  let c32 : Index := 32#32
  ![v683.toNat, 32]
def k1_off666 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v688 : Index := Scalar.indexCast arg12
  let c48 : Index := 48#32
  ![v688.toNat, 48]
def k1_off667 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v693 : Index := Scalar.indexCast arg12
  let c64 : Index := 64#32
  ![v693.toNat, 64]
def k1_off668 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v698 : Index := Scalar.indexCast arg12
  let c80 : Index := 80#32
  ![v698.toNat, 80]
def k1_off669 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v703 : Index := Scalar.indexCast arg12
  let c96 : Index := 96#32
  ![v703.toNat, 96]
def k1_off670 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v708 : Index := Scalar.indexCast arg12
  let c112 : Index := 112#32
  ![v708.toNat, 112]
def k1_off671 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v713 : Index := Scalar.indexCast arg12
  let c128 : Index := 128#32
  ![v713.toNat, 128]
def k1_off672 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v718 : Index := Scalar.indexCast arg12
  let c144 : Index := 144#32
  ![v718.toNat, 144]
def k1_off673 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v723 : Index := Scalar.indexCast arg12
  let c160 : Index := 160#32
  ![v723.toNat, 160]
def k1_off674 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v728 : Index := Scalar.indexCast arg12
  let c176 : Index := 176#32
  ![v728.toNat, 176]
def k1_off675 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v733 : Index := Scalar.indexCast arg12
  let c192 : Index := 192#32
  ![v733.toNat, 192]
def k1_off676 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v738 : Index := Scalar.indexCast arg12
  let c208 : Index := 208#32
  ![v738.toNat, 208]
def k1_off677 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v743 : Index := Scalar.indexCast arg12
  let c224 : Index := 224#32
  ![v743.toNat, 224]
def k1_off678 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v748 : Index := Scalar.indexCast arg12
  let c240 : Index := 240#32
  ![v748.toNat, 240]
def k1_off679 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v753 : Index := Scalar.indexCast arg12
  let c256 : Index := 256#32
  ![v753.toNat, 256]
def k1_off680 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v758 : Index := Scalar.indexCast arg12
  let c272 : Index := 272#32
  ![v758.toNat, 272]
def k1_off681 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v763 : Index := Scalar.indexCast arg12
  let c288 : Index := 288#32
  ![v763.toNat, 288]
def k1_off682 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v768 : Index := Scalar.indexCast arg12
  let c304 : Index := 304#32
  ![v768.toNat, 304]
def k1_off683 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v773 : Index := Scalar.indexCast arg12
  let c320 : Index := 320#32
  ![v773.toNat, 320]
def k1_off684 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v778 : Index := Scalar.indexCast arg12
  let c336 : Index := 336#32
  ![v778.toNat, 336]
def k1_off685 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v783 : Index := Scalar.indexCast arg12
  let c352 : Index := 352#32
  ![v783.toNat, 352]
def k1_off686 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v788 : Index := Scalar.indexCast arg12
  let c368 : Index := 368#32
  ![v788.toNat, 368]
def k1_off687 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v793 : Index := Scalar.indexCast arg12
  let c384 : Index := 384#32
  ![v793.toNat, 384]
def k1_off688 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v798 : Index := Scalar.indexCast arg12
  let c400 : Index := 400#32
  ![v798.toNat, 400]
def k1_off689 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v803 : Index := Scalar.indexCast arg12
  let c416 : Index := 416#32
  ![v803.toNat, 416]
def k1_off690 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v808 : Index := Scalar.indexCast arg12
  let c432 : Index := 432#32
  ![v808.toNat, 432]
def k1_off691 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v813 : Index := Scalar.indexCast arg12
  let c448 : Index := 448#32
  ![v813.toNat, 448]
def k1_off692 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v818 : Index := Scalar.indexCast arg12
  let c464 : Index := 464#32
  ![v818.toNat, 464]
def k1_off693 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v823 : Index := Scalar.indexCast arg12
  let c480 : Index := 480#32
  ![v823.toNat, 480]
def k1_off694 (k1_t21 : Fin k1_t21_loop.trips) : Fin 2 → Nat :=
  let c0_i32_670 : BitVec 32 := 0#32
  let c1_i32_672 : BitVec 32 := 1#32
  let arg12 : BitVec 32 := Scf.iv c0_i32_670 c1_i32_672 k1_t21
  let v828 : Index := Scalar.indexCast arg12
  let c496 : Index := 496#32
  ![v828.toNat, 496]
def k1_off695 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_684 : BitVec 32 := 2#32
  let c384_i32_685 : BitVec 32 := 384#32
  let c0_i32_686 : BitVec 32 := 0#32
  ![v1.toNat, 2, 384, 0]
@[reducible] def k1_t22_loop : Scf.Loop 32 :=
  let c0_i32_695 : BitVec 32 := 0#32
  let c64_i32_696 : BitVec 32 := 64#32
  let v634 : BitVec 32 := Scalar.addi c0_i32_695 c64_i32_696
  let c1_i32_697 : BitVec 32 := 1#32
  ⟨c0_i32_695, v634, c1_i32_697⟩
def k1_off696 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v673 : Index := Scalar.indexCast arg12
  let c0_754 : Index := 0#32
  ![v673.toNat, 0]
def k1_off697 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v678 : Index := Scalar.indexCast arg12
  let c16 : Index := 16#32
  ![v678.toNat, 16]
def k1_off698 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v683 : Index := Scalar.indexCast arg12
  let c32 : Index := 32#32
  ![v683.toNat, 32]
def k1_off699 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v688 : Index := Scalar.indexCast arg12
  let c48 : Index := 48#32
  ![v688.toNat, 48]
def k1_off700 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v693 : Index := Scalar.indexCast arg12
  let c64 : Index := 64#32
  ![v693.toNat, 64]
def k1_off701 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v698 : Index := Scalar.indexCast arg12
  let c80 : Index := 80#32
  ![v698.toNat, 80]
def k1_off702 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v703 : Index := Scalar.indexCast arg12
  let c96 : Index := 96#32
  ![v703.toNat, 96]
def k1_off703 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v708 : Index := Scalar.indexCast arg12
  let c112 : Index := 112#32
  ![v708.toNat, 112]
def k1_off704 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v713 : Index := Scalar.indexCast arg12
  let c128 : Index := 128#32
  ![v713.toNat, 128]
def k1_off705 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v718 : Index := Scalar.indexCast arg12
  let c144 : Index := 144#32
  ![v718.toNat, 144]
def k1_off706 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v723 : Index := Scalar.indexCast arg12
  let c160 : Index := 160#32
  ![v723.toNat, 160]
def k1_off707 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v728 : Index := Scalar.indexCast arg12
  let c176 : Index := 176#32
  ![v728.toNat, 176]
def k1_off708 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v733 : Index := Scalar.indexCast arg12
  let c192 : Index := 192#32
  ![v733.toNat, 192]
def k1_off709 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v738 : Index := Scalar.indexCast arg12
  let c208 : Index := 208#32
  ![v738.toNat, 208]
def k1_off710 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v743 : Index := Scalar.indexCast arg12
  let c224 : Index := 224#32
  ![v743.toNat, 224]
def k1_off711 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v748 : Index := Scalar.indexCast arg12
  let c240 : Index := 240#32
  ![v748.toNat, 240]
def k1_off712 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v753 : Index := Scalar.indexCast arg12
  let c256 : Index := 256#32
  ![v753.toNat, 256]
def k1_off713 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v758 : Index := Scalar.indexCast arg12
  let c272 : Index := 272#32
  ![v758.toNat, 272]
def k1_off714 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v763 : Index := Scalar.indexCast arg12
  let c288 : Index := 288#32
  ![v763.toNat, 288]
def k1_off715 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v768 : Index := Scalar.indexCast arg12
  let c304 : Index := 304#32
  ![v768.toNat, 304]
def k1_off716 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v773 : Index := Scalar.indexCast arg12
  let c320 : Index := 320#32
  ![v773.toNat, 320]
def k1_off717 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v778 : Index := Scalar.indexCast arg12
  let c336 : Index := 336#32
  ![v778.toNat, 336]
def k1_off718 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v783 : Index := Scalar.indexCast arg12
  let c352 : Index := 352#32
  ![v783.toNat, 352]
def k1_off719 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v788 : Index := Scalar.indexCast arg12
  let c368 : Index := 368#32
  ![v788.toNat, 368]
def k1_off720 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v793 : Index := Scalar.indexCast arg12
  let c384 : Index := 384#32
  ![v793.toNat, 384]
def k1_off721 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v798 : Index := Scalar.indexCast arg12
  let c400 : Index := 400#32
  ![v798.toNat, 400]
def k1_off722 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v803 : Index := Scalar.indexCast arg12
  let c416 : Index := 416#32
  ![v803.toNat, 416]
def k1_off723 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v808 : Index := Scalar.indexCast arg12
  let c432 : Index := 432#32
  ![v808.toNat, 432]
def k1_off724 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v813 : Index := Scalar.indexCast arg12
  let c448 : Index := 448#32
  ![v813.toNat, 448]
def k1_off725 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v818 : Index := Scalar.indexCast arg12
  let c464 : Index := 464#32
  ![v818.toNat, 464]
def k1_off726 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v823 : Index := Scalar.indexCast arg12
  let c480 : Index := 480#32
  ![v823.toNat, 480]
def k1_off727 (k1_t22 : Fin k1_t22_loop.trips) : Fin 2 → Nat :=
  let c0_i32_695 : BitVec 32 := 0#32
  let c1_i32_697 : BitVec 32 := 1#32
  let arg12 : BitVec 32 := Scf.iv c0_i32_695 c1_i32_697 k1_t22
  let v828 : Index := Scalar.indexCast arg12
  let c496 : Index := 496#32
  ![v828.toNat, 496]
def k1_off728 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_709 : BitVec 32 := 2#32
  let c448_i32_710 : BitVec 32 := 448#32
  let c0_i32_711 : BitVec 32 := 0#32
  ![v1.toNat, 2, 448, 0]
@[reducible] def k1_t23_loop : Scf.Loop 32 :=
  let c0_i32_720 : BitVec 32 := 0#32
  let c64_i32_721 : BitVec 32 := 64#32
  let v651 : BitVec 32 := Scalar.addi c0_i32_720 c64_i32_721
  let c1_i32_722 : BitVec 32 := 1#32
  ⟨c0_i32_720, v651, c1_i32_722⟩
def k1_off729 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v673 : Index := Scalar.indexCast arg12
  let c0_754 : Index := 0#32
  ![v673.toNat, 0]
def k1_off730 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v678 : Index := Scalar.indexCast arg12
  let c16 : Index := 16#32
  ![v678.toNat, 16]
def k1_off731 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v683 : Index := Scalar.indexCast arg12
  let c32 : Index := 32#32
  ![v683.toNat, 32]
def k1_off732 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v688 : Index := Scalar.indexCast arg12
  let c48 : Index := 48#32
  ![v688.toNat, 48]
def k1_off733 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v693 : Index := Scalar.indexCast arg12
  let c64 : Index := 64#32
  ![v693.toNat, 64]
def k1_off734 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v698 : Index := Scalar.indexCast arg12
  let c80 : Index := 80#32
  ![v698.toNat, 80]
def k1_off735 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v703 : Index := Scalar.indexCast arg12
  let c96 : Index := 96#32
  ![v703.toNat, 96]
def k1_off736 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v708 : Index := Scalar.indexCast arg12
  let c112 : Index := 112#32
  ![v708.toNat, 112]
def k1_off737 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v713 : Index := Scalar.indexCast arg12
  let c128 : Index := 128#32
  ![v713.toNat, 128]
def k1_off738 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v718 : Index := Scalar.indexCast arg12
  let c144 : Index := 144#32
  ![v718.toNat, 144]
def k1_off739 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v723 : Index := Scalar.indexCast arg12
  let c160 : Index := 160#32
  ![v723.toNat, 160]
def k1_off740 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v728 : Index := Scalar.indexCast arg12
  let c176 : Index := 176#32
  ![v728.toNat, 176]
def k1_off741 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v733 : Index := Scalar.indexCast arg12
  let c192 : Index := 192#32
  ![v733.toNat, 192]
def k1_off742 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v738 : Index := Scalar.indexCast arg12
  let c208 : Index := 208#32
  ![v738.toNat, 208]
def k1_off743 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v743 : Index := Scalar.indexCast arg12
  let c224 : Index := 224#32
  ![v743.toNat, 224]
def k1_off744 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v748 : Index := Scalar.indexCast arg12
  let c240 : Index := 240#32
  ![v748.toNat, 240]
def k1_off745 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v753 : Index := Scalar.indexCast arg12
  let c256 : Index := 256#32
  ![v753.toNat, 256]
def k1_off746 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v758 : Index := Scalar.indexCast arg12
  let c272 : Index := 272#32
  ![v758.toNat, 272]
def k1_off747 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v763 : Index := Scalar.indexCast arg12
  let c288 : Index := 288#32
  ![v763.toNat, 288]
def k1_off748 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v768 : Index := Scalar.indexCast arg12
  let c304 : Index := 304#32
  ![v768.toNat, 304]
def k1_off749 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v773 : Index := Scalar.indexCast arg12
  let c320 : Index := 320#32
  ![v773.toNat, 320]
def k1_off750 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v778 : Index := Scalar.indexCast arg12
  let c336 : Index := 336#32
  ![v778.toNat, 336]
def k1_off751 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v783 : Index := Scalar.indexCast arg12
  let c352 : Index := 352#32
  ![v783.toNat, 352]
def k1_off752 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v788 : Index := Scalar.indexCast arg12
  let c368 : Index := 368#32
  ![v788.toNat, 368]
def k1_off753 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v793 : Index := Scalar.indexCast arg12
  let c384 : Index := 384#32
  ![v793.toNat, 384]
def k1_off754 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v798 : Index := Scalar.indexCast arg12
  let c400 : Index := 400#32
  ![v798.toNat, 400]
def k1_off755 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v803 : Index := Scalar.indexCast arg12
  let c416 : Index := 416#32
  ![v803.toNat, 416]
def k1_off756 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v808 : Index := Scalar.indexCast arg12
  let c432 : Index := 432#32
  ![v808.toNat, 432]
def k1_off757 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v813 : Index := Scalar.indexCast arg12
  let c448 : Index := 448#32
  ![v813.toNat, 448]
def k1_off758 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v818 : Index := Scalar.indexCast arg12
  let c464 : Index := 464#32
  ![v818.toNat, 464]
def k1_off759 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v823 : Index := Scalar.indexCast arg12
  let c480 : Index := 480#32
  ![v823.toNat, 480]
def k1_off760 (k1_t23 : Fin k1_t23_loop.trips) : Fin 2 → Nat :=
  let c0_i32_720 : BitVec 32 := 0#32
  let c1_i32_722 : BitVec 32 := 1#32
  let arg12 : BitVec 32 := Scf.iv c0_i32_720 c1_i32_722 k1_t23
  let v828 : Index := Scalar.indexCast arg12
  let c496 : Index := 496#32
  ![v828.toNat, 496]
@[reducible] def k1_t24_loop : Scf.Loop 32 :=
  let c0_i32_735 : BitVec 32 := 0#32
  let c64_i32_736 : BitVec 32 := 64#32
  let v660 : BitVec 32 := Scalar.addi c0_i32_735 c64_i32_736
  let c1_i32_737 : BitVec 32 := 1#32
  ⟨c0_i32_735, v660, c1_i32_737⟩
def k1_off761 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v673 : Index := Scalar.indexCast arg12
  let c0_754 : Index := 0#32
  ![v673.toNat, 0]
def k1_off762 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v678 : Index := Scalar.indexCast arg12
  let c16 : Index := 16#32
  ![v678.toNat, 16]
def k1_off763 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v683 : Index := Scalar.indexCast arg12
  let c32 : Index := 32#32
  ![v683.toNat, 32]
def k1_off764 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v688 : Index := Scalar.indexCast arg12
  let c48 : Index := 48#32
  ![v688.toNat, 48]
def k1_off765 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v693 : Index := Scalar.indexCast arg12
  let c64 : Index := 64#32
  ![v693.toNat, 64]
def k1_off766 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v698 : Index := Scalar.indexCast arg12
  let c80 : Index := 80#32
  ![v698.toNat, 80]
def k1_off767 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v703 : Index := Scalar.indexCast arg12
  let c96 : Index := 96#32
  ![v703.toNat, 96]
def k1_off768 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v708 : Index := Scalar.indexCast arg12
  let c112 : Index := 112#32
  ![v708.toNat, 112]
def k1_off769 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v713 : Index := Scalar.indexCast arg12
  let c128 : Index := 128#32
  ![v713.toNat, 128]
def k1_off770 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v718 : Index := Scalar.indexCast arg12
  let c144 : Index := 144#32
  ![v718.toNat, 144]
def k1_off771 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v723 : Index := Scalar.indexCast arg12
  let c160 : Index := 160#32
  ![v723.toNat, 160]
def k1_off772 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v728 : Index := Scalar.indexCast arg12
  let c176 : Index := 176#32
  ![v728.toNat, 176]
def k1_off773 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v733 : Index := Scalar.indexCast arg12
  let c192 : Index := 192#32
  ![v733.toNat, 192]
def k1_off774 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v738 : Index := Scalar.indexCast arg12
  let c208 : Index := 208#32
  ![v738.toNat, 208]
def k1_off775 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v743 : Index := Scalar.indexCast arg12
  let c224 : Index := 224#32
  ![v743.toNat, 224]
def k1_off776 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v748 : Index := Scalar.indexCast arg12
  let c240 : Index := 240#32
  ![v748.toNat, 240]
def k1_off777 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v753 : Index := Scalar.indexCast arg12
  let c256 : Index := 256#32
  ![v753.toNat, 256]
def k1_off778 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v758 : Index := Scalar.indexCast arg12
  let c272 : Index := 272#32
  ![v758.toNat, 272]
def k1_off779 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v763 : Index := Scalar.indexCast arg12
  let c288 : Index := 288#32
  ![v763.toNat, 288]
def k1_off780 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v768 : Index := Scalar.indexCast arg12
  let c304 : Index := 304#32
  ![v768.toNat, 304]
def k1_off781 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v773 : Index := Scalar.indexCast arg12
  let c320 : Index := 320#32
  ![v773.toNat, 320]
def k1_off782 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v778 : Index := Scalar.indexCast arg12
  let c336 : Index := 336#32
  ![v778.toNat, 336]
def k1_off783 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v783 : Index := Scalar.indexCast arg12
  let c352 : Index := 352#32
  ![v783.toNat, 352]
def k1_off784 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v788 : Index := Scalar.indexCast arg12
  let c368 : Index := 368#32
  ![v788.toNat, 368]
def k1_off785 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v793 : Index := Scalar.indexCast arg12
  let c384 : Index := 384#32
  ![v793.toNat, 384]
def k1_off786 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v798 : Index := Scalar.indexCast arg12
  let c400 : Index := 400#32
  ![v798.toNat, 400]
def k1_off787 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v803 : Index := Scalar.indexCast arg12
  let c416 : Index := 416#32
  ![v803.toNat, 416]
def k1_off788 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v808 : Index := Scalar.indexCast arg12
  let c432 : Index := 432#32
  ![v808.toNat, 432]
def k1_off789 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v813 : Index := Scalar.indexCast arg12
  let c448 : Index := 448#32
  ![v813.toNat, 448]
def k1_off790 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v818 : Index := Scalar.indexCast arg12
  let c464 : Index := 464#32
  ![v818.toNat, 464]
def k1_off791 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v823 : Index := Scalar.indexCast arg12
  let c480 : Index := 480#32
  ![v823.toNat, 480]
def k1_off792 (k1_t24 : Fin k1_t24_loop.trips) : Fin 2 → Nat :=
  let c0_i32_735 : BitVec 32 := 0#32
  let c1_i32_737 : BitVec 32 := 1#32
  let arg12 : BitVec 32 := Scf.iv c0_i32_735 c1_i32_737 k1_t24
  let v828 : Index := Scalar.indexCast arg12
  let c496 : Index := 496#32
  ![v828.toNat, 496]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S32x3x512x512 : Shape := ⟨4, ![32, 3, 512, 512]⟩
abbrev S25165824 : Shape := ⟨1, ![25165824]⟩
abbrev S_ : Shape := ⟨0, ![]⟩
abbrev S256 : Shape := ⟨1, ![256]⟩
abbrev S25165824x1 : Shape := ⟨2, ![25165824, 1]⟩
abbrev S1x256 : Shape := ⟨2, ![1, 256]⟩
abbrev S25165824x256 : Shape := ⟨2, ![25165824, 256]⟩
abbrev S1 : Shape := ⟨1, ![1]⟩

abbrev nBuf : Space → Nat
  | .hbm => 169
  | .vmem => 0
  | .smem => 0
  | _ => 0

abbrev hbmTy0_0 (i : Nat) : BufTy := match i % 128 with
  | 0 => ⟨S32x3x512x512, .f32⟩
  | 1 => ⟨S25165824, .f32⟩
  | 2 => ⟨S_, .f32⟩
  | 3 => ⟨S25165824, .f32⟩
  | 4 => ⟨S25165824, .f32⟩
  | 5 => ⟨S25165824, .f32⟩
  | 6 => ⟨S25165824, .i32⟩
  | 7 => ⟨S_, .i32⟩
  | 8 => ⟨S_, .i32⟩
  | 9 => ⟨S_, .i32⟩
  | 10 => ⟨S25165824, .i32⟩
  | 11 => ⟨S25165824, .i32⟩
  | 12 => ⟨S_, .i32⟩
  | 13 => ⟨S25165824, .i32⟩
  | 14 => ⟨S25165824, .i32⟩
  | 15 => ⟨S_, .f32⟩
  | 16 => ⟨S25165824, .f32⟩
  | 17 => ⟨S_, .f32⟩
  | 18 => ⟨S256, .f32⟩
  | 19 => ⟨S_, .i32⟩
  | 20 => ⟨S25165824, .i32⟩
  | 21 => ⟨S25165824, .i1⟩
  | 22 => ⟨S_, .i32⟩
  | 23 => ⟨S25165824, .i32⟩
  | 24 => ⟨S25165824, .i32⟩
  | 25 => ⟨S25165824, .i32⟩
  | 26 => ⟨S25165824x1, .i32⟩
  | 27 => ⟨S256, .f32⟩
  | 28 => ⟨S_, .f32⟩
  | 29 => ⟨S_, .f32⟩
  | 30 => ⟨S256, .f32⟩
  | 31 => ⟨S_, .f32⟩
  | 32 => ⟨S_, .f32⟩
  | 33 => ⟨S256, .f32⟩
  | 34 => ⟨S256, .f32⟩
  | 35 => ⟨S_, .f32⟩
  | 36 => ⟨S_, .f32⟩
  | 37 => ⟨S_, .f32⟩
  | 38 => ⟨S_, .f32⟩
  | 39 => ⟨S_, .f32⟩
  | 40 => ⟨S256, .f32⟩
  | 41 => ⟨S256, .f32⟩
  | 42 => ⟨S256, .f32⟩
  | 43 => ⟨S1x256, .f32⟩
  | 44 => ⟨S25165824x1, .f32⟩
  | 45 => ⟨S25165824x256, .f32⟩
  | 46 => ⟨S25165824x256, .f32⟩
  | 47 => ⟨S25165824x256, .i1⟩
  | 48 => ⟨S25165824x256, .i32⟩
  | 49 => ⟨S_, .i32⟩
  | 50 => ⟨S25165824, .i32⟩
  | 51 => ⟨S_, .i32⟩
  | 52 => ⟨S_, .i32⟩
  | 53 => ⟨S_, .i32⟩
  | 54 => ⟨S25165824, .i32⟩
  | 55 => ⟨S25165824, .i32⟩
  | 56 => ⟨S_, .i32⟩
  | 57 => ⟨S25165824, .i32⟩
  | 58 => ⟨S25165824, .i32⟩
  | 59 => ⟨S_, .i32⟩
  | 60 => ⟨S25165824, .i32⟩
  | 61 => ⟨S25165824, .i1⟩
  | 62 => ⟨S_, .i32⟩
  | 63 => ⟨S25165824, .i32⟩
  | 64 => ⟨S25165824, .i32⟩
  | 65 => ⟨S25165824, .i32⟩
  | 66 => ⟨S25165824x1, .i32⟩
  | 67 => ⟨S25165824, .f32⟩
  | 68 => ⟨S_, .i32⟩
  | 69 => ⟨S25165824, .i32⟩
  | 70 => ⟨S25165824, .i32⟩
  | 71 => ⟨S_, .i32⟩
  | 72 => ⟨S25165824, .i32⟩
  | 73 => ⟨S25165824, .i1⟩
  | 74 => ⟨S_, .i32⟩
  | 75 => ⟨S25165824, .i32⟩
  | 76 => ⟨S25165824, .i32⟩
  | 77 => ⟨S25165824, .i32⟩
  | 78 => ⟨S25165824x1, .i32⟩
  | 79 => ⟨S25165824, .f32⟩
  | 80 => ⟨S25165824, .f32⟩
  | 81 => ⟨S_, .i32⟩
  | 82 => ⟨S25165824, .i32⟩
  | 83 => ⟨S25165824, .i1⟩
  | 84 => ⟨S_, .i32⟩
  | 85 => ⟨S25165824, .i32⟩
  | 86 => ⟨S25165824, .i32⟩
  | 87 => ⟨S25165824, .i32⟩
  | 88 => ⟨S25165824x1, .i32⟩
  | 89 => ⟨S25165824, .f32⟩
  | 90 => ⟨S_, .i32⟩
  | 91 => ⟨S25165824, .i32⟩
  | 92 => ⟨S25165824, .i32⟩
  | 93 => ⟨S_, .i32⟩
  | 94 => ⟨S25165824, .i32⟩
  | 95 => ⟨S25165824, .i1⟩
  | 96 => ⟨S_, .i32⟩
  | 97 => ⟨S25165824, .i32⟩
  | 98 => ⟨S25165824, .i32⟩
  | 99 => ⟨S25165824, .i32⟩
  | 100 => ⟨S25165824x1, .i32⟩
  | 101 => ⟨S25165824, .f32⟩
  | 102 => ⟨S25165824, .f32⟩
  | 103 => ⟨S_, .i32⟩
  | 104 => ⟨S25165824, .i32⟩
  | 105 => ⟨S25165824, .i32⟩
  | 106 => ⟨S_, .i32⟩
  | 107 => ⟨S25165824, .i32⟩
  | 108 => ⟨S25165824, .i1⟩
  | 109 => ⟨S_, .i32⟩
  | 110 => ⟨S25165824, .i32⟩
  | 111 => ⟨S25165824, .i32⟩
  | 112 => ⟨S25165824, .i32⟩
  | 113 => ⟨S25165824x1, .i32⟩
  | 114 => ⟨S25165824, .f32⟩
  | 115 => ⟨S25165824, .f32⟩
  | 116 => ⟨S25165824, .f32⟩
  | 117 => ⟨S_, .f32⟩
  | 118 => ⟨S25165824, .f32⟩
  | 119 => ⟨S25165824, .i1⟩
  | 120 => ⟨S_, .i32⟩
  | 121 => ⟨S25165824, .i32⟩
  | 122 => ⟨S25165824, .i32⟩
  | 123 => ⟨S_, .i32⟩
  | 124 => ⟨S25165824, .i32⟩
  | 125 => ⟨S25165824, .i1⟩
  | 126 => ⟨S_, .i32⟩
  | 127 => ⟨S25165824, .i32⟩
  | _ => ⟨S32x3x512x512, .f32⟩

abbrev hbmTy0_1 (i : Nat) : BufTy := match i % 128 with
  | 0 => ⟨S25165824, .i32⟩
  | 1 => ⟨S25165824, .i32⟩
  | 2 => ⟨S25165824x1, .i32⟩
  | 3 => ⟨S25165824, .f32⟩
  | 4 => ⟨S_, .i32⟩
  | 5 => ⟨S25165824, .i32⟩
  | 6 => ⟨S25165824, .i32⟩
  | 7 => ⟨S_, .i32⟩
  | 8 => ⟨S25165824, .i32⟩
  | 9 => ⟨S25165824, .i1⟩
  | 10 => ⟨S_, .i32⟩
  | 11 => ⟨S25165824, .i32⟩
  | 12 => ⟨S25165824, .i32⟩
  | 13 => ⟨S25165824, .i32⟩
  | 14 => ⟨S25165824x1, .i32⟩
  | 15 => ⟨S25165824, .f32⟩
  | 16 => ⟨S_, .i32⟩
  | 17 => ⟨S_, .f32⟩
  | 18 => ⟨S25165824, .f32⟩
  | 19 => ⟨S25165824, .f32⟩
  | 20 => ⟨S25165824, .f32⟩
  | 21 => ⟨S25165824, .f32⟩
  | 22 => ⟨S25165824, .f32⟩
  | 23 => ⟨S25165824, .f32⟩
  | 24 => ⟨S1, .f32⟩
  | 25 => ⟨S_, .f32⟩
  | 26 => ⟨S25165824, .f32⟩
  | 27 => ⟨S25165824, .i1⟩
  | 28 => ⟨S1, .f32⟩
  | 29 => ⟨S_, .f32⟩
  | 30 => ⟨S25165824, .f32⟩
  | 31 => ⟨S25165824, .f32⟩
  | 32 => ⟨S1, .f32⟩
  | 33 => ⟨S_, .f32⟩
  | 34 => ⟨S25165824, .f32⟩
  | 35 => ⟨S25165824, .i1⟩
  | 36 => ⟨S1, .f32⟩
  | 37 => ⟨S_, .f32⟩
  | 38 => ⟨S25165824, .f32⟩
  | 39 => ⟨S25165824, .f32⟩
  | 40 => ⟨S32x3x512x512, .f32⟩
  | _ => ⟨S32x3x512x512, .f32⟩

abbrev hbmTy (i : Nat) : BufTy := match i / 128 with
  | 0 => hbmTy0_0 i
  | 1 => hbmTy0_1 i
  | _ => ⟨S32x3x512x512, .f32⟩

abbrev bufTy : (tb : Table) → Fin (tcTables nBuf tb) → BufTy
  | .hbm, ⟨i, _⟩ => hbmTy i
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_c_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call1_call0_cst : Ref sig .tc := ⟨.hbm, 28, rfl⟩
abbrev main_call1_call0_v0 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_c_9 : Ref sig .tc := ⟨.hbm, 51, rfl⟩
abbrev main_c_10 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v32 : Ref sig .tc := ⟨.hbm, 58, rfl⟩
abbrev main_c_11 : Ref sig .tc := ⟨.hbm, 59, rfl⟩
abbrev main_v33 : Ref sig .tc := ⟨.hbm, 60, rfl⟩
abbrev main_v34 : Ref sig .tc := ⟨.hbm, 61, rfl⟩
abbrev main_c_12 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_13 : Ref sig .tc := ⟨.hbm, 68, rfl⟩
abbrev main_v40 : Ref sig .tc := ⟨.hbm, 69, rfl⟩
abbrev main_v41 : Ref sig .tc := ⟨.hbm, 70, rfl⟩
abbrev main_c_14 : Ref sig .tc := ⟨.hbm, 71, rfl⟩
abbrev main_v42 : Ref sig .tc := ⟨.hbm, 72, rfl⟩
abbrev main_v43 : Ref sig .tc := ⟨.hbm, 73, rfl⟩
abbrev main_c_15 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_16 : Ref sig .tc := ⟨.hbm, 81, rfl⟩
abbrev main_v50 : Ref sig .tc := ⟨.hbm, 82, rfl⟩
abbrev main_v51 : Ref sig .tc := ⟨.hbm, 83, rfl⟩
abbrev main_c_17 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_18 : Ref sig .tc := ⟨.hbm, 90, rfl⟩
abbrev main_v57 : Ref sig .tc := ⟨.hbm, 91, rfl⟩
abbrev main_v58 : Ref sig .tc := ⟨.hbm, 92, rfl⟩
abbrev main_c_19 : Ref sig .tc := ⟨.hbm, 93, rfl⟩
abbrev main_v59 : Ref sig .tc := ⟨.hbm, 94, rfl⟩
abbrev main_v60 : Ref sig .tc := ⟨.hbm, 95, rfl⟩
abbrev main_c_20 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_21 : Ref sig .tc := ⟨.hbm, 103, rfl⟩
abbrev main_v67 : Ref sig .tc := ⟨.hbm, 104, rfl⟩
abbrev main_v68 : Ref sig .tc := ⟨.hbm, 105, rfl⟩
abbrev main_c_22 : Ref sig .tc := ⟨.hbm, 106, rfl⟩
abbrev main_v69 : Ref sig .tc := ⟨.hbm, 107, rfl⟩
abbrev main_v70 : Ref sig .tc := ⟨.hbm, 108, rfl⟩
abbrev main_c_23 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_24 : Ref sig .tc := ⟨.hbm, 117, rfl⟩
abbrev main_v78 : Ref sig .tc := ⟨.hbm, 118, rfl⟩
abbrev main_v79 : Ref sig .tc := ⟨.hbm, 119, rfl⟩
abbrev main_c_25 : Ref sig .tc := ⟨.hbm, 120, rfl⟩
abbrev main_v80 : Ref sig .tc := ⟨.hbm, 121, rfl⟩
abbrev main_v81 : Ref sig .tc := ⟨.hbm, 122, rfl⟩
abbrev main_c_26 : Ref sig .tc := ⟨.hbm, 123, rfl⟩
abbrev main_v82 : Ref sig .tc := ⟨.hbm, 124, rfl⟩
abbrev main_v83 : Ref sig .tc := ⟨.hbm, 125, rfl⟩
abbrev main_c_27 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_28 : Ref sig .tc := ⟨.hbm, 132, rfl⟩
abbrev main_v89 : Ref sig .tc := ⟨.hbm, 133, rfl⟩
abbrev main_v90 : Ref sig .tc := ⟨.hbm, 134, rfl⟩
abbrev main_c_29 : Ref sig .tc := ⟨.hbm, 135, rfl⟩
abbrev main_v91 : Ref sig .tc := ⟨.hbm, 136, rfl⟩
abbrev main_v92 : Ref sig .tc := ⟨.hbm, 137, rfl⟩
abbrev main_c_30 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_31 : Ref sig .tc := ⟨.hbm, 144, rfl⟩
abbrev main_call3_v0 : Ref sig .tc := ⟨.hbm, 145, rfl⟩
abbrev main_call3_v1 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_call5_v0 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_call6_v0 : Ref sig .tc := ⟨.hbm, 166, rfl⟩
abbrev main_v116 : Ref sig .tc := ⟨.hbm, 167, rfl⟩
abbrev main_v117 : Ref sig .tc := ⟨.hbm, 168, rfl⟩

abbrev nD : Nat := 1
abbrev τ : Topo := Topo.v7x

variable {F : FTy → Type} [FloatOps F]
-- ==== Proof.Canon.lean ====
/- The two tile bodies of the program in short form: what one row of a chunk does, what one chunk does, and the chunks one after
   the other in the two buffers, each written once as a recursion. `count_body_eq` and `scale_body_eq` say that the printed
   bodies, which write every row step and every chunk out, are these. -/
module

public import proofs.«01_k».proof.KernelIdeal

@[expose] public section

noncomputable section

namespace Cert.Proof.Canon

open Cert.KernelIdeal
open Idealize.ShloMosaic Idealize.SL.Sem

variable {F : FTy → Type} [FloatOps F]
variable {c : Fin τ.nSC} {s : Fin τ.nSub}

/-- The programs of vector subcore `s` of SparseCore `c`. -/
abbrev PT (F : FTy → Type) [FloatOps F] (c : Fin τ.nSC) (s : Fin τ.nSub) (α : Type) : Type 1 :=
  Prog (TpuEff nD τ sig (Elt F) Λ₀ (.scVector c s)) α

/-- A chunk in a tile's memory, and a whole image array in HBM. -/
abbrev Buf2 : Type := Memref sig .scVector .vmem S64x512 .f32
abbrev Img : Type := Memref sig .scVector .hbm S32x3x512x512 .f32

theorem sqz : S1x1x64x512.Squeezes S64x512 := by decide
theorem pos16 : 0 < S1x16.numel := by decide
theorem cast16 : S1x16.ShapeCasts S16 := by decide
theorem cast16' : S16.ShapeCasts S1x16 := by decide
theorem lt32 : 1 < 32 := by decide
theorem pos15 : ∀ a, (![15] : Fin 1 → Nat) a < S16.size a := by decide

/-! ## One row -/

/-- The loop over the 64 rows of a chunk. -/
abbrev rows : Scf.Loop 32 := k0_t1_loop
theorem rows_trips : rows.trips = 64 := by decide

/-- Where the `u`-th sixteen elements of row `t` start. -/
def rowOff (t : Fin rows.trips) (u : Nat) : Fin 2 → Nat :=
  ![(Scalar.indexCast (Scf.iv 0#32 1#32 t)).toNat, 16 * u]
theorem rowOff_eq (t : Fin rows.trips) (u : Nat) : rowOff t u = ![t.val, 16 * u] := by
  have ht : t.val < 64 := lt_of_lt_of_eq t.isLt rows_trips
  unfold rowOff
  congr 1
  simp [Scalar.indexCast, Scf.iv]
  omega
theorem rowOff_inb (t : Fin rows.trips) {u : Nat} (hu : u < 32) : ∀ a, rowOff t u a + S1x16.size a ≤ S64x512.size a := by
  have ht : t.val < 64 := lt_of_lt_of_eq t.isLt rows_trips
  rw [rowOff_eq]
  intro a
  match a with
  | 0 => show t.val + 1 ≤ 64; omega
  | 1 => show 16 * u + 16 ≤ 512; omega

abbrev rowRect (t : Fin rows.trips) (u : Nat) (hu : u < 32) : Rect S64x512 :=
  Rect.unit (s := S64x512) (rowOff t u) S1x16.size (rowOff_inb t hu)

/-- The two running counts, the same number in every lane. -/
abbrev Acc : Type := IVec S16 32 × IVec S16 32

/-- Sixteen values against one threshold: how many lie below it is added to every lane of the running count. -/
def below (T : BitVec 32) (v : FVec F S16 .f32) (a : IVec S16 32) : IVec S16 32 :=
  addi a (broadcast S16 (extractAt ![15] (scan .sum (extui 32 (cmpf .olt v (broadcast S16 (Scalar.ofBits .f32 T))) lt32)) pos15))

/-- Both counts after sixteen more values. -/
def countStep (ld : Vec F S1x16 .f32) (a : Acc) : Acc :=
  (below (F := F) 0x3B800000#32 (shapeCast S16 ld cast16) a.1, below (F := F) 0x3C000000#32 (shapeCast S16 ld cast16) a.2)

/-- The count over a row from its `u`-th sixteen elements on, `n` steps. -/
def countRow (b : Buf2) (t : Fin rows.trips) : (n u : Nat) → u + n ≤ 32 → Acc → PT F c s Acc
  | 0, _, _, a => pure a
  | n + 1, u, h, a => do
    let ld : Vec F S1x16 .f32 ← Prog.lift (.load b (rowRect t u (by omega)).toLoadRect (View.loadsAt_vmem pos16))
    countRow b t n (u + 1) (by omega) (countStep ld a)

/-- The count over a chunk. -/
def countLoop (b : Buf2) (ok : rows.OK) (a : Acc) : PT F c s Acc :=
  Scf.Loop.for rows ok a fun t a => countRow b t 32 0 (by omega) a

/-- The scaling of a row from its `u`-th sixteen elements on, `n` steps. -/
def scaleRow (b : Buf2) (w : FVec F S16 .f32) (t : Fin rows.trips) : (n u : Nat) → u + n ≤ 32 → PT F c s PUnit
  | 0, _, _ => pure ⟨⟩
  | n + 1, u, h => do
    let ld : Vec F S1x16 .f32 ← Prog.lift (.load b (rowRect t u (by omega)).toLoadRect (View.loadsAt_vmem pos16))
    let _ld' : Vec F S1x16 .f32 ← Prog.lift (.load b (rowRect t u (by omega)).toLoadRect (View.loadsAt_vmem pos16))
    Prog.lift (.store b (rowRect t u (by omega)) (shapeCast S1x16 (mulf (shapeCast S16 ld cast16) w) cast16') Finset.univ
      (View.stores_vmem_bits_univ pos16 rfl) (.inl rfl))
    scaleRow b w t n (u + 1) (by omega)

/-- The scaling of a chunk. -/
def scaleLoop (b : Buf2) (w : FVec F S16 .f32) (ok : rows.OK) : PT F c s PUnit :=
  Scf.Loop.for rows ok ⟨⟩ fun t _ => scaleRow b w t 32 0 (by omega)

/-! ## One chunk -/

/-- Chunk `k` of image `2 · subcore + core`: sixty-four rows of one channel. -/
def chunkOff (i : grid0.Coords) (k : Nat) : Fin 4 → Nat :=
  ![(Scalar.addi (Scalar.muli (BitVec.ofNat 32 (i 1).val) 2#32) (BitVec.ofNat 32 (i 0).val)).toNat, k / 8, k % 8 * 64, 0]
theorem chunkOff_eq (i : grid0.Coords) (k : Nat) : chunkOff i k = ![(i 1).val * 2 + (i 0).val, k / 8, k % 8 * 64, 0] := by
  have h0 : (i 0).val < 2 := (i 0).isLt
  have h1 : (i 1).val < 16 := (i 1).isLt
  unfold chunkOff
  congr 1
  simp [Scalar.addi, Scalar.muli, IntOp.addi, IntOp.muli]
  omega
theorem chunkOff_inb (i : grid0.Coords) {k : Nat} (hk : k < 24) : ∀ a, chunkOff i k a + S1x1x64x512.size a ≤ S32x3x512x512.size a := by
  have h0 : (i 0).val < 2 := (i 0).isLt
  have h1 : (i 1).val < 16 := (i 1).isLt
  rw [chunkOff_eq]
  intro a
  match a with
  | 0 => show (i 1).val * 2 + (i 0).val + 1 ≤ 32; omega
  | 1 => show k / 8 + 1 ≤ 3; omega
  | 2 => show k % 8 * 64 + 64 ≤ 512; omega
  | 3 => show 0 + 512 ≤ 512; omega

/-- The chunk as the copies address it. -/
abbrev chunk (i : grid0.Coords) (x : Img) (k : Nat) (hk : k < 24) : Memref sig .scVector .hbm S64x512 .f32 :=
  (x.slice (Rect.unit (s := S32x3x512x512) (chunkOff i k) S1x1x64x512.size (chunkOff_inb i hk)) (fun _ => rfl)).squeeze S64x512 sqz

/-- A buffer with what the copies through it need: that it is a whole buffer, and the semaphore of its loads. -/
structure Slot where
  b : Buf2
  whole : b.IsWhole
  ld : DmaSems sig S_
  st : DmaSems sig S_

/-- Start the load of chunk `k` into a buffer, and wait for it. -/
def startLoad (i : grid0.Coords) (x : Img) (k : Nat) (hk : k < 24) (A : Slot) : PT F c s PUnit :=
  Prog.lift (.enqueueDma (chunk i x k hk) (.here A.b) (.dma A.ld.sem) ((View.wordExact_bits rfl).reshape _ _) A.whole.wordExact ⟨Or.inl rfl, trivial⟩)
def waitLoad (i : grid0.Coords) (x : Img) (k : Nat) (hk : k < 24) (A : Slot) : PT F c s PUnit :=
  Prog.lift (.waitDma2 A.ld.sem (chunk i x k hk) A.b ((View.wordExact_bits rfl).reshape _ _) A.whole.wordExact)

/-- Start the store of a buffer to chunk `k`, and wait for it. -/
def startStore (i : grid0.Coords) (o : Img) (k : Nat) (hk : k < 24) (A : Slot) : PT F c s PUnit :=
  Prog.lift (.enqueueDma A.b (.here (chunk i o k hk)) (.dma A.st.sem) A.whole.wordExact ((View.wordExact_bits rfl).reshape _ _) ⟨Or.inl rfl, trivial⟩)
def waitStore (i : grid0.Coords) (o : Img) (k : Nat) (hk : k < 24) (A : Slot) : PT F c s PUnit :=
  Prog.lift (.waitDma2 A.st.sem A.b (chunk i o k hk) A.whole.wordExact ((View.wordExact_bits rfl).reshape _ _))

/-! ## The counting body -/

/-- The count from chunk `k` on, whose load is under way into buffer `A`: `n` more chunks after it. -/
def countChunks (i : grid0.Coords) (x : Img) (ok : rows.OK) : (n k : Nat) → k + n < 24 → Slot → Slot → Acc → PT F c s Acc
  | 0, k, h, A, _, a => do
    waitLoad i x k (by omega) A
    countLoop A.b ok a
  | n + 1, k, h, A, B, a => do
    startLoad i x (k + 1) (by omega) B
    waitLoad i x k (by omega) A
    let a' ← countLoop A.b ok a
    countChunks i x ok n (k + 1) (by omega) B A a'

theorem inbC : ∀ (r : Fin 2) (a : Fin 2), (![r.val, 0] : Fin 2 → Nat) a + S1x16.size a ≤ S2x16.size a := by decide

/-- The two counts into the count buffer. -/
def countPut (cb : Memref sig .scVector .vmem S2x16 .i32) (r : Fin 2) (a : IVec S16 32) : PT F c s PUnit := do
  let _ld : Vec F S1x16 .i32 ← Prog.lift (.load cb (Rect.unit (s := S2x16) ![r.val, 0] S1x16.size (inbC r)).toLoadRect (View.loadsAt_vmem pos16))
  Prog.lift (.store cb (Rect.unit (s := S2x16) ![r.val, 0] S1x16.size (inbC r)) (shapeCast S1x16 a cast16') Finset.univ
    (View.stores_vmem_bits_univ pos16 rfl) (.inl rfl))

def cntOff (i : grid0.Coords) : Fin 3 → Nat :=
  ![(Scalar.addi (Scalar.muli (BitVec.ofNat 32 (i 1).val) 2#32) (BitVec.ofNat 32 (i 0).val)).toNat, 0, 0]
theorem cntOff_eq (i : grid0.Coords) : cntOff i = ![(i 1).val * 2 + (i 0).val, 0, 0] := by
  have h0 : (i 0).val < 2 := (i 0).isLt
  have h1 : (i 1).val < 16 := (i 1).isLt
  unfold cntOff
  congr 1
  simp [Scalar.addi, Scalar.muli, IntOp.addi, IntOp.muli]
  omega
theorem cntOff_inb (i : grid0.Coords) : ∀ a, cntOff i a + S1x2x16.size a ≤ S32x2x16.size a := by
  have h0 : (i 0).val < 2 := (i 0).isLt
  have h1 : (i 1).val < 16 := (i 1).isLt
  rw [cntOff_eq]
  intro a
  match a with
  | 0 => show (i 1).val * 2 + (i 0).val + 1 ≤ 32; omega
  | 1 => show 0 + 2 ≤ 2; omega
  | 2 => show 0 + 16 ≤ 16; omega
theorem sqzC : S1x2x16.Squeezes S2x16 := by decide

/-- The tile's two rows of the counts array. -/
abbrev cntRow (i : grid0.Coords) (n : Memref sig .scVector .hbm S32x2x16 .i32) : Memref sig .scVector .hbm S2x16 .i32 :=
  (n.slice (Rect.unit (s := S32x2x16) (cntOff i) S1x2x16.size (cntOff_inb i)) (fun _ => rfl)).squeeze S2x16 sqzC

/-- The counting body: the chunks, the counts put in the count buffer, the count buffer copied out. -/
def countBody (i : grid0.Coords) (x : Img) (n : Memref sig .scVector .hbm S32x2x16 .i32) (ok : rows.OK) (A B : Slot)
    (cb : Memref sig .scVector .vmem S2x16 .i32) (hcb : cb.IsWhole) (sm : DmaSems sig S_) : PT F c s PUnit := do
  startLoad i x 0 (by omega) A
  let a ← countChunks i x ok 23 0 (by omega) A B (broadcast S16 0#32, broadcast S16 0#32)
  countPut cb 0 a.1
  countPut cb 1 a.2
  Prog.lift (.enqueueDma cb (.here (cntRow i n)) (.dma sm.sem) hcb.wordExact ((View.wordExact_bits rfl).reshape _ _) ⟨Or.inl rfl, trivial⟩)
  Prog.lift (.waitDma2 sm.sem cb (cntRow i n) hcb.wordExact ((View.wordExact_bits rfl).reshape _ _))

/-! ## The scaling body -/

theorem inbN (u : Fin 32) (r : Fin 2) : ∀ a, (![u.val, r.val, 0] : Fin 3 → Nat) a + S1x1x16.size a ≤ S32x2x16.size a := by
  intro a
  match a with
  | 0 => show u.val + 1 ≤ 32; omega
  | 1 => show r.val + 1 ≤ 2; omega
  | 2 => show 0 + 16 ≤ 16; omega
theorem posN : 0 < S1x1x16.numel := by decide
theorem castN : S1x1x16.ShapeCasts S16 := by decide

/-- The sum of the tiles' counts, from tile `u` on, `n` more tiles. -/
def sumCounts (cb : Memref sig .scVector .vmem S32x2x16 .i32) : (n u : Nat) → u + n ≤ 32 → Acc → PT F c s Acc
  | 0, _, _, a => pure a
  | n + 1, u, h, a => do
    let l0 : Vec F S1x1x16 .i32 ← Prog.lift (.load cb (Rect.unit (s := S32x2x16) ![u, 0, 0] S1x1x16.size (inbN ⟨u, by omega⟩ 0)).toLoadRect (View.loadsAt_vmem posN))
    let l1 : Vec F S1x1x16 .i32 ← Prog.lift (.load cb (Rect.unit (s := S32x2x16) ![u, 1, 0] S1x1x16.size (inbN ⟨u, by omega⟩ 1)).toLoadRect (View.loadsAt_vmem posN))
    sumCounts cb n (u + 1) (by omega) (addi a.1 (shapeCast (α := BitVec 32) S16 l0 castN), addi a.2 (shapeCast (α := BitVec 32) S16 l1 castN))

/-- The factor, from the two summed counts. -/
def factor (a : Acc) : FVec F S16 .f32 :=
  divf (sitofp .f32 (subi a.2 a.1)) (subf (broadcast S16 (Scalar.ofBits .f32 0x4BC00000#32)) (sitofp .f32 a.1))

/-- The scaling from chunk `k` on, `k` at least 1, whose load is under way into buffer `A`, while the other buffer is being
    stored: `n` more chunks after it. -/
def scaleChunks (i : grid0.Coords) (x o : Img) (w : FVec F S16 .f32) (ok : rows.OK) : (n k : Nat) → k + 1 + n < 24 → Slot → Slot → PT F c s PUnit
  | 0, k, h, A, B => do
    waitLoad i x (k + 1) (by omega) A
    scaleLoop A.b w ok
    startStore i o (k + 1) (by omega) A
    waitStore i o k (by omega) B
    waitStore i o (k + 1) (by omega) A
  | n + 1, k, h, A, B => do
    waitStore i o k (by omega) B
    startLoad i x (k + 2) (by omega) B
    waitLoad i x (k + 1) (by omega) A
    scaleLoop A.b w ok
    startStore i o (k + 1) (by omega) A
    scaleChunks i x o w ok n (k + 1) (by omega) B A

/-- The scaling body: the counts fetched and summed, then the chunks. -/
def scaleBody (i : grid0.Coords) (n : Memref sig .scVector .hbm S32x2x16 .i32) (hn : n.IsWhole) (x o : Img) (ok : rows.OK) (A B : Slot)
    (cb : Memref sig .scVector .vmem S32x2x16 .i32) (hcb : cb.IsWhole) (sm : DmaSems sig S_) : PT F c s PUnit := do
  Prog.lift (.enqueueDma n (.here cb) (.dma sm.sem) hn.wordExact hcb.wordExact ⟨Or.inl rfl, trivial⟩)
  Prog.lift (.waitDma2 sm.sem n cb hn.wordExact hcb.wordExact)
  let a ← sumCounts cb 32 0 (by omega) (broadcast S16 0#32, broadcast S16 0#32)
  startLoad i x 0 (by omega) A
  startLoad i x 1 (by omega) B
  waitLoad i x 0 (by omega) A
  scaleLoop A.b (factor a) ok
  startStore i o 0 (by omega) A
  scaleChunks i x o (factor a) ok 22 0 (by omega) B A

end Cert.Proof.Canon

end
-- ==== Proof.Vals.lean ====
/- The values the tiles work on, as functions of a flat position: the image array by the row-major position of its elements, a
   chunk as sixty-four rows of it, and the number of values below a threshold in a stretch of it, as a 32-bit word. -/
module

public import proofs.«01_k».proof.Proof.Canon
public import Idealize.ShloMosaic.Lib.ValueIdxCore
public import Mathlib.Data.BitVec

@[expose] public section

noncomputable section

namespace Cert.Proof.Canon

open Cert.KernelIdeal
open Idealize.ShloMosaic Idealize.ShloMosaic.ValueIdx Idealize.SL.Sem
open scoped BigOperators

variable {F : FTy → Type} [FloatOps F]

/-! ## Counting -/

/-- One as a 32-bit word if `e` is below the threshold, zero if not. -/
def ind (T : BitVec 32) (e : F .f32) : BitVec 32 := (FloatOps.cmpf .olt e (Scalar.ofBits .f32 T)).setWidth 32

/-- How many of the `n` values from position `lo` on are below the threshold. -/
def tally (T : BitVec 32) (v : ℕ → F .f32) (lo n : ℕ) : BitVec 32 := ∑ j ∈ Finset.range n, ind T (v (lo + j))

theorem tally_zero (T : BitVec 32) (v : ℕ → F .f32) (lo : ℕ) : tally T v lo 0 = 0#32 := rfl
/-- A stretch's count is its parts' counts added. -/
theorem tally_add (T : BitVec 32) (v : ℕ → F .f32) (lo n m : ℕ) : tally T v lo (n + m) = tally T v lo n + tally T v (lo + n) m := by
  unfold tally
  rw [Finset.sum_range_add]
  simp only [Nat.add_assoc]

/-- Sixteen lanes' running sum, read at the last lane, is the sum of the lanes. -/
theorem scan_last (w : IVec S16 32) : extractAt ![15] (scan .sum w) pos15 = ∑ j : Fin 16, w (ix1 j) := by
  have e : ∀ k : Fin 16, (Shape.ofLane (d := ![16]) k : S16.Idx) = ix1 k := fun k => by funext a; match a with | ⟨0, _⟩ => rfl
  have hl : ((List.finRange 16).filter fun k => decide (0 < k.val ∧ k.val ≤ 15)) = [1, 2, 3, 4, 5, 6, 7, 8, 9, 10, 11, 12, 13, 14, 15] := by decide
  show (((List.finRange 16).filter fun k => decide (0 < k.val ∧ k.val ≤ 15)).foldl (fun r k => r + w (Shape.ofLane (d := ![16]) k)) (w (Shape.ofLane (d := ![16]) (0 : Fin 16)))) = _
  rw [hl]
  simp only [e, List.foldl, Fin.sum_univ_succ, Finset.univ_eq_empty, Finset.sum_empty]
  simp only [← add_assoc, add_zero]
  rfl

/-- One step of the count: the lane's number grows by the sixteen values' count. -/
theorem below_eq (T : BitVec 32) (v : ℕ → F .f32) (lo m : ℕ) (g : FVec F S16 .f32) (hg : ∀ l : Fin 16, g (ix1 l) = v (lo + m + l.val)) :
    below T g (fun _ => tally T v lo m) = fun _ => tally T v lo (m + 16) := by
  have e : extractAt ![15] (scan .sum (extui 32 (cmpf .olt g (broadcast S16 (Scalar.ofBits .f32 T))) lt32)) pos15 = tally T v (lo + m) 16 := by
    rw [scan_last]
    unfold tally
    rw [Finset.sum_range]
    refine Finset.sum_congr rfl fun l _ => ?_
    rw [← hg l]
    rfl
  unfold below
  rw [e, tally_add]
  rfl

/-- Both counts of a stretch, in every lane. -/
def acc (v : ℕ → F .f32) (lo m : ℕ) : Acc := (fun _ => tally 0x3B800000#32 v lo m, fun _ => tally 0x3C000000#32 v lo m)

theorem acc_zero (v : ℕ → F .f32) (lo : ℕ) : acc v lo 0 = (broadcast S16 0#32, broadcast S16 0#32) := rfl

theorem cast16_apply {α : Type} (ld : S1x16.Idx → α) (l : Fin 16) : shapeCast S16 ld cast16 (ix1 l) = ld (ix2 0 l) := by
  unfold shapeCast
  congr 1
  refine S1x16.rowMajor.injective (Fin.ext ?_)
  rw [Shape.rowMajor_reshapeEquiv, Shape.rowMajor_val_one, Shape.rowMajor_val_two]
  simp

theorem cast16'_apply {α : Type} (ld : S16.Idx → α) (y : S1x16.Idx) : shapeCast S1x16 ld cast16' y = ld (ix1 (y 1)) := by
  unfold shapeCast
  congr 1
  refine S16.rowMajor.injective (Fin.ext ?_)
  rw [Shape.rowMajor_reshapeEquiv, Shape.rowMajor_val_one, Shape.rowMajor_val_two]
  have : (y 0).val = 0 := Nat.lt_one_iff.mp (y 0).isLt
  simp [this]

theorem countStep_eq (v : ℕ → F .f32) (lo m : ℕ) (ld : Vec F S1x16 .f32) (hg : ∀ l : Fin 16, ld (ix2 0 l) = v (lo + m + l.val)) :
    countStep (F := F) ld (acc v lo m) = acc v lo (m + 16) :=
  Prod.ext (below_eq _ v lo m _ fun l => (cast16_apply _ l).trans (hg l)) (below_eq _ v lo m _ fun l => (cast16_apply _ l).trans (hg l))

/-! ## Chunks -/

/-- Where chunk `k` of image `w` starts. -/
def base (w k : ℕ) : ℕ := (w * 24 + k) * 32768

/-- The array of the values by flat position. -/
def img {α : Type} (v : ℕ → α) : S32x3x512x512.Idx → α := fun z => v ((((z 0).val * 3 + (z 1).val) * 512 + (z 2).val) * 512 + (z 3).val)

/-- The position of an element in its chunk. -/
def pos (y : S64x512.Idx) : ℕ := (y 0).val * 512 + (y 1).val
theorem pos_lt (y : S64x512.Idx) : pos y < 32768 := by
  have h0 : (y 0).val < 64 := (y 0).isLt
  have h1 : (y 1).val < 512 := (y 1).isLt
  unfold pos; omega

/-- The chunk that starts at position `lo`. -/
def chunkVal {α : Type} (v : ℕ → α) (lo : ℕ) : S64x512.Idx → α := fun y => v (lo + pos y)

/-- A chunk of which the first `p` elements are `v'`'s and the others `v`'s. -/
def mixedVal {α : Type} (v' v : ℕ → α) (lo p : ℕ) : S64x512.Idx → α := fun y => if pos y < p then v' (lo + pos y) else v (lo + pos y)
theorem mixedVal_zero {α : Type} (v' v : ℕ → α) (lo : ℕ) : mixedVal v' v lo 0 = chunkVal v lo := rfl
theorem mixedVal_all {α : Type} (v' v : ℕ → α) (lo : ℕ) : mixedVal v' v lo 32768 = chunkVal v' lo := funext fun y => if_pos (pos_lt y)

/-- Position in its chunk of the `l`-th of the `u`-th sixteen elements of row `t`. -/
theorem pos_rowRect (t : Fin rows.trips) (u : ℕ) (hu : u < 32) (j : S1x16.Idx) :
    pos ((rowRect t u hu).emb j) = t.val * 512 + 16 * u + (j 1).val := by
  have h0 : (j 0).val = 0 := Nat.lt_one_iff.mp (j 0).isLt
  unfold pos
  rw [Rect.emb_apply, Rect.emb_apply]
  show (rowOff t u 0 + 1 * (j 0).val) * 512 + (rowOff t u 1 + 1 * (j 1).val) = _
  rw [rowOff_eq, h0]
  show (t.val + 1 * 0) * 512 + (16 * u + 1 * (j 1).val) = _
  omega

/-- Which elements the `u`-th sixteen of row `t` are, by their position. -/
theorem mem_rowRect (t : Fin rows.trips) (u : ℕ) (hu : u < 32) (y : S64x512.Idx) (h : t.val * 512 + 16 * u ≤ pos y) (h' : pos y < t.val * 512 + 16 * u + 16) :
    ∃ j : S1x16.Idx, (rowRect t u hu).emb j = y := by
  have ht : t.val < 64 := lt_of_lt_of_eq t.isLt rows_trips
  have h1 : (y 1).val < 512 := (y 1).isLt
  unfold pos at h h'
  have hr : (y 0).val = t.val := by omega
  refine ⟨ix2 0 ⟨(y 1).val - 16 * u, by omega⟩, funext fun a => Fin.ext ?_⟩
  rw [Rect.emb_apply]
  show rowOff t u a + 1 * _ = _
  rw [rowOff_eq]
  match a with
  | 0 => show t.val + 1 * 0 = _; omega
  | 1 => show 16 * u + 1 * ((y 1).val - 16 * u) = _; omega

/-- Chunk `k` of image `i₁ · 2 + i₀`, as the copies address it, read from the array of the values. -/
theorem chunk_pos (i : grid0.Coords) (k : ℕ) (hk : k < 24) (y : S64x512.Idx) {α : Type} (v : ℕ → α) :
    img v ((Rect.unit (s := S32x3x512x512) (chunkOff i k) S1x1x64x512.size (chunkOff_inb i hk)).emb (Shape.reshapeEquiv (s := S1x1x64x512) (s' := S64x512) sqz.numel_eq y))
      = chunkVal v (base ((i 1).val * 2 + (i 0).val) k) y := by
  obtain ⟨z, hz⟩ : ∃ z, z = Shape.reshapeEquiv (s := S1x1x64x512) (s' := S64x512) sqz.numel_eq y := ⟨_, rfl⟩
  rw [← hz]
  have hp := Shape.rowMajor_reshapeEquiv (s := S1x1x64x512) (s' := S64x512) sqz.numel_eq y
  rw [← hz, Shape.rowMajor_val_four, Shape.rowMajor_val_two] at hp
  have h0 : (z 0).val = 0 := Nat.lt_one_iff.mp (z 0).isLt
  have h1 : (z 1).val = 0 := Nat.lt_one_iff.mp (z 1).isLt
  replace hp : (((z 0).val * 1 + (z 1).val) * 64 + (z 2).val) * 512 + (z 3).val = (y 0).val * 512 + (y 1).val := hp
  unfold img chunkVal base pos
  congr 1
  rw [Rect.emb_apply, Rect.emb_apply, Rect.emb_apply, Rect.emb_apply]
  show (((chunkOff i k 0 + 1 * (z 0).val) * 3 + (chunkOff i k 1 + 1 * (z 1).val)) * 512 + (chunkOff i k 2 + 1 * (z 2).val)) * 512
    + (chunkOff i k 3 + 1 * (z 3).val) = _
  rw [chunkOff_eq]
  show (((((i 1).val * 2 + (i 0).val) + 1 * (z 0).val) * 3 + (k / 8 + 1 * (z 1).val)) * 512 + (k % 8 * 64 + 1 * (z 2).val)) * 512
    + (0 + 1 * (z 3).val) = _
  omega

end Cert.Proof.Canon

end
-- ==== Proof.Hold.lean ====
/- What a tile holds while it runs, and the rules its loads, stores and copies follow: a buffer or a part of an array at given
   contents, a share of an array that all tiles read, a copy under way. -/
module

public import proofs.«01_k».proof.Proof.Vals
public import Idealize.ShloMosaic.Lib.SparseCore.Quiescent
public import Idealize.ShloMosaic.Lib.SparseCore.Ops
public import Idealize.ShloMosaic.Lib.Transfers
public import Idealize.ShloMosaic.Lib.Pipeline.Kit
public import Idealize.ShloMosaic.Lib.Tactic

@[expose] public section

noncomputable section

namespace Cert.Proof.Tile

open Cert.KernelIdeal Cert.Proof.Canon

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

abbrev 𝒱₀ : Variants := Variants.none

/-- The handshakes' rounds and the transfers' counters. -/
abbrev UH : Type := URounds (GSem nD τ sig) ℕ
abbrev UU : Type := UH × Counters

local notation "𝕄" => MT nD τ sig (HIx 2) (Elt F) ℕ UU ℕ

variable (d : Dev nD) (c : Fin τ.nSC) (s : Fin τ.nSub)

/-- The weakest precondition of a tile's program. -/
abbrev WP {α : Type} (p : PT F c s α) (Q : α → sProp 𝕄) : sProp 𝕄 :=
  wp frame (wpE (defs₀ (F := F)) 𝒱₀ (V d c s) none) Set.univ p Q

/-- A program that is over. -/
theorem wp_over {α : Type} (a : α) (Q : α → sProp 𝕄) : Q a ⊢ WP d c s (pure a) Q := by
  show _ ⊢ wp frame (wpE (defs₀ (F := F)) 𝒱₀ (V d c s) none) Set.univ (pure a) Q
  rw [wp_pure]
  iintro H
  imodintro
  iexact H

/-- A last operation is followed by nothing. -/
theorem wp_last {α : Type} (p : PT F c s α) (Q : α → sProp 𝕄) : WP d c s (p >>= pure) Q ⊢ WP d c s p Q := by
  rw [bind_pure]

/-- A part of a program, then the rest. -/
theorem wp_then {α β : Type} (p : PT F c s α) (k : α → PT F c s β) (Q' : α → sProp 𝕄) (Q : β → sProp 𝕄) :
    WP d c s p Q' ⊢ iprop((∀ a, Q' a -∗ WP d c s (k a) Q) -∗ WP d c s (p >>= k) Q) := by
  have e : WP d c s (p >>= k) Q = WP d c s p fun a => WP d c s (k a) Q := wp_bind _ _ _ p k Q
  rw [e]
  exact wp_wand _ _ _

/-- A share of the elements of a memref, at contents `g`. -/
def reads {sp : Space} {sh : Shape} {e : EltTy} (b : Memref sig .scVector sp sh e) (q : PosShare TreeShare) (g : sh.Idx → Elt F e) : sProp 𝕄 :=
  iprop(∃ f : Buf (Elt F) (b.view.loc (V d c s)), (b.view.loc (V d c s) ↦[b.view.set]{q} f) ∗ ⌜b.view.read (Elt F) f = g⌝)

/-- The elements of a memref, held outright, at contents `g`. -/
abbrev holds {sp : Space} {sh : Shape} {e : EltTy} (b : Memref sig .scVector sp sh e) (g : sh.Idx → Elt F e) : sProp 𝕄 :=
  reads d c s b fullShare g

/-- The elements of a memref, held outright, at some contents. -/
def some_ {sp : Space} {sh : Shape} {e : EltTy} (b : Memref sig .scVector sp sh e) : sProp 𝕄 :=
  iprop(∃ f : Buf (Elt F) (b.view.loc (V d c s)), b.view.loc (V d c s) ↦[b.view.set]{fullShare} f)

theorem holds_some {sp : Space} {sh : Shape} {e : EltTy} (b : Memref sig .scVector sp sh e) (g : sh.Idx → Elt F e) :
    holds d c s b g ⊢ some_ d c s b := by
  unfold holds reads some_
  iintro ⟨%f, H, -⟩
  iexists f; iexact H

theorem some_holds {sp : Space} {sh : Shape} {e : EltTy} (b : Memref sig .scVector sp sh e) :
    some_ d c s b ⊢ (iprop(∃ g, holds d c s b g) : sProp 𝕄) := by
  unfold holds reads some_
  iintro ⟨%f, H⟩
  iexists _; iexists f
  isplitl [H]; · iexact H
  ipureintro; rfl

/-- A load reads the contents. -/
theorem wp_load_holds {sh : Shape} {e : EltTy} {b : Memref sig .scVector .vmem sh e} {g : sh.Idx → Elt F e} {r : Rect sh}
    {hl : b.view.LoadsAt r.toLoadRect} {α : Type} {k : (r.shape.Idx → Elt F e) → PT F c s α} {Q : α → sProp 𝕄} :
    holds d c s b g ⊢ iprop((holds d c s b g -∗ WP d c s (k fun j => g (r.emb j)) Q) -∗ WP d c s (Prog.lift (.load b r.toLoadRect hl) >>= k) Q) := by
  unfold holds reads
  iintro ⟨%f, H, %hf⟩ HK
  subst hf
  iapply (wp_load_rect (m := b) (r := r) (f := f) (hl := hl) 𝒱₀ (V d c s) none Set.univ (View.set_slice_subset _ _)) $$ H
  iintro H
  iapply HK
  iexists f
  isplitl [H]; · iexact H
  ipureintro; rfl

/-- A store changes the contents in its rectangle. -/
theorem wp_store_holds {sh : Shape} {e : EltTy} {b : Memref sig .scVector .vmem sh e} {g : sh.Idx → Elt F e} {r : Rect sh}
    {w : r.shape.Idx → Elt F e} {hx : (b.access r).Stores Finset.univ} {hm : Finset.univ = Finset.univ ∨ ∀ a, r.stride a = 1}
    {α : Type} {k : PUnit → PT F c s α} {Q : α → sProp 𝕄} (g' : sh.Idx → Elt F e)
    (hin : ∀ j, g' (r.emb j) = w j) (hout : ∀ y, (∀ j, r.emb j ≠ y) → g' y = g y) :
    holds d c s b g ⊢ iprop((holds d c s b g' -∗ WP d c s (k ⟨⟩) Q) -∗ WP d c s (Prog.lift (.store b r w Finset.univ hx hm) >>= k) Q) := by
  unfold holds reads
  iintro ⟨%f, H, %hf⟩ HK
  subst hf
  iapply (wp_store (m := b) (r := r) (f := f) (hx := hx) (hm := hm) 𝒱₀ (V d c s) none Set.univ (View.set_slice_subset _ _)) $$ H
  iintro H
  iapply HK
  iexists _
  isplitl [H]; · iexact H
  ipureintro
  funext y
  by_cases h : ∃ j, r.emb j = y
  · obtain ⟨j, rfl⟩ := h
    rw [hin]; exact View.read_slice_write_emb (v := b.view) r f w (Finset.mem_univ j)
  · rw [hout y fun j e => h ⟨j, e⟩]
    refine View.read_slice_write_of_not_mem (v := b.view) r f w _ fun hm => h ?_
    obtain ⟨j, -, e⟩ := Finset.mem_map.mp hm
    exact ⟨j, e⟩

/-- What a tile must keep to wait: the evidence that its waits end, and what it owes. -/
def waiting (O : CellTallies nD τ sig (HIx 2)) (W : Waits sig (HIx 2)) : sProp 𝕄 :=
  iprop(Transfers.MayWaits (V d c s) (default : HIx 2) O ∗ ∃ W', ⌜∀ p ∈ W', p ∈ W ∨ p.2 = none⌝ ∗ owes (V d c s) O W')

/-- A copy under way that counts on `sm`, into `dst`: what it hands over is `D`. -/
abbrev flying {sp : Space} {sh : Shape} {e : EltTy} (dst : Memref sig .scVector sp sh e) (sm : DmaSem sig) (D : sProp 𝕄) : sProp 𝕄 :=
  Transfers.Flight countersEmb (V d c s) (.dma sm) (default : HIx 2) dst.view.dmaCredit D

/-- A copy starts: its source is lent, its destination and its semaphore at zero are taken. -/
theorem wp_start {sp sp' : Space} {sh : Shape} {e : EltTy} {src : Memref sig .scVector sp sh e} {dst : Memref sig .scVector sp' sh e}
    {sm : DmaSem sig} {hsrc : src.view.WordExact} {hdst : dst.view.WordExact} {hsem : DmaTarget.Typed (nD := nD) sp (.dma sm) (.here (p := .scVector c s) dst)}
    (hn : 0 < sh.numel) {q : PosShare TreeShare} {g : sh.Idx → Elt F e} {α : Type} {k : PUnit → PT F c s α} {Q : α → sProp 𝕄} :
    iprop(reads d c s src q g ∗ some_ d c s dst ∗ semVal (V d c s, SemLoc.dma sm) 0)
      ⊢ iprop((flying d c s dst sm iprop(holds d c s dst g ∗ reads d c s src q g) -∗ WP d c s (k ⟨⟩) Q)
        -∗ WP d c s (Prog.lift (.enqueueDma src (.here dst) (.dma sm) hsrc hdst hsem) >>= k) Q) := by
  unfold holds reads some_
  iintro ⟨⟨%f, H, %hf⟩, ⟨%f', H'⟩, Hs⟩ HK
  iapply (Transfers.wp_dmaLocal countersEmb 𝒱₀ (V d c s) none (default : HIx 2) dst.view.dmaCredit rfl (View.dmaCredit_pos _ hn) (Finset.Subset.refl _)) $$ [H H' Hs]
  · isplitl [H]; · iexact H
    isplitl [H']; · iexact H'
    iexact Hs
  iintro Hfl
  iapply HK
  iapply (Transfers.Flight_mono countersEmb (V d c s) ?_) $$ Hfl
  iintro ⟨H', H⟩
  isplitl [H']
  · iexists _
    isplitl [H']; · iexact H'
    ipureintro
    rw [View.read_write_univ]; exact hf
  · iexists f
    isplitl [H]; · iexact H
    ipureintro; exact hf

/-- The wait for a copy hands over what it carries. -/
theorem wp_finish {sp sp' : Space} {sh sh' : Shape} {e e' : EltTy} {src : Memref sig .scVector sp sh' e'} {dst : Memref sig .scVector sp' sh e}
    {sm : DmaSem sig} {hsrc : src.view.WordExact} {hdst : dst.view.WordExact} {D : sProp 𝕄} {O : CellTallies nD τ sig (HIx 2)} {W : Waits sig (HIx 2)}
    {α : Type} {k : PUnit → PT F c s α} {Q : α → sProp 𝕄} :
    iprop(flying d c s dst sm D ∗ waiting d c s O W)
      ⊢ iprop((iprop(D ∗ semVal (V d c s, SemLoc.dma sm) 0 ∗ waiting d c s O W) -∗ WP d c s (k ⟨⟩) Q)
        -∗ WP d c s (Prog.lift (.waitDma2 sm src dst hsrc hdst) >>= k) Q) := by
  unfold waiting
  iintro ⟨Hfl, #Hmw, %W', %hW', HO⟩ HK
  iapply (Transfers.wp_waitLocalO countersEmb 𝒱₀ (V d c s) none (default : HIx 2) rfl) $$ [Hfl HO]
  · isplitl [Hfl]; · iexact Hfl
    isplitl [HO]; · iexact HO
    iapply (Transfers.MayWaits.elim (SemLoc.dma sm)) $$ Hmw
  iintro ⟨HD, Hs, HO⟩
  iapply HK
  isplitl [HD]; · iexact HD
  isplitl [Hs]; · iexact Hs
  isplitr; · iexact Hmw
  iexists _
  isplitr
  swap; · iexact HO
  ipureintro; intro p hp
  rcases Finset.mem_insert.mp hp with hp | hp; · exact .inr (hp ▸ rfl)
  exact hW' p hp

end Cert.Proof.Tile

end
-- ==== Proof.Loads.lean ====
/- Chunks on their way: the load of a chunk into a buffer from a share of the whole array, and the store of a buffer to a chunk. -/
module

public import proofs.«01_k».proof.Proof.Hold

@[expose] public section

noncomputable section

namespace Cert.Proof.Tile

open Cert.KernelIdeal Cert.Proof.Canon

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

local notation "𝕄" => MT nD τ sig (HIx 2) (Elt F) ℕ UU ℕ

variable (d : Dev nD) (c : Fin τ.nSC) (s : Fin τ.nSub)

/-- The image a tile works on. -/
abbrev img_of (i : grid0.Coords) : ℕ := (i 1).val * 2 + (i 0).val

/-- What a chunk of the whole array reads. -/
theorem read_chunk (i : grid0.Coords) (x : Img) (k : ℕ) (hk : k < 24) (v : ℕ → F .f32) (f : Buf (Elt F) (x.view.loc (V d c s)))
    (hf : x.view.read (Elt F) f = img v) : (chunk i x k hk).view.read (Elt F) f = chunkVal v (base (img_of i) k) := by
  funext y
  rw [← chunk_pos i k hk y v, ← hf]
  rfl

theorem chunk_subset (i : grid0.Coords) (x : Img) (k : ℕ) (hk : k < 24) : (chunk i x k hk).view.set ⊆ x.view.set := by
  show ((x.view.slice (Rect.unit (s := S32x3x512x512) (chunkOff i k) S1x1x64x512.size (chunkOff_inb i hk))).reshape S64x512 sqz.numel_eq).set ⊆ _
  rw [View.set_reshape]
  exact View.set_slice_subset _ _

/-- A chunk is lent from the array, and given back. -/
theorem lend (i : grid0.Coords) (x : Img) (k : ℕ) (hk : k < 24) (v : ℕ → F .f32) (q : PosShare TreeShare) :
    (reads d c s x q (img v) : sProp 𝕄)
      ⊢ iprop(reads d c s (chunk i x k hk) q (chunkVal v (base (img_of i) k))
        ∗ (reads d c s (chunk i x k hk) q (chunkVal v (base (img_of i) k)) -∗ reads d c s x q (img v))) := by
  unfold reads
  iintro ⟨%f, H, %hf⟩
  ihave H2 := (pointsTo_split_subset (q := q) (f := f) (chunk_subset i x k hk)).1 $$ H
  icases H2 with ⟨Hc, Hr⟩
  isplitl [Hc]
  · iexists f
    isplitl [Hc]; · iexact Hc
    ipureintro; exact read_chunk d c s i x k hk v f hf
  · iintro ⟨%f', Hc, %hf'⟩
    have hcongr : ∀ z ∈ (chunk i x k hk).view.set, f' z = f z := by
      intro z hz
      obtain ⟨y, -, rfl⟩ := Finset.mem_map.mp hz
      have h1 := congrFun hf' y
      rw [← congrFun (read_chunk d c s i x k hk v f hf) y, View.read_apply, View.read_apply] at h1
      exact (Equiv.cast (congrArg (Elt F) (chunk i x k hk).view.elt_eq)).injective h1
    ihave Hc' := (Entails.of_eq (pointsTo_congr (q := q) (ℓ := x.view.loc (V d c s)) hcongr)) $$ Hc
    iexists f
    isplitl [Hc' Hr]
    · iapply (pointsTo_split_subset (q := q) (f := f) (chunk_subset i x k hk)).2
      isplitl [Hc'] <;> iassumption
    ipureintro; exact hf

/-- The load of chunk `k` under way into a buffer, and the rest of the share of the array. -/
def loading (i : grid0.Coords) (x : Img) (v : ℕ → F .f32) (k : ℕ) (hk : k < 24) (A : Slot) (q : PosShare TreeShare) : sProp 𝕄 :=
  iprop(flying d c s A.b A.ld.sem
      iprop(holds d c s A.b (chunkVal v (base (img_of i) k)) ∗ reads d c s (chunk i x k hk) q (chunkVal v (base (img_of i) k)))
    ∗ (reads d c s (chunk i x k hk) q (chunkVal v (base (img_of i) k)) -∗ reads d c s x q (img v)))

/-- A buffer free for a load: at some contents, its load semaphore at zero. -/
def free (A : Slot) : sProp 𝕄 := iprop(some_ d c s A.b ∗ semVal (V d c s, SemLoc.dma A.ld.sem) 0)

theorem pos2 : 0 < S64x512.numel := by decide

/-- The start of a load. -/
theorem wp_startLoad (i : grid0.Coords) (x : Img) (v : ℕ → F .f32) (k : ℕ) (hk : k < 24) (A : Slot) (q : PosShare TreeShare)
    {α : Type} {kk : PUnit → PT F c s α} {Q : α → sProp 𝕄} :
    iprop(reads d c s x q (img v) ∗ free d c s A)
      ⊢ iprop((loading d c s i x v k hk A q -∗ WP d c s (kk ⟨⟩) Q) -∗ WP d c s (startLoad i x k hk A >>= kk) Q) := by
  unfold free loading startLoad
  iintro ⟨Hx, Hb, Hs⟩ HK
  ihave H := (lend d c s i x k hk v q) $$ Hx
  icases H with ⟨Hc, Hback⟩
  iapply (wp_start d c s pos2 (src := chunk i x k hk)) $$ [Hc Hb Hs]
  · isplitl [Hc]; · iexact Hc
    isplitl [Hb]; · iexact Hb
    iexact Hs
  iintro Hfl
  iapply HK
  isplitl [Hfl]; · iexact Hfl
  iexact Hback

/-- The wait for a load: the buffer holds the chunk, the share of the array is whole again. -/
theorem wp_waitLoad (i : grid0.Coords) (x : Img) (v : ℕ → F .f32) (k : ℕ) (hk : k < 24) (A : Slot) (q : PosShare TreeShare)
    (O : CellTallies nD τ sig (HIx 2)) (W : Waits sig (HIx 2))
    {α : Type} {kk : PUnit → PT F c s α} {Q : α → sProp 𝕄} :
    iprop(loading d c s i x v k hk A q ∗ waiting d c s O W)
      ⊢ iprop((iprop(holds d c s A.b (chunkVal v (base (img_of i) k)) ∗ semVal (V d c s, SemLoc.dma A.ld.sem) 0 ∗ reads d c s x q (img v) ∗ waiting d c s O W)
          -∗ WP d c s (kk ⟨⟩) Q) -∗ WP d c s (waitLoad i x k hk A >>= kk) Q) := by
  unfold loading waitLoad
  iintro ⟨⟨Hfl, Hback⟩, Hw⟩ HK
  iapply (wp_finish d c s) $$ [Hfl Hw]
  · isplitl [Hfl] <;> iassumption
  iintro ⟨⟨Hb, Hc⟩, Hs, Hw⟩
  iapply HK
  isplitl [Hb]; · iexact Hb
  isplitl [Hs]; · iexact Hs
  isplitl [Hc Hback]
  · iapply Hback $$ Hc
  iexact Hw

/-- The store of a buffer to chunk `k` under way. -/
def storing (i : grid0.Coords) (o : Img) (v : ℕ → F .f32) (k : ℕ) (hk : k < 24) (A : Slot) : sProp 𝕄 :=
  flying d c s (chunk i o k hk) A.st.sem
    iprop(holds d c s (chunk i o k hk) (chunkVal v (base (img_of i) k)) ∗ reads d c s A.b fullShare (chunkVal v (base (img_of i) k)))

/-- The start of a store. -/
theorem wp_startStore (i : grid0.Coords) (o : Img) (v : ℕ → F .f32) (k : ℕ) (hk : k < 24) (A : Slot)
    {α : Type} {kk : PUnit → PT F c s α} {Q : α → sProp 𝕄} :
    iprop(holds d c s A.b (chunkVal v (base (img_of i) k)) ∗ some_ d c s (chunk i o k hk) ∗ semVal (V d c s, SemLoc.dma A.st.sem) 0)
      ⊢ iprop((storing d c s i o v k hk A -∗ WP d c s (kk ⟨⟩) Q) -∗ WP d c s (startStore i o k hk A >>= kk) Q) := by
  unfold storing startStore
  exact wp_start d c s pos2 (dst := chunk i o k hk) (q := fullShare)

/-- The wait for a store: the chunk is written, the buffer free. -/
theorem wp_waitStore (i : grid0.Coords) (o : Img) (v : ℕ → F .f32) (k : ℕ) (hk : k < 24) (A : Slot)
    (O : CellTallies nD τ sig (HIx 2)) (W : Waits sig (HIx 2))
    {α : Type} {kk : PUnit → PT F c s α} {Q : α → sProp 𝕄} :
    iprop(storing d c s i o v k hk A ∗ waiting d c s O W)
      ⊢ iprop((iprop(holds d c s (chunk i o k hk) (chunkVal v (base (img_of i) k)) ∗ some_ d c s A.b ∗ semVal (V d c s, SemLoc.dma A.st.sem) 0 ∗ waiting d c s O W)
          -∗ WP d c s (kk ⟨⟩) Q) -∗ WP d c s (waitStore i o k hk A >>= kk) Q) := by
  unfold storing waitStore
  iintro ⟨Hfl, Hw⟩ HK
  iapply (wp_finish d c s (dst := chunk i o k hk)) $$ [Hfl Hw]
  · isplitl [Hfl] <;> iassumption
  iintro ⟨⟨Hc, Hb⟩, Hs, Hw⟩
  iapply HK
  isplitl [Hc]; · iexact Hc
  isplitl [Hb]
  · iapply (holds_some d c s A.b (chunkVal v (base (img_of i) k))); iexact Hb
  isplitl [Hs] <;> iassumption

end Cert.Proof.Tile

end
-- ==== Proof.CountTile.lean ====
/- The counting tile: what one row, one chunk, all chunks and the whole body leave, over any float values. -/
module

public import proofs.«01_k».proof.Proof.Loads

@[expose] public section

noncomputable section

namespace Cert.Proof.Tile

open Cert.KernelIdeal Cert.Proof.Canon

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

local notation "𝕄" => MT nD τ sig (HIx 2) (Elt F) ℕ UU ℕ

variable (d : Dev nD) (c : Fin τ.nSC) (s : Fin τ.nSub)

/-! ## Rows -/

/-- A row's count: sixteen more values with every step. -/
theorem wp_countRow (b : Buf2) (v : ℕ → F .f32) (lo start : ℕ) (t : Fin rows.trips) :
    ∀ (n u : ℕ) (h : u + n ≤ 32) (m : ℕ) (_ : lo + m = start + (t.val * 512 + 16 * u)),
      holds d c s b (chunkVal v start)
        ⊢ WP d c s (countRow b t n u h (acc v lo m)) fun a => iprop(⌜a = acc v lo (m + 16 * n)⌝ ∗ holds d c s b (chunkVal v start))
  | 0, u, h, m, hm => by
    refine BIBase.Entails.trans ?_ (wp_over d c s (acc v lo m) _)
    iintro H
    isplitr
    · ipureintro; rfl
    iexact H
  | n + 1, u, h, m, hm => by
    rw [countRow]
    iintro H
    iapply (wp_load_holds d c s) $$ H
    iintro H
    have e : ∀ l : Fin 16, chunkVal v start ((rowRect t u (by omega)).emb (ix2 0 l)) = v (lo + m + l.val) := fun l => by
      unfold chunkVal; rw [pos_rowRect]; congr 1; show start + (t.val * 512 + 16 * u + l.val) = _; omega
    have e' := countStep_eq v lo m (fun j => chunkVal v start ((rowRect t u (by omega)).emb j)) e
    have key : ∀ a, a = acc v lo (m + 16) → (holds d c s b (chunkVal v start)
        ⊢ WP d c s (countRow b t n (u + 1) (by omega) a) fun a => iprop(⌜a = acc v lo (m + 16 * (n + 1))⌝ ∗ holds d c s b (chunkVal v start))) := by
      rintro a rfl
      rw [show m + 16 * (n + 1) = (m + 16) + 16 * n by omega]
      exact wp_countRow b v lo start t n (u + 1) (by omega) (m + 16) (by omega)
    iapply (key _ e') $$ H

/-- A chunk's count. -/
theorem wp_countLoop (b : Buf2) (ok : rows.OK) (v : ℕ → F .f32) (lo start m : ℕ) (hm : lo + m = start) :
    holds d c s b (chunkVal v start)
      ⊢ WP d c s (countLoop b ok (acc v lo m)) fun a => iprop(⌜a = acc v lo (m + 32768)⌝ ∗ holds d c s b (chunkVal v start)) := by
  have hbody : ∀ (t : Fin rows.trips) (a : Acc), iprop(⌜a = acc v lo (m + 512 * t.val)⌝ ∗ holds d c s b (chunkVal v start))
      ⊢ WP d c s (countRow b t 32 0 (by omega) a) fun a => iprop(⌜a = acc v lo (m + 512 * (t.val + 1))⌝ ∗ holds d c s b (chunkVal v start)) := by
    intro t a
    iintro ⟨%ha, H⟩
    subst ha
    rw [show m + 512 * (t.val + 1) = m + 512 * t.val + 16 * 32 by omega]
    iapply (wp_countRow d c s b v lo start t 32 0 _ (m + 512 * t.val) (by omega)) $$ H
  refine BIBase.Entails.trans ?_ (Scf.wp_for frame (wpE (defs₀ (F := F)) 𝒱₀ (V d c s) none) Set.univ _ _ _ ok (acc v lo m)
    (fun t a => countRow b t 32 0 (by omega) a) (fun k a => iprop(⌜a = acc v lo (m + 512 * k)⌝ ∗ holds d c s b (chunkVal v start))) hbody)
  iintro H
  isplitl [H]
  · isplitr
    · ipureintro; rfl
    iexact H
  · iintro %a ⟨%ha, H⟩
    isplitr
    · ipureintro; exact ha
    iexact H

/-! ## Chunks -/

/-- The count over the chunks from `k` on: at the end both buffers are free and both shares of the array are back. -/
theorem wp_countChunks (i : grid0.Coords) (x : Img) (ok : rows.OK) (v : ℕ → F .f32) (O : CellTallies nD τ sig (HIx 2)) (W : Waits sig (HIx 2)) :
    ∀ (n k : ℕ) (h : k + n < 24) (A B : Slot) (qA qB : PosShare TreeShare),
      iprop(loading d c s i x v k (by omega) A qA ∗ free d c s B ∗ reads d c s x qB (img v) ∗ waiting d c s O W)
        ⊢ WP d c s (countChunks i x ok n k h A B (acc v (base (img_of i) 0) (k * 32768))) fun a =>
          iprop(⌜a = acc v (base (img_of i) 0) ((k + n + 1) * 32768)⌝ ∗ free d c s A ∗ free d c s B ∗ reads d c s x qA (img v) ∗ reads d c s x qB (img v)
            ∗ waiting d c s O W)
  | 0, k, h, A, B, qA, qB => by
    rw [countChunks]
    iintro ⟨Hl, HB, Hx, Hw⟩
    iapply (wp_waitLoad d c s i x v k _ A qA O W) $$ [Hl Hw]
    · isplitl [Hl] <;> iassumption
    iintro ⟨Hb, Hs, HxA, Hw⟩
    iapply (wp_last d c s)
    iapply (wp_then d c s) $$ [Hb]
    · iapply (wp_countLoop d c s A.b ok v (base (img_of i) 0) (base (img_of i) k) (k * 32768) (by unfold base; omega)); iexact Hb
    iintro %a ⟨%ha, Hb⟩
    iapply (wp_over d c s)
    isplitr
    · ipureintro; exact ha.trans (congrArg (acc v _) (by omega))
    isplitl [Hb Hs]
    · unfold free
      isplitl [Hb]
      · iapply (holds_some d c s A.b (chunkVal v (base (img_of i) k))); iexact Hb
      iexact Hs
    isplitl [HB]; · iexact HB
    isplitl [HxA]; · iexact HxA
    isplitl [Hx] <;> iassumption
  | n + 1, k, h, A, B, qA, qB => by
    rw [countChunks]
    iintro ⟨Hl, HB, Hx, Hw⟩
    iapply (wp_startLoad d c s i x v (k + 1) _ B qB) $$ [HB Hx]
    · isplitl [Hx] <;> iassumption
    iintro Hl'
    iapply (wp_waitLoad d c s i x v k _ A qA O W) $$ [Hl Hw]
    · isplitl [Hl] <;> iassumption
    iintro ⟨Hb, Hs, HxA, Hw⟩
    iapply (wp_then d c s) $$ [Hb]
    · iapply (wp_countLoop d c s A.b ok v (base (img_of i) 0) (base (img_of i) k) (k * 32768) (by unfold base; omega)); iexact Hb
    iintro %a ⟨%ha, Hb⟩
    have ha' : a = acc v (base (img_of i) 0) ((k + 1) * 32768) := ha.trans (congrArg (acc v _) (by omega))
    subst ha'
    iapply (wp_wand frame (wpE (defs₀ (F := F)) 𝒱₀ (V d c s) none) Set.univ) $$ [Hl' Hb Hs HxA Hw]
    · iapply (wp_countChunks i x ok v O W n (k + 1) _ B A qB qA)
      isplitl [Hl']; · iexact Hl'
      isplitl [Hb Hs]
      · unfold free
        isplitl [Hb]
        · iapply (holds_some d c s A.b (chunkVal v (base (img_of i) k))); iexact Hb
        iexact Hs
      isplitl [HxA] <;> iassumption
    iintro %a ⟨%ha, HB, HA, HxB, HxA, Hw⟩
    isplitr
    · ipureintro; exact ha.trans (congrArg (acc v _) (by omega))
    isplitl [HA]; · iexact HA
    isplitl [HB]; · iexact HB
    isplitl [HxA]; · iexact HxA
    isplitl [HxB] <;> iassumption

/-! ## The body -/

/-- What a tile's count buffer holds after its first rows: both counts. -/
def twoCounts (v : ℕ → F .f32) (w : ℕ) : S2x16.Idx → Elt F .i32 := fun y =>
  if (y 0).val = 0 then tally 0x3B800000#32 v (w * 786432) 786432 else tally 0x3C000000#32 v (w * 786432) 786432

/-- A count is put in its row of the count buffer. -/
theorem wp_countPut (cb : Memref sig .scVector .vmem S2x16 .i32) (r : Fin 2) (n : BitVec 32) (g : S2x16.Idx → Elt F .i32)
    {α : Type} {kk : PUnit → PT F c s α} {Q : α → sProp 𝕄} :
    holds d c s cb g ⊢ iprop((holds d c s cb (fun y => if (y 0).val = r.val then n else g y) -∗ WP d c s (kk ⟨⟩) Q)
      -∗ WP d c s (countPut cb r (fun _ => n) >>= kk) Q) := by
  have hy : ∀ j : S1x16.Idx, ((Rect.unit (s := S2x16) ![r.val, 0] S1x16.size (inbC r)).emb j 0).val = r.val := fun j => by
    have h0 : (j 0).val = 0 := Nat.lt_one_iff.mp (j 0).isLt
    rw [Rect.emb_apply]
    show r.val + 1 * (j 0).val = _
    omega
  unfold countPut
  rw [bind_assoc]
  iintro H HK
  iapply (wp_load_holds d c s) $$ H
  iintro H
  iapply (wp_store_holds d c s (fun y => if (y 0).val = r.val then n else g y) (fun j => if_pos (hy j)) ?_) $$ H
  · intro y hout
    refine if_neg fun e => hout (fun | ⟨0, _⟩ => (0 : Fin 1) | ⟨1, _⟩ => y 1) (funext fun a => Fin.ext ?_)
    rw [Rect.emb_apply]
    match a with
    | 0 => show r.val + 1 * 0 = _; omega
    | 1 => show 0 + 1 * (y 1).val = _; omega
  iintro H
  iapply HK $$ H

/-- The counting tile, from its share of the array (in two halves), its rows of the counts array and its own buffers and
    semaphores: the rows hold the tile's two counts, everything else is as it was. -/
theorem wp_countBody (i : grid0.Coords) (x : Img) (nm : Memref sig .scVector .hbm S32x2x16 .i32) (ok : rows.OK) (A B : Slot)
    (cb : Memref sig .scVector .vmem S2x16 .i32) (hcb : cb.IsWhole) (sm : DmaSems sig S_) (v : ℕ → F .f32) (qA qB : PosShare TreeShare)
    (O : CellTallies nD τ sig (HIx 2)) (W : Waits sig (HIx 2)) :
    iprop(reads d c s x qA (img v) ∗ reads d c s x qB (img v) ∗ some_ d c s (cntRow i nm) ∗ free d c s A ∗ free d c s B ∗ some_ d c s cb
        ∗ semVal (V d c s, SemLoc.dma sm.sem) 0 ∗ waiting d c s O W)
      ⊢ WP d c s (countBody i x nm ok A B cb hcb sm) fun _ =>
        iprop(reads d c s x qA (img v) ∗ reads d c s x qB (img v) ∗ holds d c s (cntRow i nm) (twoCounts v (img_of i)) ∗ free d c s A ∗ free d c s B ∗ some_ d c s cb
          ∗ semVal (V d c s, SemLoc.dma sm.sem) 0 ∗ waiting d c s O W) := by
  unfold countBody
  iintro ⟨HxA, HxB, Hn, HA, HB, Hcb, Hsm, Hw⟩
  iapply (wp_startLoad d c s i x v 0 _ A qA) $$ [HA HxA]
  · isplitl [HxA] <;> iassumption
  iintro Hl
  iapply (wp_then d c s) $$ [Hl HB HxB Hw]
  · iapply (wp_countChunks d c s i x ok v O W 23 0 (by omega) A B qA qB)
    isplitl [Hl]; · iexact Hl
    isplitl [HB]; · iexact HB
    isplitl [HxB] <;> iassumption
  iintro %a ⟨%ha, HA, HB, HxA, HxB, Hw⟩
  have ha' : a = (fun _ => tally 0x3B800000#32 v (img_of i * 786432) 786432, fun _ => tally 0x3C000000#32 v (img_of i * 786432) 786432) := by
    rw [ha, show base (img_of i) 0 = img_of i * 786432 by unfold base; omega]; rfl
  subst ha'
  ihave Hcb' := (some_holds d c s cb) $$ Hcb
  icases Hcb' with ⟨%g, Hcb⟩
  iapply (wp_countPut d c s cb 0) $$ Hcb
  iintro Hcb
  iapply (wp_countPut d c s cb 1) $$ Hcb
  iintro Hcb
  have hg : (fun y : S2x16.Idx => if (y 0).val = (1 : Fin 2).val then tally 0x3C000000#32 v (img_of i * 786432) 786432 else
      if (y 0).val = (0 : Fin 2).val then tally 0x3B800000#32 v (img_of i * 786432) 786432 else g y) = twoCounts v (img_of i) := by
    funext y
    have h0 : (y 0).val < 2 := (y 0).isLt
    unfold twoCounts
    rcases (by omega : (y 0).val = 0 ∨ (y 0).val = 1) with e | e <;> simp [e]
  ihave Hcb' := (Entails.of_eq (congrArg (holds d c s cb) hg)) $$ Hcb
  iapply (wp_start d c s (dst := cntRow i nm) (by decide)) $$ [Hcb' Hn Hsm]
  · isplitl [Hcb']; · iexact Hcb'
    isplitl [Hn] <;> iassumption
  iintro Hfl
  iapply (wp_last d c s)
  iapply (wp_finish d c s (dst := cntRow i nm)) $$ [Hfl Hw]
  · isplitl [Hfl] <;> iassumption
  iintro ⟨⟨Hn, Hcb⟩, Hsm, Hw⟩
  iapply (wp_over d c s)
  isplitl [HxA]; · iexact HxA
  isplitl [HxB]; · iexact HxB
  isplitl [Hn]; · iexact Hn
  isplitl [HA]; · iexact HA
  isplitl [HB]; · iexact HB
  isplitl [Hcb]
  · iapply (holds_some d c s cb (twoCounts v (img_of i))); iexact Hcb
  isplitl [Hsm] <;> iassumption

end Cert.Proof.Tile

end
-- ==== Proof.ScaleTile.lean ====
/- The scaling tile: the sum of all tiles' counts, the factor, and what one row, one chunk, all chunks and the whole body leave, over
   any float values. -/
module

public import proofs.«01_k».proof.Proof.Loads

@[expose] public section

noncomputable section

namespace Cert.Proof.Tile

open Cert.KernelIdeal Cert.Proof.Canon

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

local notation "𝕄" => MT nD τ sig (HIx 2) (Elt F) ℕ UU ℕ

variable (d : Dev nD) (c : Fin τ.nSC) (s : Fin τ.nSub)

/-! ## Rows -/

/-- The values scaled. -/
def scaled (v : ℕ → F .f32) (σ : F .f32) : ℕ → F .f32 := fun p => FloatOps.mulf (v p) σ

/-- Sixteen elements scaled, lane by lane. -/
theorem scaled_at (ld : FVec F S1x16 .f32) (σ : F .f32) (j : S1x16.Idx) :
    shapeCast S1x16 (mulf (shapeCast S16 ld cast16) (fun _ => σ)) cast16' j = FloatOps.mulf (ld (ix2 0 (j 1))) σ := by
  rw [cast16'_apply]
  show FloatOps.mulf (shapeCast S16 ld cast16 (ix1 (show Fin 16 from j 1))) σ = _
  rw [cast16_apply ld (j 1)]

/-- A row's scaling: sixteen more elements with every step. -/
theorem wp_scaleRow (b : Buf2) (v : ℕ → F .f32) (σ : F .f32) (start : ℕ) (t : Fin rows.trips) :
    ∀ (n u : ℕ) (h : u + n ≤ 32),
      holds d c s b (mixedVal (scaled v σ) v start (t.val * 512 + 16 * u))
        ⊢ WP d c s (scaleRow b (fun _ => σ) t n u h) fun _ => holds d c s b (mixedVal (scaled v σ) v start (t.val * 512 + 16 * (u + n)))
  | 0, u, h => wp_over d c s PUnit.unit fun _ => holds d c s b (mixedVal (scaled v σ) v start (t.val * 512 + 16 * (u + 0)))
  | n + 1, u, h => by
    rw [scaleRow]
    iintro H
    iapply (wp_load_holds d c s) $$ H
    iintro H
    iapply (wp_load_holds d c s) $$ H
    iintro H
    iapply (wp_store_holds d c s (mixedVal (scaled v σ) v start (t.val * 512 + 16 * (u + 1))) ?_ ?_) $$ H
    · intro j
      have hj : (j 1).val < 16 := (j 1).isLt
      refine Eq.trans ?_ (scaled_at _ σ j).symm
      have hp := pos_rowRect t u (by omega) j
      have hp' := pos_rowRect t u (by omega) (ix2 0 (j 1))
      replace hp' : _ = t.val * 512 + 16 * u + (j 1).val := hp'
      unfold mixedVal
      rw [if_pos (by rw [hp]; omega), if_neg (by rw [hp']; omega), hp, hp']
      rfl
    · intro y hout
      unfold mixedVal
      by_cases h1 : pos y < t.val * 512 + 16 * u
      · rw [if_pos h1, if_pos (by omega)]
      · rw [if_neg h1, if_neg]
        intro h2
        obtain ⟨j, hj⟩ := mem_rowRect t u (by omega) y (by omega) (by omega)
        exact hout j hj
    iintro H
    rw [show u + (n + 1) = u + 1 + n by omega]
    iapply (wp_scaleRow b v σ start t n (u + 1) _) $$ H

/-- A chunk's scaling. -/
theorem wp_scaleLoop (b : Buf2) (ok : rows.OK) (v : ℕ → F .f32) (σ : F .f32) (start : ℕ) :
    holds d c s b (chunkVal v start)
      ⊢ WP d c s (scaleLoop b (fun _ => σ) ok) fun _ => holds d c s b (chunkVal (scaled v σ) start) := by
  have hbody : ∀ (t : Fin rows.trips) (a : PUnit), holds d c s b (mixedVal (scaled v σ) v start (512 * t.val))
      ⊢ WP d c s (scaleRow b (fun _ => σ) t 32 0 (Nat.le_refl 32)) fun _ => holds d c s b (mixedVal (scaled v σ) v start (512 * (t.val + 1))) := by
    intro t a
    have h := wp_scaleRow d c s b v σ start t 32 0 (Nat.le_refl 32)
    rw [show t.val * 512 + 16 * 0 = 512 * t.val by omega, show t.val * 512 + 16 * (0 + 32) = 512 * (t.val + 1) by omega] at h
    exact h
  refine BIBase.Entails.trans ?_ (Scf.wp_for frame (wpE (defs₀ (F := F)) 𝒱₀ (V d c s) none) Set.univ _ _ _ ok PUnit.unit
    (fun t _ => scaleRow b (fun _ => σ) t 32 0 (by omega)) (fun k _ => holds d c s b (mixedVal (scaled v σ) v start (512 * k))) hbody)
  iintro H
  isplitl [H]
  · rw [show 512 * 0 = 0 from rfl, mixedVal_zero]; iexact H
  · iintro %a H
    have e : mixedVal (scaled v σ) v start (512 * Scf.trips rows.lb rows.ub rows.st) = chunkVal (scaled v σ) start := by
      rw [show Scf.trips rows.lb rows.ub rows.st = 64 from rows_trips]
      exact mixedVal_all (scaled v σ) v start
    ihave H' := (Entails.of_eq (congrArg (holds d c s b) e)) $$ H
    iexact H'

/-! ## Chunks -/

/-- A buffer with both its semaphores at zero. -/
def idle (A : Slot) : sProp 𝕄 := iprop(free d c s A ∗ semVal (V d c s, SemLoc.dma A.st.sem) 0)

/-- The chunks `k`, …, `k + n - 1` of a tile's image in the result, at any contents and at their final contents. -/
def raws (i : grid0.Coords) (o : Img) : (n k : ℕ) → k + n ≤ 24 → sProp 𝕄
  | 0, _, _ => iprop(emp)
  | n + 1, k, h => iprop(some_ d c s (chunk i o k (by omega)) ∗ raws i o n (k + 1) (by omega))
def dones (i : grid0.Coords) (o : Img) (v : ℕ → F .f32) : (n k : ℕ) → k + n ≤ 24 → sProp 𝕄
  | 0, _, _ => iprop(emp)
  | n + 1, k, h => iprop(holds d c s (chunk i o k (by omega)) (chunkVal v (base (img_of i) k)) ∗ dones i o v n (k + 1) (by omega))

/-- The scaling over the chunks after `k`: at the end all chunks from `k` on are written, the buffers idle, the shares back. -/
theorem wp_scaleChunks (i : grid0.Coords) (x o : Img) (ok : rows.OK) (v : ℕ → F .f32) (σ : F .f32) (O : CellTallies nD τ sig (HIx 2)) (W : Waits sig (HIx 2)) :
    ∀ (n k : ℕ) (h : k + 1 + n < 24) (A B : Slot) (qA qB : PosShare TreeShare),
      iprop(loading d c s i x v (k + 1) (by omega) A qA ∗ semVal (V d c s, SemLoc.dma A.st.sem) 0
          ∗ storing d c s i o (scaled v σ) k (by omega) B ∗ semVal (V d c s, SemLoc.dma B.ld.sem) 0
          ∗ reads d c s x qB (img v) ∗ raws d c s i o (n + 1) (k + 1) (by omega) ∗ waiting d c s O W)
        ⊢ WP d c s (scaleChunks i x o (fun _ => σ) ok n k h A B) fun _ =>
          iprop(idle d c s A ∗ idle d c s B ∗ reads d c s x qA (img v) ∗ reads d c s x qB (img v)
            ∗ dones d c s i o (scaled v σ) (n + 2) k (by omega) ∗ waiting d c s O W)
  | 0, k, h, A, B, qA, qB => by
    rw [scaleChunks, raws, raws, dones, dones, dones]
    iintro ⟨Hl, HAs, HB, HBl, HxB, ⟨Hr, -⟩, Hw⟩
    iapply (wp_waitLoad d c s i x v (k + 1) _ A qA O W) $$ [Hl Hw]
    · isplitl [Hl] <;> iassumption
    iintro ⟨Hb, HAl, HxA, Hw⟩
    iapply (wp_then d c s) $$ [Hb]
    · iapply (wp_scaleLoop d c s A.b ok v σ (base (img_of i) (k + 1))) $$ Hb
    iintro %_ Hb
    iapply (wp_startStore d c s i o (scaled v σ) (k + 1) _ A) $$ [Hb Hr HAs]
    · isplitl [Hb]; · iexact Hb
      isplitl [Hr] <;> iassumption
    iintro HA
    iapply (wp_waitStore d c s i o (scaled v σ) k _ B O W) $$ [HB Hw]
    · isplitl [HB] <;> iassumption
    iintro ⟨Hk, HB, HBs, Hw⟩
    iapply (wp_last d c s)
    iapply (wp_waitStore d c s i o (scaled v σ) (k + 1) _ A O W) $$ [HA Hw]
    · isplitl [HA] <;> iassumption
    iintro ⟨Hk', HA, HAs, Hw⟩
    iapply (wp_over d c s)
    unfold idle free
    isplitl [HA HAl HAs]
    · isplitr [HAs]
      · isplitl [HA] <;> iassumption
      iexact HAs
    isplitl [HB HBl HBs]
    · isplitr [HBs]
      · isplitl [HB] <;> iassumption
      iexact HBs
    isplitl [HxA]; · iexact HxA
    isplitl [HxB]; · iexact HxB
    isplitl [Hk Hk']
    · isplitl [Hk]; · iexact Hk
      isplitl [Hk']; · iexact Hk'
      iempintro
    iexact Hw
  | n + 1, k, h, A, B, qA, qB => by
    rw [scaleChunks, raws, dones]
    iintro ⟨Hl, HAs, HB, HBl, HxB, ⟨Hr, Hrs⟩, Hw⟩
    iapply (wp_waitStore d c s i o (scaled v σ) k _ B O W) $$ [HB Hw]
    · isplitl [HB] <;> iassumption
    iintro ⟨Hk, HB, HBs, Hw⟩
    iapply (wp_startLoad d c s i x v (k + 2) _ B qB) $$ [HB HBl HxB]
    · unfold free
      isplitl [HxB]; · iexact HxB
      isplitl [HB] <;> iassumption
    iintro Hl'
    iapply (wp_waitLoad d c s i x v (k + 1) _ A qA O W) $$ [Hl Hw]
    · isplitl [Hl] <;> iassumption
    iintro ⟨Hb, HAl, HxA, Hw⟩
    iapply (wp_then d c s) $$ [Hb]
    · iapply (wp_scaleLoop d c s A.b ok v σ (base (img_of i) (k + 1))) $$ Hb
    iintro %_ Hb
    iapply (wp_startStore d c s i o (scaled v σ) (k + 1) _ A) $$ [Hb Hr HAs]
    · isplitl [Hb]; · iexact Hb
      isplitl [Hr] <;> iassumption
    iintro HA
    iapply (wp_wand frame (wpE (defs₀ (F := F)) 𝒱₀ (V d c s) none) Set.univ) $$ [Hl' HBs HA HAl HxA Hrs Hw]
    · iapply (wp_scaleChunks i x o ok v σ O W n (k + 1) _ B A qB qA)
      isplitl [Hl']; · iexact Hl'
      isplitl [HBs]; · iexact HBs
      isplitl [HA]; · iexact HA
      isplitl [HAl]; · iexact HAl
      isplitl [HxA]; · iexact HxA
      isplitl [Hrs] <;> iassumption
    iintro %_ ⟨HB, HA, HxB, HxA, Hd, Hw⟩
    isplitl [HA]; · iexact HA
    isplitl [HB]; · iexact HB
    isplitl [HxA]; · iexact HxA
    isplitl [HxB]; · iexact HxB
    isplitl [Hk Hd]
    · isplitl [Hk] <;> iassumption
    iexact Hw

/-! ## The factor -/

/-- The counts array, all tiles' counts in it. -/
def allCounts (v : ℕ → F .f32) : S32x2x16.Idx → Elt F .i32 := fun z =>
  if (z 1).val = 0 then tally 0x3B800000#32 v ((z 0).val * 786432) 786432 else tally 0x3C000000#32 v ((z 0).val * 786432) 786432

theorem castN_apply {α : Type} (ld : S1x1x16.Idx → α) (y : S16.Idx) : shapeCast S16 ld castN y = ld (ix3 0 0 (y 0)) := by
  unfold shapeCast
  congr 1
  refine S1x1x16.rowMajor.injective (Fin.ext ?_)
  rw [Shape.rowMajor_reshapeEquiv, Shape.rowMajor_val_one, Shape.rowMajor_val_three]
  simp

/-- A tile's counts as the counts array gives them. -/
theorem count_at (v : ℕ → F .f32) (u : Fin 32) (r : Fin 2) :
    shapeCast (α := BitVec 32) S16 (fun j : S1x1x16.Idx => allCounts v ((Rect.unit (s := S32x2x16) ![u.val, r.val, 0] S1x1x16.size (inbN u r)).emb j)) castN
      = fun _ => if r.val = 0 then tally 0x3B800000#32 v (u.val * 786432) 786432 else tally 0x3C000000#32 v (u.val * 786432) 786432 := by
  funext y
  rw [castN_apply]
  unfold allCounts
  rw [Rect.emb_apply, Rect.emb_apply]
  rfl

/-- The sum of the tiles' counts: the counts of everything. -/
theorem wp_sumCounts (cb : Memref sig .scVector .vmem S32x2x16 .i32) (v : ℕ → F .f32) :
    ∀ (n u : ℕ) (h : u + n ≤ 32),
      holds d c s cb (allCounts v)
        ⊢ WP d c s (sumCounts cb n u h (acc v 0 (u * 786432))) fun a => iprop(⌜a = acc v 0 ((u + n) * 786432)⌝ ∗ holds d c s cb (allCounts v))
  | 0, u, h => by
    refine BIBase.Entails.trans ?_ (wp_over d c s (acc v 0 (u * 786432)) _)
    iintro H
    isplitr
    · ipureintro; rfl
    iexact H
  | n + 1, u, h => by
    rw [sumCounts]
    iintro H
    iapply (wp_load_holds d c s) $$ H
    iintro H
    iapply (wp_load_holds d c s) $$ H
    iintro H
    have key : ∀ a b : IVec S16 32, a = (fun _ => tally 0x3B800000#32 v (u * 786432) 786432) → b = (fun _ => tally 0x3C000000#32 v (u * 786432) 786432) →
        (holds d c s cb (allCounts v) ⊢ WP d c s (sumCounts cb n (u + 1) (by omega) (addi (acc v 0 (u * 786432)).1 a, addi (acc v 0 (u * 786432)).2 b))
          fun a => iprop(⌜a = acc v 0 ((u + (n + 1)) * 786432)⌝ ∗ holds d c s cb (allCounts v))) := by
      rintro a b rfl rfl
      have e : (addi (acc v 0 (u * 786432)).1 (fun _ => tally 0x3B800000#32 v (u * 786432) 786432), addi (acc v 0 (u * 786432)).2 fun _ => tally 0x3C000000#32 v (u * 786432) 786432)
          = acc v 0 ((u + 1) * 786432) := by
        have e1 : ∀ T, tally T v 0 ((u + 1) * 786432) = tally T v 0 (u * 786432) + tally T v (u * 786432) 786432 := fun T => by
          rw [show (u + 1) * 786432 = u * 786432 + 786432 by omega, tally_add, Nat.zero_add]
        unfold acc
        rw [e1, e1]
        rfl
      rw [e, show u + (n + 1) = u + 1 + n by omega]
      exact wp_sumCounts cb v n (u + 1) (by omega)
    iapply (key _ _ (count_at v ⟨u, by omega⟩ 0) (count_at v ⟨u, by omega⟩ 1)) $$ H

/-- The factor of the whole array. -/
def gain (v : ℕ → F .f32) : F .f32 := factor (acc v 0 25165824) (ix1 0)
theorem factor_eq (v : ℕ → F .f32) : factor (acc v 0 25165824) = fun _ => gain v := rfl

/-! ## The body -/

theorem posC : 0 < S32x2x16.numel := by decide

/-- The scaling tile, from its share of the counts array, its share of the array (in two halves), its chunks of the result and its
    own buffers and semaphores: the chunks hold the scaled values, everything else is as it was. -/
theorem wp_scaleBody (i : grid0.Coords) (nm : Memref sig .scVector .hbm S32x2x16 .i32) (hn : nm.IsWhole) (x o : Img) (ok : rows.OK) (A B : Slot)
    (cb : Memref sig .scVector .vmem S32x2x16 .i32) (hcb : cb.IsWhole) (sm : DmaSems sig S_) (v : ℕ → F .f32) (qn qA qB : PosShare TreeShare)
    (O : CellTallies nD τ sig (HIx 2)) (W : Waits sig (HIx 2)) :
    iprop(reads d c s nm qn (allCounts v) ∗ reads d c s x qA (img v) ∗ reads d c s x qB (img v) ∗ raws d c s i o 24 0 (by omega)
        ∗ idle d c s A ∗ idle d c s B ∗ some_ d c s cb ∗ semVal (V d c s, SemLoc.dma sm.sem) 0 ∗ waiting d c s O W)
      ⊢ WP d c s (scaleBody i nm hn x o ok A B cb hcb sm) fun _ =>
        iprop(reads d c s nm qn (allCounts v) ∗ reads d c s x qA (img v) ∗ reads d c s x qB (img v) ∗ dones d c s i o (scaled v (gain v)) 24 0 (by omega)
          ∗ idle d c s A ∗ idle d c s B ∗ some_ d c s cb ∗ semVal (V d c s, SemLoc.dma sm.sem) 0 ∗ waiting d c s O W) := by
  unfold scaleBody
  rw [raws]
  iintro ⟨Hn, HxA, HxB, ⟨Hr, Hrs⟩, HA, HB, Hcb, Hsm, Hw⟩
  iapply (wp_start d c s posC (dst := cb)) $$ [Hn Hcb Hsm]
  · isplitl [Hn]; · iexact Hn
    isplitl [Hcb] <;> iassumption
  iintro Hfl
  iapply (wp_finish d c s (dst := cb)) $$ [Hfl Hw]
  · isplitl [Hfl] <;> iassumption
  iintro ⟨⟨Hcb, Hn⟩, Hsm, Hw⟩
  iapply (wp_then d c s) $$ [Hcb]
  · iapply (wp_sumCounts d c s cb v 32 0 (by omega)) $$ Hcb
  iintro %a ⟨%ha, Hcb⟩
  have ha' : factor (F := F) a = fun _ => gain v := by rw [ha]; exact factor_eq v
  rw [ha']
  unfold idle
  icases HA with ⟨HA, HAs⟩
  icases HB with ⟨HB, HBs⟩
  iapply (wp_startLoad d c s i x v 0 _ A qA) $$ [HxA HA]
  · isplitl [HxA] <;> iassumption
  iintro HlA
  iapply (wp_startLoad d c s i x v 1 _ B qB) $$ [HxB HB]
  · isplitl [HxB] <;> iassumption
  iintro HlB
  iapply (wp_waitLoad d c s i x v 0 _ A qA O W) $$ [HlA Hw]
  · isplitl [HlA] <;> iassumption
  iintro ⟨Hb, HAl, HxA, Hw⟩
  iapply (wp_then d c s) $$ [Hb]
  · iapply (wp_scaleLoop d c s A.b ok v (gain v) (base (img_of i) 0)) $$ Hb
  iintro %_ Hb
  iapply (wp_startStore d c s i o (scaled v (gain v)) 0 _ A) $$ [Hb Hr HAs]
  · isplitl [Hb]; · iexact Hb
    isplitl [Hr] <;> iassumption
  iintro HA
  iapply (wp_wand frame (wpE (defs₀ (F := F)) 𝒱₀ (V d c s) none) Set.univ) $$ [HlB HBs HA HAl HxA Hrs Hw]
  · iapply (wp_scaleChunks d c s i x o ok v (gain v) O W 22 0 _ B A qB qA)
    isplitl [HlB]; · iexact HlB
    isplitl [HBs]; · iexact HBs
    isplitl [HA]; · iexact HA
    isplitl [HAl]; · iexact HAl
    isplitl [HxA]; · iexact HxA
    isplitl [Hrs] <;> iassumption
  iintro %_ ⟨HB, HA, HxB, HxA, Hd, Hw⟩
  isplitl [Hn]; · iexact Hn
  isplitl [HxA]; · iexact HxA
  isplitl [HxB]; · iexact HxB
  isplitl [Hd]; · iexact Hd
  isplitl [HA]; · unfold idle; iexact HA
  isplitl [HB]; · unfold idle; iexact HB
  isplitl [Hcb]
  · iapply (holds_some d c s cb (allCounts v)); iexact Hcb
  isplitl [Hsm] <;> iassumption

end Cert.Proof.Tile

end
-- ==== Proof.Parts.lean ====
/- How the arrays are dealt to the tiles: an array that every tile reads goes out in shares, one per tile; the counts array and the
   result go out in parts, a tile's own image of them. -/
module

public import proofs.«01_k».proof.Proof.CountTile
public import proofs.«01_k».proof.Proof.ScaleTile
public import Idealize.ShloMosaic.Lib.SparseCore.Stream

@[expose] public section

noncomputable section

namespace Cert.Proof.Tile

open Cert.KernelIdeal Cert.Proof.Canon

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

local notation "𝕄" => MT nD τ sig (HIx 2) (Elt F) ℕ UU ℕ

/-! ## Shares -/

/-- The `k`-th share that goes out of `q`: the left half of what is left. -/
def share : ℕ → PosShare TreeShare → PosShare TreeShare
  | 0, q => q.left
  | k + 1, q => share k q.right

/-- What is left of `q` after `n` shares. -/
def rest : ℕ → PosShare TreeShare → PosShare TreeShare
  | 0, q => q
  | n + 1, q => rest n q.right

/-- Elements at a share are the elements at its two halves. -/
theorem halves {ℓ : Loc nD τ sig} (I : Finset (Idx ℓ)) (q : PosShare TreeShare) (f : Buf (Elt F) ℓ) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-- `n` shares go out, and the rest stays. -/
theorem shares {ℓ : Loc nD τ sig} (I : Finset (Idx ℓ)) (f : Buf (Elt F) ℓ) : ∀ (n : ℕ) (q : PosShare TreeShare),
    (ℓ ↦[I]{q} f : sProp 𝕄) = iprop((bigSep Finset.univ fun i : Fin n => ℓ ↦[I]{share i.val q} f) ∗ ℓ ↦[I]{rest n q} f)
  | 0, q => by
    rw [show (Finset.univ : Finset (Fin 0)) = ∅ from rfl, bigSep_empty]
    exact (BI.Entails.antisymm emp_sep.1 emp_sep.2).symm
  | n + 1, q => by
    rw [Idealize.ShloMosaic.bigSep_univ_succ, halves I q f, shares I f n q.right]
    have assoc : ∀ A B C : sProp 𝕄, iprop(A ∗ B ∗ C) = iprop((A ∗ B) ∗ C) := fun A B C => by
      have h1 : iprop(A ∗ B ∗ C) ⊢ iprop((A ∗ B) ∗ C) := sep_assoc.2
      have h2 : iprop((A ∗ B) ∗ C) ⊢ iprop(A ∗ B ∗ C) := sep_assoc.1
      exact BI.Entails.antisymm h1 h2
    rw [assoc]
    rfl

/-! ## What a tile reads of an array, in terms of the array -/

variable (d : Dev nD) (c : Fin τ.nSC) (s : Fin τ.nSub)

/-- Two arrays that read the same through a memref are the same on its elements. -/
theorem same_on {sp : Space} {sh : Shape} {e : EltTy} (b : Memref sig .scVector sp sh e) {f h : Buf (Elt F) (b.view.loc (V d c s))}
    (e' : b.view.read (Elt F) f = b.view.read (Elt F) h) : ∀ z ∈ b.view.set, f z = h z := by
  intro z hz
  obtain ⟨y, -, rfl⟩ := Finset.mem_map.mp hz
  have h1 := congrFun e' y
  rw [View.read_apply, View.read_apply] at h1
  exact (Equiv.cast (congrArg (Elt F) b.view.elt_eq)).injective h1

/-- Elements at what an array reads are the elements at the array's contents. -/
theorem reads_eq {sp : Space} {sh : Shape} {e : EltTy} (b : Memref sig .scVector sp sh e) (q : PosShare TreeShare)
    (h : Buf (Elt F) (b.view.loc (V d c s))) :
    (reads d c s b q (b.view.read (Elt F) h) : sProp 𝕄) = (b.view.loc (V d c s) ↦[b.view.set]{q} h) := by
  unfold reads
  have h1 : iprop(∃ f : Buf (Elt F) (b.view.loc (V d c s)), (b.view.loc (V d c s) ↦[b.view.set]{q} f) ∗ ⌜b.view.read (Elt F) f = b.view.read (Elt F) h⌝)
      ⊢ (b.view.loc (V d c s) ↦[b.view.set]{q} h : sProp 𝕄) := by
    iintro ⟨%f, H, %hf⟩
    iapply (Entails.of_eq (pointsTo_congr (q := q) (ℓ := b.view.loc (V d c s)) (same_on d c s b hf)))
    iexact H
  have h2 : (b.view.loc (V d c s) ↦[b.view.set]{q} h : sProp 𝕄)
      ⊢ iprop(∃ f : Buf (Elt F) (b.view.loc (V d c s)), (b.view.loc (V d c s) ↦[b.view.set]{q} f) ∗ ⌜b.view.read (Elt F) f = b.view.read (Elt F) h⌝) := by
    iintro H
    iexists h
    isplitl [H]; · iexact H
    ipureintro; rfl
  exact BI.Entails.antisymm h1 h2

/-! ## The result's chunks -/

abbrev xW : Img := Memref.whole main_arg0_scv
abbrev oW : Img := Memref.whole main_v1_scv
abbrev nW : Memref sig .scVector .hbm S32x2x16 .i32 := Memref.whole main_v0_scv
abbrev xLoc (d : Dev nD) : Loc nD τ sig := (SparseCore.T d).loc main_arg0
abbrev nLoc (d : Dev nD) : Loc nD τ sig := (SparseCore.T d).loc main_v0
abbrev oLoc (d : Dev nD) : Loc nD τ sig := (SparseCore.T d).loc main_v1

/-- The flat position of an element. -/
def flat (z : S32x3x512x512.Idx) : ℕ := (((z 0).val * 3 + (z 1).val) * 512 + (z 2).val) * 512 + (z 3).val

/-- The elements of image `w` from its chunk `k` on. -/
def tail (w k : ℕ) : Finset S32x3x512x512.Idx := Finset.univ.filter fun z => (z 0).val = w ∧ k * 32768 ≤ flat z - w * 786432
theorem mem_tail {w k : ℕ} {z : S32x3x512x512.Idx} : z ∈ tail w k ↔ (z 0).val = w ∧ k * 32768 ≤ flat z - w * 786432 := by
  unfold tail; rw [Finset.mem_filter]; exact ⟨fun h => h.2, fun h => ⟨Finset.mem_univ _, h⟩⟩

/-- The elements of a chunk. -/
theorem mem_chunk (i : grid0.Coords) (k : ℕ) (hk : k < 24) (z : S32x3x512x512.Idx) :
    z ∈ (chunk i oW k hk).view.set ↔ (z 0).val = img_of i ∧ (flat z - img_of i * 786432) / 32768 = k := by
  have e : (chunk i oW k hk).view.set = (Rect.unit (s := S32x3x512x512) (chunkOff i k) S1x1x64x512.size (chunkOff_inb i hk)).set := by
    show (((View.whole (main_v1_scv : Ref sig .scVector)).slice (Rect.unit (s := S32x3x512x512) (chunkOff i k) S1x1x64x512.size (chunkOff_inb i hk))).reshape S64x512 sqz.numel_eq).set = _
    rw [View.set_reshape]; exact View.set_slice_whole _ _
  rw [e, Rect.mem_set_unit]
  have h0 : (z 0).val < 32 := (z 0).isLt
  have h1 : (z 1).val < 3 := (z 1).isLt
  have h2 : (z 2).val < 512 := (z 2).isLt
  have h3 : (z 3).val < 512 := (z 3).isLt
  rw [chunkOff_eq]
  unfold flat
  constructor
  · intro h
    have a0 : img_of i ≤ (z 0).val ∧ (z 0).val < img_of i + 1 := h 0
    have a1 : k / 8 ≤ (z 1).val ∧ (z 1).val < k / 8 + 1 := h 1
    have a2 : k % 8 * 64 ≤ (z 2).val ∧ (z 2).val < k % 8 * 64 + 64 := h 2
    omega
  · rintro ⟨e0, e1⟩ a
    match a with
    | 0 => show img_of i ≤ (z 0).val ∧ (z 0).val < img_of i + 1; omega
    | 1 => show k / 8 ≤ (z 1).val ∧ (z 1).val < k / 8 + 1; omega
    | 2 => show k % 8 * 64 ≤ (z 2).val ∧ (z 2).val < k % 8 * 64 + 64; omega
    | 3 => show 0 ≤ (z 3).val ∧ (z 3).val < 0 + 512; omega

theorem tail_split (i : grid0.Coords) (k : ℕ) (hk : k < 24) :
    tail (img_of i) k = (chunk i oW k hk).view.set ∪ tail (img_of i) (k + 1) := by
  refine Finset.ext fun z => ?_
  rw [Finset.mem_union, mem_chunk, mem_tail, mem_tail]
  omega

theorem tail_disjoint (i : grid0.Coords) (k : ℕ) (hk : k < 24) : Disjoint (chunk i oW k hk).view.set (tail (img_of i) (k + 1)) := by
  refine Finset.disjoint_left.mpr fun z h h' => ?_
  rw [mem_chunk] at h
  rw [mem_tail] at h'
  omega

/-- A tile's image of the result is its chunks, at any contents, -/
theorem raws_of (i : grid0.Coords) (f : Buf (Elt F) (oLoc d)) : ∀ (n k : ℕ) (h : k + n ≤ 24),
    (oLoc d ↦[tail (img_of i) k]{fullShare} f : sProp 𝕄) ⊢ raws d c s i oW n k h
  | 0, k, h => by
    rw [raws]
    iintro -
    iempintro
  | n + 1, k, h => by
    rw [raws, tail_split i k (by omega)]
    refine BIBase.Entails.trans (pointsTo_union (tail_disjoint i k (by omega))).1 ?_
    iintro ⟨H, H'⟩
    isplitl [H]
    · unfold some_
      iexists f; iexact H
    · iapply (raws_of i f n (k + 1) _); iexact H'

/-- and the chunks that hold the values are the image of the array of the values. -/
theorem dones_to (i : grid0.Coords) (v : ℕ → F .f32) : ∀ (n k : ℕ) (h : k + n ≤ 24), k + n = 24 →
    (dones d c s i oW v n k h : sProp 𝕄) ⊢ (oLoc d ↦[tail (img_of i) k]{fullShare} (img v : Buf (Elt F) (oLoc d)))
  | 0, k, h, e => by
    have : tail (img_of i) k = ∅ := by
      refine Finset.eq_empty_of_forall_notMem fun z hz => ?_
      rw [mem_tail] at hz
      unfold flat at hz
      have h1 : (z 1).val < 3 := (z 1).isLt
      have h2 : (z 2).val < 512 := (z 2).isLt
      have h3 : (z 3).val < 512 := (z 3).isLt
      omega
    rw [dones, this]
    exact Entails.of_eq pointsTo_empty.symm
  | n + 1, k, h, e => by
    rw [dones, tail_split i k (by omega)]
    refine BIBase.Entails.trans ?_ (pointsTo_union (tail_disjoint i k (by omega))).2
    iintro ⟨H, H'⟩
    isplitl [H]
    · have hk : k < 24 := by omega
      have key : (holds d c s (chunk i oW k hk) (chunkVal v (base (img_of i) k)) : sProp 𝕄)
          ⊢ (oLoc d ↦[(chunk i oW k hk).view.set]{fullShare} (img v : Buf (Elt F) (oLoc d))) := by
        rw [← read_chunk d c s i oW k hk v (img v : Buf (Elt F) (oLoc d)) rfl]
        exact Entails.of_eq (reads_eq d c s (chunk i oW k hk) fullShare (img v : Buf (Elt F) (oLoc d)))
      iapply key
      iexact H
    · iapply (dones_to i v n (k + 1) _ (by omega)); iexact H'

/-- Every element lies in one image. -/
theorem images_cover : (Finset.univ : Finset (Fin 32)).biUnion (fun w => tail w.val 0) = Finset.univ := by
  refine Finset.eq_univ_of_forall fun z => Finset.mem_biUnion.mpr ⟨⟨(z 0).val, (z 0).isLt⟩, Finset.mem_univ _, ?_⟩
  rw [mem_tail]
  exact ⟨rfl, by omega⟩
theorem images_disjoint : ∀ w ∈ (Finset.univ : Finset (Fin 32)), ∀ w' ∈ (Finset.univ : Finset (Fin 32)), w ≠ w' → Disjoint (tail w.val 0) (tail w'.val 0) := by
  intro w _ w' _ h
  refine Finset.disjoint_left.mpr fun z hz hz' => h (Fin.ext ?_)
  rw [mem_tail] at hz hz'
  omega

/-- The result is its images. -/
theorem images (f : Buf (Elt F) (oLoc d)) :
    (oLoc d ↦{fullShare} f : sProp 𝕄) = bigSep Finset.univ fun w : Fin 32 => oLoc d ↦[tail w.val 0]{fullShare} f := by
  rw [← pointsTo_biUnion Finset.univ (ℓ := oLoc d) (fun w : Fin 32 => tail w.val 0) images_disjoint, images_cover]; try rfl

/-! ## The counts array's rows -/

/-- The counts of tile `w`. -/
def rowSet (w : ℕ) : Finset S32x2x16.Idx := Finset.univ.filter fun z => (z 0).val = w
theorem mem_rowSet {w : ℕ} {z : S32x2x16.Idx} : z ∈ rowSet w ↔ (z 0).val = w := by
  unfold rowSet; rw [Finset.mem_filter]; exact ⟨fun h => h.2, fun h => ⟨Finset.mem_univ _, h⟩⟩

theorem set_cntRow (i : grid0.Coords) : (cntRow i nW).view.set = rowSet (img_of i) := by
  have e : (cntRow i nW).view.set = (Rect.unit (s := S32x2x16) (cntOff i) S1x2x16.size (cntOff_inb i)).set := by
    show (((View.whole (main_v0_scv : Ref sig .scVector)).slice (Rect.unit (s := S32x2x16) (cntOff i) S1x2x16.size (cntOff_inb i))).reshape S2x16 sqzC.numel_eq).set = _
    rw [View.set_reshape]; exact View.set_slice_whole _ _
  refine Finset.ext fun z => ?_
  rw [e, Rect.mem_set_unit, mem_rowSet, cntOff_eq]
  have h1 : (z 1).val < 2 := (z 1).isLt
  have h2 : (z 2).val < 16 := (z 2).isLt
  constructor
  · intro h
    have a0 : img_of i ≤ (z 0).val ∧ (z 0).val < img_of i + 1 := h 0
    omega
  · intro e a
    match a with
    | 0 => show img_of i ≤ (z 0).val ∧ (z 0).val < img_of i + 1; omega
    | 1 => show 0 ≤ (z 1).val ∧ (z 1).val < 0 + 2; omega
    | 2 => show 0 ≤ (z 2).val ∧ (z 2).val < 0 + 16; omega

/-- A tile's row of the array of all counts is its two counts. -/
theorem read_cntRow (d : Dev nD) (i : grid0.Coords) (v : ℕ → F .f32) :
    (cntRow i nW).view.read (Elt F) (allCounts v : Buf (Elt F) (nLoc d)) = twoCounts v (img_of i) := by
  funext y
  obtain ⟨z, hz⟩ : ∃ z, z = Shape.reshapeEquiv (s := S1x2x16) (s' := S2x16) sqzC.numel_eq y := ⟨_, rfl⟩
  have hp := Shape.rowMajor_reshapeEquiv (s := S1x2x16) (s' := S2x16) sqzC.numel_eq y
  rw [← hz, Shape.rowMajor_val_three, Shape.rowMajor_val_two] at hp
  have h0 : (z 0).val = 0 := Nat.lt_one_iff.mp (z 0).isLt
  have h1 : (z 1).val < 2 := (z 1).isLt
  have h2 : (z 2).val < 16 := (z 2).isLt
  have k1 : (y 1).val < 16 := (y 1).isLt
  replace hp : ((z 0).val * 2 + (z 1).val) * 16 + (z 2).val = (y 0).val * 16 + (y 1).val := hp
  have e : (cntRow i nW).view.read (Elt F) (allCounts v : Buf (Elt F) (nLoc d)) y
      = allCounts v ((Rect.unit (s := S32x2x16) (cntOff i) S1x2x16.size (cntOff_inb i)).emb z) := by rw [hz]; rfl
  rw [e]
  unfold allCounts twoCounts
  rw [Rect.emb_apply, Rect.emb_apply]
  have e0 : (Rect.unit (s := S32x2x16) (cntOff i) S1x2x16.size (cntOff_inb i)).off 0 = img_of i := by
    show cntOff i 0 = _; rw [cntOff_eq]; rfl
  have e1 : (Rect.unit (s := S32x2x16) (cntOff i) S1x2x16.size (cntOff_inb i)).off 1 = 0 := by
    show cntOff i 1 = _; rw [cntOff_eq]; rfl
  rw [e0, e1, h0]
  show (if 0 + 1 * (z 1).val = 0 then tally _ v ((img_of i + 1 * 0) * 786432) _ else tally _ v ((img_of i + 1 * 0) * 786432) _) = _
  rw [show 0 + 1 * (z 1).val = (y 0).val by omega, show img_of i + 1 * 0 = img_of i by omega]

theorem cnts_cover : (Finset.univ : Finset (Fin 32)).biUnion (fun w => rowSet w.val) = Finset.univ :=
  Finset.eq_univ_of_forall fun z => Finset.mem_biUnion.mpr ⟨⟨(z 0).val, (z 0).isLt⟩, Finset.mem_univ _, mem_rowSet.mpr rfl⟩
theorem cnts_disjoint : ∀ w ∈ (Finset.univ : Finset (Fin 32)), ∀ w' ∈ (Finset.univ : Finset (Fin 32)), w ≠ w' → Disjoint (rowSet w.val) (rowSet w'.val) := by
  intro w _ w' _ h
  refine Finset.disjoint_left.mpr fun z hz hz' => h (Fin.ext ?_)
  rw [mem_rowSet] at hz hz'
  omega

/-- The counts array is its rows. -/
theorem cnts (f : Buf (Elt F) (nLoc d)) :
    (nLoc d ↦{fullShare} f : sProp 𝕄) = bigSep Finset.univ fun w : Fin 32 => nLoc d ↦[rowSet w.val]{fullShare} f := by
  rw [← pointsTo_biUnion Finset.univ (ℓ := nLoc d) (fun w : Fin 32 => rowSet w.val) cnts_disjoint, cnts_cover]; try rfl

end Cert.Proof.Tile

end
-- ==== Proof.CanonEq.lean ====
/- The printed bodies are the short ones of `Canon`. -/
module

public import proofs.«01_k».proof.Proof.Canon

@[expose] public section

noncomputable section

namespace Cert.Proof.Canon

open Cert.KernelIdeal Cert.KernelIdeal.Facts
open Idealize.ShloMosaic Idealize.SL.Sem

variable {F : FTy → Type} [FloatOps F] [Facts]

/-- A loop's initial values are simplified, its region is left as it is. -/
theorem for_congr {Ef : Type → Type 1} {σ : Type} {n : Nat} (L : Scf.Loop n) (ok : L.OK) {a b : σ} (h : a = b) (body : Fin L.trips → σ → Prog Ef σ) :
    Scf.Loop.for L ok a body = Scf.Loop.for L ok b body := h ▸ rfl
attribute [local congr] for_congr

set_option maxRecDepth 100000 in
set_option maxHeartbeats 0 in
/-- The printed counting body is `countBody`. -/
theorem count_body_eq (i : grid0.Coords) (arg2 : Img) (harg2 : arg2.IsWhole) (arg3 : Memref sig .scVector .hbm S32x2x16 .i32) (harg3 : arg3.IsWhole)
    (arg4 : Buf2) (harg4 : arg4.IsWhole) (arg5 : Buf2) (harg5 : arg5.IsWhole) (arg6 : Memref sig .scVector .vmem S2x16 .i32) (harg6 : arg6.IsWhole)
    (arg7 arg8 v247_r0 : DmaSems sig S_) (ok : rows.OK) :
    cc0__count_body (F := F) i arg2 harg2 arg3 harg3 arg4 harg4 arg5 harg5 arg6 harg6 arg7 arg8 v247_r0
      = countBody i arg2 arg3 ok ⟨arg4, harg4, arg7, arg7⟩ ⟨arg5, harg5, arg8, arg8⟩ arg6 harg6 v247_r0 := by
  unfold cc0__count_body k0_part313 k0_part314 k0_part315 k0_part316 k0_part317 k0_part318 k0_part319 k0_part320 k0_part321 k0_part322 k0_part323
  unfold countBody
  simp only [countChunks, countPut, bind_assoc, pure_bind]
  rfl

set_option maxRecDepth 100000 in
set_option maxHeartbeats 0 in
/-- The printed scaling body is `scaleBody`. -/
theorem scale_body_eq (i : grid0.Coords) (arg2 : Memref sig .scVector .hbm S32x2x16 .i32) (harg2 : arg2.IsWhole) (arg3 : Img) (harg3 : arg3.IsWhole)
    (arg4 : Img) (harg4 : arg4.IsWhole) (arg5 : Memref sig .scVector .vmem S32x2x16 .i32) (harg5 : arg5.IsWhole)
    (arg6 : Buf2) (harg6 : arg6.IsWhole) (arg7 : Buf2) (harg7 : arg7.IsWhole)
    (arg8 arg9 arg10 arg11 v673_r0 : DmaSems sig S_) (ok : rows.OK) :
    cc1__scale_body (F := F) i arg2 harg2 arg3 harg3 arg4 harg4 arg5 harg5 arg6 harg6 arg7 harg7 arg8 arg9 arg10 arg11 v673_r0
      = scaleBody i arg2 harg2 arg3 arg4 ok ⟨arg6, harg6, arg8, arg10⟩ ⟨arg7, harg7, arg9, arg11⟩ arg5 harg5 v673_r0 := by
  unfold cc1__scale_body k1_part148
  unfold k1_part121 k1_part122 k1_part123 k1_part124 k1_part125 k1_part126 k1_part127 k1_part128 k1_part129 k1_part130 k1_part131 k1_part132 k1_part133 k1_part134 k1_part135 k1_part136 k1_part137 k1_part138 k1_part139 k1_part140 k1_part141 k1_part142 k1_part143 k1_part144 k1_part145 k1_part146 k1_part147
  unfold scaleBody
  simp (maxSteps := 100000000) only [scaleChunks, sumCounts, bind_assoc, pure_bind]
  rfl

end Cert.Proof.Canon

end
-- ==== Proof.Launch.lean ====
/- The launch: what the two calls hand the tiles and get back, each tile's part of a call from the tile's own proof, the two calls of
   the main program one after the other, and what the whole run leaves. -/
module

public import proofs.«01_k».proof.Proof.Parts
public import proofs.«01_k».proof.Proof.CanonEq
public import Idealize.ShloMosaic.Lib.StableHlo.Run

@[expose] public section

noncomputable section

namespace Cert.Proof.Tile

open Cert.KernelIdeal Cert.KernelIdeal.K0.Facts₀ Cert.KernelIdeal.K1.Facts₀ Cert.Proof.Canon

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

local notation "𝕄" => MT nD τ sig (HIx 2) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 2) (Elt F) ℕ UU ℕ) := embL

theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => match q with | 0 => rfl | 1 => rfl⟩

/-! ## The values of the launch memory -/

/-- The element at a flat position. -/
def at_ (n : ℕ) : S32x3x512x512.Idx := fun
  | 0 => ⟨n / 786432 % 32, Nat.mod_lt _ (by decide)⟩
  | 1 => ⟨n / 262144 % 3, Nat.mod_lt _ (by decide)⟩
  | 2 => ⟨n / 512 % 512, Nat.mod_lt _ (by decide)⟩
  | 3 => ⟨n % 512, Nat.mod_lt _ (by decide)⟩
  | ⟨_ + 4, h⟩ => absurd h (Nat.not_lt.2 (Nat.le_add_left _ _))

/-- The values of an array by flat position, -/
def vals {α : Type} (x : S32x3x512x512.Idx → α) : ℕ → α := fun n => x (at_ n)
/-- of which it is the array. -/
theorem img_vals {α : Type} (x : S32x3x512x512.Idx → α) : img (vals x) = x := by
  funext z
  have h0 : (z 0).val < 32 := (z 0).isLt
  have h1 : (z 1).val < 3 := (z 1).isLt
  have h2 : (z 2).val < 512 := (z 2).isLt
  have h3 : (z 3).val < 512 := (z 3).isLt
  unfold img vals
  congr 1
  funext a
  match a with
  | 0 => refine Fin.ext ?_; show _ / 786432 % 32 = (z 0).val; omega
  | 1 => refine Fin.ext ?_; show _ / 262144 % 3 = (z 1).val; omega
  | 2 => refine Fin.ext ?_; show _ / 512 % 512 = (z 2).val; omega
  | 3 => refine Fin.ext ?_; show _ % 512 = (z 3).val; omega

/-! ## What the calls hand the tiles -/

variable (m : (ℓ : Loc nD τ sig) → Buf (Elt F) ℓ) (ρ : Dev nD → PrngReg)

/-- The values of the argument on a device. -/
abbrev xs (d : Dev nD) : ℕ → F .f32 := vals (m (xLoc d))
abbrev xSh (d : Dev nD) (w : ℕ) : sProp 𝕄 := xLoc d ↦{share w fullShare} m (xLoc d)
abbrev nSh (d : Dev nD) (w : ℕ) : sProp 𝕄 := nLoc d ↦{share w fullShare} (allCounts (xs m d) : Buf (Elt F) (nLoc d))
abbrev nRow (d : Dev nD) (w : ℕ) (f : Buf (Elt F) (nLoc d)) : sProp 𝕄 := nLoc d ↦[rowSet w]{fullShare} f
abbrev oImg (d : Dev nD) (w : ℕ) (f : Buf (Elt F) (oLoc d)) : sProp 𝕄 := oLoc d ↦[tail w 0]{fullShare} f
/-- The result: every value times the gain. -/
abbrev result (d : Dev nD) : Buf (Elt F) (oLoc d) := (img (scaled (xs m d) (gain (xs m d))) : Buf (Elt F) (oLoc d))

/-- What call `q` hands tile `w`: its share of the argument; the first call its row of the counts array, the second its share of the
    counts and its image of the result. -/
def goes (q : Fin 2) (d : Dev nD) (w : ℕ) : sProp 𝕄 := match q with
  | 0 => iprop(xSh m d w ∗ ∃ f, nRow d w f)
  | 1 => iprop(xSh m d w ∗ nSh m d w ∗ ∃ f, oImg d w f)
/-- What it gets back: the row at the tile's counts; the image at the scaled values. -/
def comes (q : Fin 2) (d : Dev nD) (w : ℕ) : sProp 𝕄 := match q with
  | 0 => iprop(xSh m d w ∗ nRow d w (allCounts (xs m d) : Buf (Elt F) (nLoc d)))
  | 1 => iprop(xSh m d w ∗ nSh m d w ∗ oImg d w (result m d))

instance goes_storable (q : Fin 2) (d : Dev nD) (w : ℕ) : BI.Storable (upEmb : UEmb _ 𝕄) (goes m q d w) := by
  match q with
  | 0 => exact (inferInstance : BI.Storable (upEmb : UEmb _ 𝕄) iprop(xSh m d w ∗ ∃ f, nRow d w f))
  | 1 => exact (inferInstance : BI.Storable (upEmb : UEmb _ 𝕄) iprop(xSh m d w ∗ nSh m d w ∗ ∃ f, oImg d w f))
instance comes_storable (q : Fin 2) (d : Dev nD) (w : ℕ) : BI.Storable (upEmb : UEmb _ 𝕄) (comes m q d w) := by
  match q with
  | 0 => exact (inferInstance : BI.Storable (upEmb : UEmb _ 𝕄) iprop(xSh m d w ∗ nRow d w (allCounts (xs m d) : Buf (Elt F) (nLoc d))))
  | 1 => exact (inferInstance : BI.Storable (upEmb : UEmb _ 𝕄) iprop(xSh m d w ∗ nSh m d w ∗ oImg d w (result m d)))

/-- A SparseCore is handed what its tiles are. -/
def P : (K (F := F)).Pay (nD := nD) (Val := Elt F) (Name := ℕ) (U := UU) where
  st := fun q d c => bigSep Finset.univ fun i : Fin ((K (F := F)).nSub q) => goes m q d (i.val * 2 + c.val)
  dn := fun q d c => bigSep Finset.univ fun i : Fin ((K (F := F)).nSub q) => comes m q d (i.val * 2 + c.val)
  go := fun q d c i => goes m q d (i.val * 2 + c.val)
  td := fun q d c i => comes m q d (i.val * 2 + c.val)
  x := fun _ _ => iprop(emp)

instance P_storable : (P (F := F) m).IsStorable where
  st q d c := (inferInstance : BI.Storable (upEmb : UEmb _ 𝕄) (bigSep Finset.univ fun i : Fin ((K (F := F)).nSub q) => goes m q d (i.val * 2 + c.val)))
  dn q d c := (inferInstance : BI.Storable (upEmb : UEmb _ 𝕄) (bigSep Finset.univ fun i : Fin ((K (F := F)).nSub q) => comes m q d (i.val * 2 + c.val)))
  go q d c i := goes_storable m q d _
  td q d c i := comes_storable m q d _

/-- A SparseCore's operands are its tiles', and so are its results. -/
theorem vecSplit (q : Fin 2) : (K (F := F)).VecSplit' (P m) q := by
  intro d c
  show (bigSep Finset.univ fun i : Fin ((K (F := F)).nSub q) => goes m q d (i.val * 2 + c.val)) ⊢ |={Set.univ}=> iprop(
      (bigSep Finset.univ fun i : Fin ((K (F := F)).nSub q) => goes m q d (i.val * 2 + c.val))
      ∗ ((bigSep Finset.univ fun i : Fin ((K (F := F)).nSub q) => comes m q d (i.val * 2 + c.val))
        -∗ bigSep Finset.univ fun i : Fin ((K (F := F)).nSub q) => comes m q d (i.val * 2 + c.val)))
  iintro H
  imodintro
  isplitl [H]; · iexact H
  iintro H; iexact H

/-! ## A tile's own buffers and semaphores -/

/-- A list of things held. -/
def each {I : Type} (Φ : I → sProp 𝕄) : List I → sProp 𝕄
  | [] => iprop(emp)
  | a :: l => iprop(Φ a ∗ each Φ l)

/-- Distinct things are taken out of a set of things held, and put back. -/
theorem take_each {I : Type} [DecidableEq I] (Φ : I → sProp 𝕄) : ∀ (l : List I) (s : Finset I), l.Nodup → (∀ a ∈ l, a ∈ s) →
    bigSep s Φ ⊢ iprop(each Φ l ∗ (each Φ l -∗ bigSep s Φ))
  | [], s, _, _ => by
    unfold each
    iintro H
    isplitr; · iempintro
    iintro -; iexact H
  | a :: l, s, hn, hm => by
    obtain ⟨ha, hl⟩ := List.nodup_cons.mp hn
    unfold each
    rw [SparseCore.bigSep_erase' (hm a (List.mem_cons_self))]
    iintro ⟨Ha, H⟩
    ihave H' := (take_each Φ l (s.erase a) hl fun b hb => Finset.mem_erase.mpr ⟨fun e => ha (e ▸ hb), hm b (List.mem_cons_of_mem _ hb)⟩) $$ H
    icases H' with ⟨H1, H2⟩
    isplitl [Ha H1]
    · isplitl [Ha] <;> iassumption
    iintro ⟨Ha, H1⟩
    isplitl [Ha]; · iexact Ha
    iapply H2; iexact H1

section Tile

variable (d : Dev nD) (c : Fin τ.nSC) (s : Fin τ.nSub)

/-- The buffers of a list, out of a tile's own and back. -/
theorem take_bufs (l : List (Ref sig .scVector)) (hn : l.Nodup) (ho : ∀ b ∈ l, (Proc.scVector c s).devRef b ∈ ownRefs (sig := sig) (τ := τ) (.scVector c s)) :
    (ownBufs (V d c s) : sProp 𝕄)
      ⊢ iprop(each (fun b : DevRef τ sig => iprop(∃ f : Buf (Elt F) ((d, b) : Loc nD τ sig), ((d, b) : Loc nD τ sig) ↦{fullShare} f)) (l.map (Proc.scVector c s).devRef)
        ∗ (each (fun b : DevRef τ sig => iprop(∃ f : Buf (Elt F) ((d, b) : Loc nD τ sig), ((d, b) : Loc nD τ sig) ↦{fullShare} f)) (l.map (Proc.scVector c s).devRef) -∗ ownBufs (V d c s))) := by
  unfold SparseCore.Cfg.ownBufs
  refine take_each _ _ _ (hn.map (Proc.devRef_injective _)) fun b hb => ?_
  obtain ⟨b', hb', rfl⟩ := List.mem_map.mp hb
  exact ho b' hb'

/-- The semaphores of a list, out of a tile's own and back. -/
theorem take_sems (l : List (SemLoc sig)) (hn : l.Nodup) (ho : ∀ b ∈ l, b.isScoped .scVector = true) :
    (ownSems0 (V d c s) : sProp 𝕄)
      ⊢ iprop(each (fun g : GSem nD τ sig => semVal g 0) (l.map fun b => ((V d c s, b) : GSem nD τ sig))
        ∗ (each (fun g : GSem nD τ sig => semVal g 0) (l.map fun b => ((V d c s, b) : GSem nD τ sig)) -∗ ownSems0 (V d c s))) := by
  unfold SparseCore.Cfg.ownSems0
  refine take_each _ _ _ (hn.map fun _ _ e => (Prod.mk.inj e).2) fun b hb => ?_
  obtain ⟨b', hb', rfl⟩ := List.mem_map.mp hb
  exact mem_ownCells.mpr ⟨rfl, ho b' hb'⟩

/-- A whole buffer at some contents. -/
theorem some_whole (b : Ref sig .scVector) :
    (iprop(∃ f : Buf (Elt F) ((d, (Proc.scVector c s).devRef b) : Loc nD τ sig), ((d, (Proc.scVector c s).devRef b) : Loc nD τ sig) ↦{fullShare} f) : sProp 𝕄)
      = some_ d c s (Memref.whole b) := by
  unfold some_
  have e : (Memref.whole b).view.set = Finset.univ := View.set_whole b
  rw [e]

theorem each_map {I J : Type} (Φ : J → sProp 𝕄) (f : I → J) : ∀ l : List I, each Φ (l.map f) = each (fun a => Φ (f a)) l
  | [] => rfl
  | a :: l => by simp only [List.map_cons, each, each_map Φ f l]

/-- The buffers of a list, out of a tile's own at some contents, and back. -/
theorem take_some (l : List (Ref sig .scVector)) (hn : l.Nodup) (ho : ∀ b ∈ l, (Proc.scVector c s).devRef b ∈ ownRefs (sig := sig) (τ := τ) (.scVector c s)) :
    (ownBufs (V d c s) : sProp 𝕄)
      ⊢ iprop(each (fun b => some_ d c s (Memref.whole b)) l ∗ (each (fun b => some_ d c s (Memref.whole b)) l -∗ ownBufs (V d c s))) := by
  have h := take_bufs (F := F) d c s l hn ho
  rw [each_map, show (fun b : Ref sig .scVector => (iprop(∃ f : Buf (Elt F) ((d, (Proc.scVector c s).devRef b) : Loc nD τ sig), ((d, (Proc.scVector c s).devRef b) : Loc nD τ sig) ↦{fullShare} f) : sProp 𝕄))
    = fun b => some_ d c s (Memref.whole b) from funext (some_whole d c s)] at h
  exact h

/-- A copy's semaphore, by number. -/
abbrev copySem (k : Fin 8) : SemLoc sig := .dma k

/-! ## A tile's part of a call -/

variable (L : grid0.Coords)

abbrev cV (L : grid0.Coords) : Fin τ.nSC := (L 0).castLE hcore0
abbrev jV (L : grid0.Coords) : Fin τ.nSub := (L 1).castLE hsub0

theorem waiting_of (O : CellTallies nD τ sig (HIx 2)) (W : Waits sig (HIx 2)) (hO : ∀ g, O g none = 0) :
    iprop(levAts (K (F := F)).L (K (F := F)).lev ∗ owes (V d c s) O W) ⊢ (waiting d c s O W : sProp 𝕄) := by
  unfold waiting
  iintro ⟨#Hlv, HO⟩
  isplitr
  · iapply (show (levAts (K (F := F)).L (K (F := F)).lev : sProp 𝕄) ⊢ Transfers.MayWaits (V d c s) (default : HIx 2) O from
      (K (F := F)).mayWaits_none (thr := V d c s) hO)
    iexact Hlv
  · iexists W
    isplitr
    · ipureintro; exact fun p hp => Or.inl hp
    iexact HO

/-- The tile's share of the argument, as its two loads hold it. -/
theorem xSh_reads (w : ℕ) : (xSh m d w : sProp 𝕄) = iprop(reads d c s xW (share w fullShare).left (img (xs m d)) ∗ reads d c s xW (share w fullShare).right (img (xs m d))) := by
  have key : ∀ q, (reads d c s xW q (img (xs m d)) : sProp 𝕄) = (xLoc d ↦{q} m (xLoc d)) := fun q => by
    rw [img_vals]
    refine (reads_eq d c s xW q (m (xLoc d))).trans ?_
    have e : (xW).view.set = Finset.univ := View.set_whole _
    rw [e]
  rw [key, key]
  exact halves _ _ _

/-- The tile's share of the counts, as its load holds it. -/
theorem nSh_reads (w : ℕ) : (nSh m d w : sProp 𝕄) = reads d c s nW (share w fullShare) (allCounts (xs m d)) := by
  symm
  refine (reads_eq d c s nW (share w fullShare) (allCounts (xs m d) : Buf (Elt F) (nLoc d))).trans ?_
  have e : (nW).view.set = Finset.univ := View.set_whole _
  rw [e]

/-- A tile's row of the counts array at the tile's counts is its part of the array of all counts. -/
theorem holds_row (v : ℕ → F .f32) : holds d (cV L) (jV L) (cntRow L nW) (twoCounts v (img_of L)) ⊢ (nRow d (img_of L) (allCounts v : Buf (Elt F) (nLoc d)) : sProp 𝕄) := by
  rw [← read_cntRow d L v]
  refine BIBase.Entails.trans (Entails.of_eq (reads_eq d (cV L) (jV L) (cntRow L nW) fullShare (allCounts v : Buf (Elt F) (nLoc d)))) ?_
  rw [set_cntRow]

/-- The counting tile. -/
theorem tile_count (hF : (K (F := F)).Facts) (O : CellTallies nD τ sig (HIx 2)) (W : Waits sig (HIx 2)) (hO : ∀ g, O g none = 0) :
    iprop(levAts (K (F := F)).L (K (F := F)).lev ∗ emp ∗ goes m 0 d (img_of L)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__count_body (F := F) L xW (Memref.isWhole_whole _) nW (Memref.isWhole_whole _) (Memref.whole cc0_scratch0) (Memref.isWhole_whole _)
            (Memref.whole cc0_scratch1) (Memref.isWhole_whole _) (Memref.whole cc0_scratch2) (Memref.isWhole_whole _) cc0_scratch3 cc0_scratch4 cc0_scoped0)
          fun _ => iprop(comes m 0 d (img_of L) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [count_body_eq (ok := k0_t1_ok), (K (F := F)).scopedBufs_V hF d (cV L) (jV L), SparseCore.Cfg.scopedSems0_V (Val := Elt F) d (cV L) (jV L)]
  unfold goes comes
  dsimp only
  rw [xSh_reads m d (cV L) (jV L)]
  iintro ⟨#Hlv, -, ⟨⟨HxA, HxB⟩, ⟨%f, Hn⟩⟩, Hbufs, Hsems, HO⟩
  ihave Hw := (waiting_of d (cV L) (jV L) O W hO) $$ [HO]
  · isplitr; · iexact Hlv
    iexact HO
  ihave Hbufs' := (take_some d (cV L) (jV L) [cc0_scratch0, cc0_scratch1, cc0_scratch2] (by decide) (by
    intro b hb
    refine SparseCore.Cfg.mem_ownRefs_of_owner (p := Proc.scVector (cV L) (jV L)) ?_
    simp only [List.mem_cons, List.not_mem_nil, or_false] at hb
    rcases hb with rfl | rfl | rfl <;> rfl)) $$ Hbufs
  ihave Hsems' := (take_sems d (cV L) (jV L) [copySem 0, copySem 1, copySem 2] (by decide) (by decide)) $$ Hsems
  simp only [List.map_cons, List.map_nil, each]
  icases Hbufs' with ⟨⟨H0, H1, H2, -⟩, Hbufs⟩
  icases Hsems' with ⟨⟨S3, S4, S5, -⟩, Hsems⟩
  have hset : ((cntRow L nW).view.loc (V d (cV L) (jV L)) ↦[(cntRow L nW).view.set]{fullShare} f : sProp 𝕄) = nRow d (img_of L) f := by
    rw [set_cntRow]
  ihave Hwp := (wp_countBody d (cV L) (jV L) L xW nW k0_t1_ok
    ⟨Memref.whole cc0_scratch0, Memref.isWhole_whole _, cc0_scratch3, cc0_scratch3⟩ ⟨Memref.whole cc0_scratch1, Memref.isWhole_whole _, cc0_scratch4, cc0_scratch4⟩
    (Memref.whole cc0_scratch2) (Memref.isWhole_whole _) cc0_scoped0 (xs m d) (share (img_of L) fullShare).left (share (img_of L) fullShare).right O W)
    $$ [HxA HxB Hn H0 H1 H2 S3 S4 S5 Hw]
  · isplitl [HxA]; · iexact HxA
    isplitl [HxB]; · iexact HxB
    isplitl [Hn]
    · unfold some_
      iexists f
      rw [hset]
      iexact Hn
    isplitl [H0 S3]
    · unfold free; isplitl [H0]; · iexact H0
      iexact S3
    isplitl [H1 S4]
    · unfold free; isplitl [H1]; · iexact H1
      iexact S4
    isplitl [H2]; · iexact H2
    isplitl [S5]; · iexact S5
    iexact Hw
  iapply (wp_wand_r (Fr := frame) (wpE := wpE (defs₀ (F := F)) 𝒱₀ (V d (cV L) (jV L)) none) (E := Set.univ))
  isplitl [Hwp]; · iexact Hwp
  iintro %_ ⟨HxA, HxB, Hn, HA, HB, H2, S5, Hw⟩
  unfold free waiting
  icases HA with ⟨H0, S3⟩
  icases HB with ⟨H1, S4⟩
  icases Hw with ⟨-, HO⟩
  isplitl [HxA HxB Hn]
  · isplitl [HxA HxB]
    · isplitl [HxA] <;> iassumption
    ihave Hn' := (holds_row d L (xs m d)) $$ Hn
    iexact Hn'
  isplitl [Hbufs H0 H1 H2]
  · iapply Hbufs
    isplitl [H0]; · iexact H0
    isplitl [H1]; · iexact H1
    isplitl [H2]; · iexact H2
    iempintro
  isplitl [Hsems S3 S4 S5]
  · iapply Hsems
    isplitl [S3]; · iexact S3
    isplitl [S4]; · iexact S4
    isplitl [S5]; · iexact S5
    iempintro
  iexact HO

set_option maxRecDepth 16384 in
/-- The scaling tile. -/
theorem tile_scale (hF : (K (F := F)).Facts) (O : CellTallies nD τ sig (HIx 2)) (W : Waits sig (HIx 2)) (hO : ∀ g, O g none = 0) :
    iprop(levAts (K (F := F)).L (K (F := F)).lev ∗ emp ∗ goes m 1 d (img_of L)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__scale_body (F := F) L nW (Memref.isWhole_whole _) xW (Memref.isWhole_whole _) oW (Memref.isWhole_whole _)
            (Memref.whole cc1_scratch0) (Memref.isWhole_whole _) (Memref.whole cc1_scratch1) (Memref.isWhole_whole _) (Memref.whole cc1_scratch2) (Memref.isWhole_whole _)
            cc1_scratch3 cc1_scratch4 cc1_scratch5 cc1_scratch6 cc1_scoped0)
          fun _ => iprop(comes m 1 d (img_of L) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [scale_body_eq (ok := k0_t1_ok), (K (F := F)).scopedBufs_V hF d (cV L) (jV L), SparseCore.Cfg.scopedSems0_V (Val := Elt F) d (cV L) (jV L)]
  unfold goes comes
  dsimp only
  rw [xSh_reads m d (cV L) (jV L), nSh_reads m d (cV L) (jV L)]
  iintro ⟨#Hlv, -, ⟨⟨HxA, HxB⟩, Hn, ⟨%f, Ho⟩⟩, Hbufs, Hsems, HO⟩
  ihave Hw := (waiting_of d (cV L) (jV L) O W hO) $$ [HO]
  · isplitr; · iexact Hlv
    iexact HO
  ihave Hbufs' := (take_some d (cV L) (jV L) [cc1_scratch0, cc1_scratch1, cc1_scratch2] (by decide) (by
    intro b hb
    refine SparseCore.Cfg.mem_ownRefs_of_owner (p := Proc.scVector (cV L) (jV L)) ?_
    simp only [List.mem_cons, List.not_mem_nil, or_false] at hb
    rcases hb with rfl | rfl | rfl <;> rfl)) $$ Hbufs
  ihave Hsems' := (take_sems d (cV L) (jV L) [copySem 3, copySem 4, copySem 5, copySem 6, copySem 7] (by decide) (by decide)) $$ Hsems
  simp only [List.map_cons, List.map_nil, each]
  icases Hbufs' with ⟨⟨H0, H1, H2, -⟩, Hbufs⟩
  icases Hsems' with ⟨⟨S3, S4, S5, S6, S7, -⟩, Hsems⟩
  ihave Hwp := (wp_scaleBody d (cV L) (jV L) L nW (Memref.isWhole_whole _) xW oW k0_t1_ok
    ⟨Memref.whole cc1_scratch1, Memref.isWhole_whole _, cc1_scratch3, cc1_scratch5⟩ ⟨Memref.whole cc1_scratch2, Memref.isWhole_whole _, cc1_scratch4, cc1_scratch6⟩
    (Memref.whole cc1_scratch0) (Memref.isWhole_whole _) cc1_scoped0 (xs m d) (share (img_of L) fullShare)
    (share (img_of L) fullShare).left (share (img_of L) fullShare).right O W)
    $$ [HxA HxB Hn Ho H0 H1 H2 S3 S4 S5 S6 S7 Hw]
  · isplitl [Hn]; · iexact Hn
    isplitl [HxA]; · iexact HxA
    isplitl [HxB]; · iexact HxB
    isplitl [Ho]
    · iapply (raws_of d (cV L) (jV L) L f 24 0 _); iexact Ho
    isplitl [H1 S3 S5]
    · unfold idle free
      isplitr [S5]
      · isplitl [H1]; · iexact H1
        iexact S3
      iexact S5
    isplitl [H2 S4 S6]
    · unfold idle free
      isplitr [S6]
      · isplitl [H2]; · iexact H2
        iexact S4
      iexact S6
    isplitl [H0]; · iexact H0
    isplitl [S7]; · iexact S7
    iexact Hw
  iapply (wp_wand_r (Fr := frame) (wpE := wpE (defs₀ (F := F)) 𝒱₀ (V d (cV L) (jV L)) none) (E := Set.univ))
  isplitl [Hwp]; · iexact Hwp
  iintro %_ ⟨Hn, HxA, HxB, Ho, HA, HB, H0, S7, Hw⟩
  unfold idle free waiting
  icases HA with ⟨⟨H1, S3⟩, S5⟩
  icases HB with ⟨⟨H2, S4⟩, S6⟩
  icases Hw with ⟨-, HO⟩
  isplitl [HxA HxB Hn Ho]
  · isplitl [HxA HxB]
    · isplitl [HxA] <;> iassumption
    isplitl [Hn]; · iexact Hn
    iapply (dones_to d (cV L) (jV L) L (scaled (xs m d) (gain (xs m d))) 24 0 (by omega) (by omega)); iexact Ho
  isplitl [Hbufs H0 H1 H2]
  · iapply Hbufs
    isplitl [H0]; · iexact H0
    isplitl [H1]; · iexact H1
    isplitl [H2]; · iexact H2
    iempintro
  isplitl [Hsems S3 S4 S5 S6 S7]
  · iapply Hsems
    isplitl [S3]; · iexact S3
    isplitl [S4]; · iexact S4
    isplitl [S5]; · iexact S5
    isplitl [S6]; · iexact S6
    isplitl [S7]; · iexact S7
    iempintro
  iexact HO

end Tile

/-! ## The tiles' obligations -/

/-- A tile's coordinates. -/
abbrev coordsV (c : Fin (grid0.bound 0)) (s : Fin (grid0.bound 1)) : grid0.Coords :=
  fun | 0 => c | 1 => s | ⟨_ + 2, h⟩ => absurd h (Nat.not_lt.2 (Nat.le_add_left _ _))

theorem defs₀_count (c : Fin τ.nSC) (s : Fin τ.nSub) :
    defs₀ (F := F) (.scVector c s) 0 ()
      = SparseCore.onTile hcore0 hsub0 (fun c s => cc0__count_body (coordsV c s) xW (Memref.isWhole_whole _) nW (Memref.isWhole_whole _) (Memref.whole cc0_scratch0) (Memref.isWhole_whole _)
            (Memref.whole cc0_scratch1) (Memref.isWhole_whole _) (Memref.whole cc0_scratch2) (Memref.isWhole_whole _) cc0_scratch3 cc0_scratch4 cc0_scoped0) ⟨⟩ c s := rfl
theorem defs₀_scale (c : Fin τ.nSC) (s : Fin τ.nSub) :
    defs₀ (F := F) (.scVector c s) 1 ()
      = SparseCore.onTile hcore1 hsub1 (fun c s => cc1__scale_body (coordsV c s) nW (Memref.isWhole_whole _) xW (Memref.isWhole_whole _) oW (Memref.isWhole_whole _)
            (Memref.whole cc1_scratch0) (Memref.isWhole_whole _) (Memref.whole cc1_scratch1) (Memref.isWhole_whole _) (Memref.whole cc1_scratch2) (Memref.isWhole_whole _)
            cc1_scratch3 cc1_scratch4 cc1_scratch5 cc1_scratch6 cc1_scoped0) ⟨⟩ c s := rfl

/-- A tile of either call leaves its waits where the launch theorem looks for them. -/
theorem tile_waits {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right Or.inl
  iexact HO

set_option maxRecDepth 16384 in
theorem count_obl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_count]; simp only [SparseCore.onTile, hci, and_self, ↓reduceDIte]
  exact (tile_count m d (coordsV ⟨_, hci.1⟩ ⟨_, hci.2⟩) hF O W hO).trans (wp_mono frame _ _ fun _ => tile_waits)

set_option maxRecDepth 16384 in
theorem scale_obl (hF : (K (F := F)).Facts) : (K (F := F)).TileObl (D (F := F)) 𝒱 (P m) v₀ 1 := by
  intro d c i O W hO _ _
  simp only [show (P m).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 1 ())) _
  refine BIBase.Entails.trans ?_ (Pipeline.wp_liftProg (D (F := F)) (Pipeline.defs_kernel pcfgs defs₀) 𝒱₀ _ Set.univ none _ _)
  rw [defs₀_scale]; simp only [SparseCore.onTile]
  rw [dif_pos (show ((K (F := F)).core 1 c).val < grid1.bound 0 ∧ ((K (F := F)).sub 1 i).val < grid1.bound 1 from hci)]
  exact (tile_scale m d (coordsV ⟨_, hci.1⟩ ⟨_, hci.2⟩) hF O W hO).trans (wp_mono frame _ _ fun _ => tile_waits)

/-! ## The arrays dealt out and gathered in -/

/-- Two cores of sixteen tiles each are the 32 tiles. -/
theorem tiles (Φ : ℕ → sProp 𝕄) :
    (bigSep Finset.univ fun c : Fin 2 => bigSep Finset.univ fun i : Fin 16 => Φ (i.val * 2 + c.val)) = bigSep Finset.univ fun w : Fin 32 => Φ w.val := by
  rw [bigSep_univ_equiv ((Equiv.prodComm (Fin 2) (Fin 16)).trans (finProdFinEquiv (m := 16) (n := 2))) (fun w : Fin 32 => Φ w.val), bigSep_univ_prod]
  refine bigSep_congr fun c _ => bigSep_congr fun i _ => congrArg Φ ?_
  show _ = c.val + 2 * i.val
  omega

variable (d : Dev nD)

/-- The shares of the argument. -/
abbrev xAll : sProp 𝕄 := bigSep Finset.univ fun w : Fin 32 => xSh m d w.val

theorem st_count : (bigSep Finset.univ fun c : Fin ((K (F := F)).nCore 0) => (P m).st 0 d c)
    = iprop(xAll m d ∗ bigSep Finset.univ fun w : Fin 32 => iprop(∃ f, nRow d w.val f)) :=
  (tiles (goes m 0 d)).trans (bigSep_sep' _ _ _)
theorem dn_count : (bigSep Finset.univ fun c : Fin ((K (F := F)).nCore 0) => (P m).dn 0 d c)
    = iprop(xAll m d ∗ nLoc d ↦{fullShare} (allCounts (xs m d) : Buf (Elt F) (nLoc d))) := by
  rw [cnts d]
  exact (tiles (comes m 0 d)).trans (bigSep_sep' _ _ _)
theorem st_scale : (bigSep Finset.univ fun c : Fin ((K (F := F)).nCore 1) => (P m).st 1 d c)
    = iprop(xAll m d ∗ (bigSep Finset.univ fun w : Fin 32 => nSh m d w.val) ∗ bigSep Finset.univ fun w : Fin 32 => iprop(∃ f, oImg d w.val f)) := by
  refine (tiles (goes m 1 d)).trans ((bigSep_sep' _ _ _).trans ?_)
  rw [bigSep_sep']
theorem dn_scale : (bigSep Finset.univ fun c : Fin ((K (F := F)).nCore 1) => (P m).dn 1 d c)
    = iprop(xAll m d ∗ (bigSep Finset.univ fun w : Fin 32 => nSh m d w.val) ∗ oLoc d ↦{fullShare} result m d) := by
  rw [images d]
  refine (tiles (comes m 1 d)).trans ((bigSep_sep' _ _ _).trans ?_)
  rw [bigSep_sep']

/-- The counts array's rows, at any contents. -/
theorem rows_any (f : Buf (Elt F) (nLoc d)) : (nLoc d ↦{fullShare} f) ⊢ (bigSep Finset.univ fun w : Fin 32 => iprop(∃ f, nRow d w.val f) : sProp 𝕄) := by
  rw [cnts d]
  have h : ∀ w : Fin 32, (nLoc d ↦[rowSet w.val]{fullShare} f) ⊢ (iprop(∃ f, nRow d w.val f) : sProp 𝕄) := fun w => by iintro H; iexists f; iexact H
  exact bigSep_mono fun w _ => h w
/-- The result's images, at any contents. -/
theorem images_any (f : Buf (Elt F) (oLoc d)) : (oLoc d ↦{fullShare} f) ⊢ (bigSep Finset.univ fun w : Fin 32 => iprop(∃ f, oImg d w.val f) : sProp 𝕄) := by
  rw [images d]
  have h : ∀ w : Fin 32, (oLoc d ↦[tail w.val 0]{fullShare} f) ⊢ (iprop(∃ f, oImg d w.val f) : sProp 𝕄) := fun w => by iintro H; iexists f; iexact H
  exact bigSep_mono fun w _ => h w

/-! ## The state the launch starts from -/

def u₀ : UU := (initOf (K (F := F)).hsCells (K (F := F)).hsToks, 1)

theorem held_nothing {I : Type} (s : Finset I) : (bigSep s fun _ => iprop(emp)) = (iprop(emp) : sProp 𝕄) := bigSep_emp_const s

theorem start_state : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [held_nothing]; iempintro
  rw [show (bigSep Finset.univ fun thr : Thread nD τ => bigSep Finset.univ fun q : Fin 2 => (P (F := F) m).x q thr) = bigSep Finset.univ fun _ => iprop(emp) from
    bigSep_congr fun _ _ => held_nothing _, held_nothing]
  iempintro

/-! ## The main program -/

theorem unscopedBufs_eq (W : (b : Ref sig .tc) → Buf (Elt F) ((d.tc : Thread nD τ).loc b)) :
    (unscopedBufs d W : sProp 𝕄) = iprop((xLoc d ↦{fullShare} W main_arg0) ∗ (nLoc d ↦{fullShare} W main_v0) ∗ oLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- What is left in the end: the argument as it was, the result at the scaled values. -/
abbrev FIN : sProp 𝕄 := iprop((xLoc d ↦{fullShare} m (xLoc d)) ∗ oLoc d ↦{fullShare} result m d)

/-- The main program: the counting call, then the scaling call. -/
theorem main_run (κ : GSem nD τ sig → ℕ) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hn, Ho⟩, Hts, -⟩, -⟩
  ihave Hx' := (Entails.of_eq (shares (F := F) (ℓ := xLoc d) Finset.univ (m (xLoc d)) 32 fullShare)) $$ Hx
  icases Hx' with ⟨Hx, Hxr⟩
  iapply ((K (F := F)).wp_run (D (F := F)) 𝒱 (EH := EH) (P := P m) κ d 0) $$ [Hst Hx Hxr Hn Ho Hb Hts]
  isplitr; · iexact Hctx
  isplitl [Hst]; · iexact Hst
  isplitl [Hx Hn]
  · rw [st_count]
    isplitl [Hx]; · iexact Hx
    iapply (rows_any d); iexact Hn
  iintro ⟨Hst, Hdn⟩
  ihave Hdn' := (Entails.of_eq (dn_count m d)) $$ Hdn
  icases Hdn' with ⟨Hx, Hn⟩
  ihave Hn' := (Entails.of_eq (shares (F := F) (ℓ := nLoc d) Finset.univ (allCounts (xs m d) : Buf (Elt F) (nLoc d)) 32 fullShare)) $$ Hn
  icases Hn' with ⟨Hn, -⟩
  iapply ((K (F := F)).wp_run (D (F := F)) 𝒱 (EH := EH) (P := P m) κ d 1) $$ [Hst Hx Hxr Hn Ho Hb Hts]
  isplitr; · iexact Hctx
  isplitl [Hst]; · iexact Hst
  isplitl [Hx Hn Ho]
  · rw [st_scale]
    isplitl [Hx]; · iexact Hx
    isplitl [Hn]; · iexact Hn
    iapply (images_any d); iexact Ho
  iintro ⟨Hst, Hdn⟩
  ihave Hdn' := (Entails.of_eq (dn_scale m d)) $$ Hdn
  icases Hdn' with ⟨Hx, -, Ho⟩
  imodintro
  isplitl [Hst]; · iexact Hst
  isplitr [Hb Hts]
  · isplitl [Hx Hxr]
    · iapply (Entails.of_eq (shares (F := F) (ℓ := xLoc d) Finset.univ (m (xLoc d)) 32 fullShare).symm)
      isplitl [Hx]; · iexact Hx
      iexact Hxr
    iexact Ho
  isplitl [Hb] <;> iassumption

def fq (s' : Phys nD τ sig (Elt F)) : Prop := s'.mem.mem (xLoc d) = m (xLoc d) ∧ s'.mem.mem (oLoc d) = result m d

set_option maxRecDepth 16384 in
theorem fin_mem (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := result m d)) $$ [HSI Ho]
  · isplitl [HSI] <;> iassumption
  icases H with %h2
  ipureintro; exact ⟨funext fun i => h1 i (Finset.mem_univ i), funext fun i => h2 i (Finset.mem_univ i)⟩

/-! ## The run -/

/-- Every run ends with the argument as it was, the result at the scaled values, and every semaphore at zero. -/
def QC : PUnit × MemSt nD τ sig (Elt F) → Prop :=
  fun r => (∀ c : Dev nD, r.2.mem (xLoc c) = m (xLoc c) ∧ r.2.mem (oLoc c) = result m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) sc_facts v₀
    (fun q hq => match q with | 0 => nomatch hq | 1 => nomatch hq)
    (fun q _ => match q with | 0 => count_obl m sc_facts | 1 => scale_obl m sc_facts)
    (fun q _ => SparseCore.Cfg.VecSplit.of_plain (vecSplit m q))
    m ρ main (fun _ => iprop(emp)) (FIN m) (u₀ (F := F)) (sep_elim_left.trans (start_state m)) (fun κ d => main_run m ρ d κ) (fq m) (fin_mem m) (QC m) (fun _ h hz => ⟨h, hz⟩)

end Cert.Proof.Tile

end
-- ==== Proof.Frames.lean ====
/- The frames: every run of the kernel, of its reading over the reals, and of the reference ends, with its argument as it was and
   every semaphore counter at zero. -/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal.Run

@[expose] public section

noncomputable section

namespace Cert.Proof

open Idealize.ShloMosaic Idealize.SL.Sem

/-- The kernel over the reals ends, and leaves its argument and the counters as they were. -/
theorem frame_ideal : Cert.quiescent_KernelIdeal := fun m ρ _ =>
  (θ_run Cert.KernelIdeal.defs _ _).mono (fun _ h => ⟨fun c => (h.1 c).1, h.2⟩) (Tile.run_main (F := Ideal) m ρ)

set_option maxRecDepth 100000 in
set_option maxHeartbeats 0 in
/-- So does the kernel at machine words: it is the same text, so the same run read at those values. -/
theorem frame_kernel : Cert.quiescent_Kernel := fun m ρ _ =>
  (θ_run Cert.KernelIdeal.defs _ _).mono (fun _ h => ⟨fun c => (h.1 c).1, h.2⟩) (Tile.run_main (F := Bits) m ρ)

/-- The reference ends, and leaves its argument as it was; it declares no semaphore, so no counter is ever off zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Stages.lean ====
/- The reference's value cut into stages: the flat image, the bins, the histogram, the running counts, the equalization table, and the
   piecewise linear read of it. -/
module

public import proofs.«01_k».proof.Proof.Gen.ReferenceIdeal.Run

@[expose] public section

noncomputable section

namespace Cert.Proof.Ref

open Cert.ReferenceIdeal Cert.ReferenceIdeal.Facts₀
open Idealize.ShloMosaic Idealize.ShloMosaic.TcCoe Idealize.SL.Sem

variable {F : FTy → Type} [FloatOps F]

/-- One word at every pixel. -/
abbrev words (b : BitVec 32) : IVec S25165824 32 := broadcastInDim S25165824 ![] bcast_S_S25165824 (constantI S_ 32 b)
/-- One value at every pixel. -/
abbrev every (x : FVec F S_ .f32) : FVec F S25165824 .f32 := broadcastInDim S25165824 ![] bcast_S_S25165824 x
/-- A vector of words clipped to `lo … 255`. -/
def clipped (lo : BitVec 32) (x : IVec S25165824 32) : IVec S25165824 32 := minsi (words 255#32) (maxsi (words lo) x)
/-- Indices as the gathers and the scatter take them: a negative one counts from the end. -/
def column (x : IVec S25165824 32) : IVec S25165824x1 32 :=
  broadcastInDim S25165824x1 ![0] bcast_S25165824_S25165824x1_0 (select (cmpi .slt x (words 0#32)) (addi x (words 256#32)) x)
/-- The bin of each pixel. -/
def bins (f : FVec F S25165824 .f32) : IVec S25165824 32 :=
  clipped 0#32 (fptosi 32 (Host.floor (mulf f (every (constant S_ .f32 0x43800000#32)))))
/-- How many pixels each bin holds. -/
def hist (b : IVec S25165824 32) : FVec F S256 .f32 :=
  Host.scatterAdd scatter_S256_S25165824x1_S25165824_n_0_0_1 (broadcastInDim S256 ![] bcast_S_S256 (constant S_ .f32 0x00000000#32)) (column b)
    (every (constant S_ .f32 0x3F800000#32))
/-- The running sums of a table. -/
def sums (h : FVec F S256 .f32) : FVec F S256 .f32 :=
  Host.reduceWindowAdd ![256] ![1] ![255] ![0] h (broadcastInDim S_ ![] bcast_S_S_ (constant S_ .f32 0x00000000#32))
    reduceWindows_S256_S256_w256s1p255_0 h_S_
/-- The least entry of a table. -/
def least (h : FVec F S256 .f32) : FVec F S_ .f32 := Host.reduce FloatOps.minimumf h (constant S_ .f32 0x7F800000#32) reducesTo_S256_S_d0 h_S_
/-- The greatest entry of a table. -/
def greatest (h : FVec F S256 .f32) : FVec F S_ .f32 := Host.reduce FloatOps.maximumf h (constant S_ .f32 0xFF800000#32) reducesTo_S256_S_d0 h_S_
/-- A table moved and scaled onto the interval from zero to one. -/
def normed (h : FVec F S256 .f32) : FVec F S256 .f32 :=
  Host.divf (subf h (broadcastInDim S256 ![] bcast_S_S256 (least h))) (broadcastInDim S256 ![] bcast_S_S256 (subf (greatest h) (least h)))
/-- The numbers from 0 to 255. -/
def knots : FVec F S256 .f32 := sitofp .f32 (iotaInDim S256 32 0)
/-- Per pixel, the number of knots it reaches, clipped to `1 … 255`. -/
def upper (f : FVec F S25165824 .f32) : IVec S25165824 32 :=
  clipped 1#32 (Host.reduce IntOp.addi (extui 32 (cmpf .ole
    (broadcastInDim S25165824x256 ![0, 1] bcast_S1x256_S25165824x256_0_1 (broadcastInDim S1x256 ![1] bcast_S256_S1x256_1 (knots (F := F))))
    (broadcastInDim S25165824x256 ![0, 1] bcast_S25165824x1_S25165824x256_0_1 (broadcastInDim S25165824x1 ![0] bcast_S25165824_S25165824x1_0 f)))
    natLt_1_32) (constantI S_ 32 0#32) reducesTo_S25165824x256_S25165824_d1 h_S_)
/-- The knot before. -/
def lower (u : IVec S25165824 32) : IVec S25165824 32 := subi u (words 1#32)
/-- A table read at each pixel's index. -/
def took (x : FVec F S256 .f32) (u : IVec S25165824 32) : FVec F S25165824 .f32 :=
  Host.gather gather_S256_S25165824x1_S25165824_n_0_n_n_0_1_1 x (column u)
/-- A table's first entry. -/
def firstOf (x : FVec F S256 .f32) : FVec F S_ .f32 := shapeCast _ (extractStridedSlice S1 ![0] x slices_S256_S1_0) shapeCasts_S1_S_
/-- A table's last entry. -/
def lastOf (x : FVec F S256 .f32) : FVec F S_ .f32 := shapeCast _ (extractStridedSlice S1 ![255] x slices_S256_S1_255) shapeCasts_S1_S_
/-- The distance between the two knots around each pixel. -/
def span (u : IVec S25165824 32) : FVec F S25165824 .f32 := subf (took knots u) (took knots (lower u))
/-- Where that distance is next to nothing. -/
def flat (u : IVec S25165824 32) : IVec S25165824 1 :=
  cmpf .ole (Host.absf (span (F := F) u)) (every (constant S_ .f32 0x28800000#32))
/-- The line through the table's values at the two knots around each pixel, at the pixel. -/
def line (f : FVec F S25165824 .f32) (h : FVec F S256 .f32) (u : IVec S25165824 32) : FVec F S25165824 .f32 :=
  addf (took h (lower u)) (mulf (Host.divf (subf f (took knots (lower u))) (select (flat (F := F) u) (every (sitofp .f32 (constantI S_ 32 1#32))) (span u)))
    (subf (took h u) (took h (lower u))))
/-- The table read piecewise linearly at each pixel, its ends kept outside the knots. -/
def interp (f : FVec F S25165824 .f32) (h : FVec F S256 .f32) (u : IVec S25165824 32) : FVec F S25165824 .f32 :=
  select (cmpf .ogt f (every (lastOf knots))) (every (lastOf h))
    (select (cmpf .olt f (every (firstOf knots))) (every (firstOf h)) (select (flat (F := F) u) (took h (lower u)) (line f h u)))
/-- The equalized flat image. -/
def equalized (f : FVec F S25165824 .f32) : FVec F S25165824 .f32 := interp f (normed (sums (hist (bins f)))) (upper f)

/-- The reference returns the equalized image. -/
theorem res_eq (m : (ℓ : Loc nD τ sig) → Buf (Elt F) ℓ) (c : Dev nD) :
    Value.res_out0 m c = shapeCast S32x3x512x512 (equalized (shapeCast S25165824 (m ((c.tc : Thread nD τ).loc main_arg0)) shapeCasts_S32x3x512x512_S25165824))
      shapeCasts_S25165824_S32x3x512x512 := by
  unfold Value.res_out0 Value.res_main_v117
  rfl

end Cert.Proof.Ref

end
-- ==== Proof.RefOps.lean ====
/- The array operations the reference is made of, over the extended reals and at any extent: a histogram is a count, a running sum is a
   sum over an initial stretch, and the least and greatest entries of a table are the entries that bound the others. -/
module

public import Idealize.ShloMosaic.PureOps
public import Idealize.ShloMosaic.Lib.Routing.Ops
public import Idealize.ShloMosaic.Lib.Routing.OpsSearch
public import Idealize.ShloMosaic.Lib.Routing.OpsPair
public import Idealize.ShloMosaic.Lib.Routing.Count
public import Idealize.ShloMosaic.Lib.ReduceAll
public import Idealize.ShloMosaic.Lib.Pointwise.Reduce

@[expose] public section

noncomputable section

namespace Cert.Proof.RefOps

open Idealize.ShloMosaic hiding ix1 ix2
open Idealize.ShloMosaic.ValueIdx
open Idealize.ShloMosaic.Routing (shape0 shape1 shape2)
open scoped BigOperators

/-- The coordinate of an index into a vector. -/
def coord {N : ℕ} (j : (shape1 N).Idx) : Fin N := j 0

/-- An index into a vector is the index of its coordinate. -/
theorem ix1_coord {N : ℕ} (j : (shape1 N).Idx) : ix1 (coord j) = j := by
  funext a
  match a with | ⟨0, _⟩ => rfl

/-- An update goes to the entry its index word names. -/
theorem lands {N M : ℕ} (d : ScatterDims (shape1 M) (shape2 N 1) (shape1 N)) (hiw : d.insertedWindowDims = [0])
    (hsd : d.scatterDimsToOperandDims = [0]) (hivd : d.indexVectorDim = 1) (idx : IVec (shape2 N 1) 32) (i : Fin N) (x : Fin M) :
    d.resultIdx? (ix1 i) idx = some (ix1 x) ↔ (idx (ix2 i (0 : Fin 1))).toInt = (x.val : ℤ) := by
  have hm : (0 : Fin 1) ∈ d.scatterDimsToOperandDims := by rw [hsd]; exact List.mem_singleton_self _
  have hk : (0 : Fin 1) ∉ d.sKept := fun h => of_decide_eq_true (List.mem_filter.1 h).2 (by rw [hiw]; exact List.mem_singleton_self _)
  have one : ∀ X : Fin 1, ((ix1 i : (shape1 N).Idx) X).val = i.val := fun X => by rw [Subsingleton.elim X 0]
  have e : d.siIdx (ix1 i) ⟨d.scatterDimsToOperandDims.idxOf 0, List.idxOf_lt_length_iff.2 hm⟩ = ix2 i (0 : Fin 1) := funext fun b => Fin.ext (by
    unfold ScatterDims.siIdx
    match b with
    | ⟨0, _⟩ =>
      rw [dif_neg (by rw [hivd]; exact Nat.zero_ne_one)]
      exact one _
    | ⟨1, _⟩ =>
      rw [dif_pos hivd.symm]
      show d.scatterDimsToOperandDims.idxOf 0 = 0
      rw [hsd]
      exact List.idxOf_cons_self)
  rw [Routing.resultIdx?_ix1]
  unfold ScatterDims.start ScatterDims.window
  rw [dif_pos hm, dif_neg hk, e]
  simp

/-- As many ones as there are indices with a property add up to the count of the positions that have it. -/
theorem sum_ones {N : ℕ} (P : (shape1 N).Idx → Prop) [DecidablePred P] (Q : ℕ → Prop) [DecidablePred Q] (h : ∀ i : Fin N, P (ix1 i) ↔ Q i.val) :
    (∑ _j ∈ Finset.univ.filter P, (1 : EReal)) = ((Nat.count Q N : ℕ) : EReal) := by
  rw [Finset.sum_const, nsmul_one, ← Routing.card_filter_fin N Q]
  refine congrArg Nat.cast (Finset.card_bij' (fun j _ => coord j) (fun k _ => ix1 k) (fun j hj => ?_) (fun (k : Fin N) hk => ?_) (fun j _ => ix1_coord j) (fun _ _ => rfl))
  · rw [Finset.mem_filter] at hj ⊢
    exact ⟨Finset.mem_univ _, (h (coord j)).1 (by rw [ix1_coord]; exact hj.2)⟩
  · rw [Finset.mem_filter] at hk ⊢
    exact ⟨Finset.mem_univ _, (h k).2 hk.2⟩

/-- Ones scattered onto zeros count, at each entry, the updates that go there. -/
theorem scatter_count {N M : ℕ} (d : ScatterDims (shape1 M) (shape2 N 1) (shape1 N)) (hiw : d.insertedWindowDims = [0])
    (hsd : d.scatterDimsToOperandDims = [0]) (hivd : d.indexVectorDim = 1) (x : FVec Ideal (shape1 M) .f32) (hx : ∀ j, x j = (0 : EReal))
    (idx : IVec (shape2 N 1) 32) (upd : FVec Ideal (shape1 N) .f32) (hu : ∀ j, upd j = (1 : EReal)) (g : ℕ → ℕ)
    (hg : ∀ i : Fin N, idx (ix2 i (0 : Fin 1)) = BitVec.ofNat 32 (g i.val)) (hb : ∀ i : Fin N, g i.val < 2 ^ 31) (b : Fin M) :
    Host.scatterAdd d x idx upd (ix1 b) = ((Nat.count (fun i => g i = b.val) N : ℕ) : EReal) := by
  show x (ix1 b) + ∑ j ∈ Finset.univ.filter (fun j => d.resultIdx? j idx = some (ix1 b)), upd j = _
  rw [hx, zero_add, Finset.sum_congr rfl fun j _ => hu j]
  refine sum_ones _ _ fun i => ?_
  rw [lands d hiw hsd hivd, hg, WordCmp.toInt_ofNat_of_lt (w := 32) (hb i)]
  omega

/-- A left fold of additions is the sum. -/
theorem foldl_add {ι : Type} (g : ι → EReal) (l : List ι) (a : EReal) : l.foldl (fun r n => r + g n) a = a + (l.map g).sum := by
  induction l generalizing a with
  | nil => simp
  | cons b l ih => rw [List.foldl_cons, ih, List.map_cons, List.sum_cons, add_assoc]

/-- A window as long as the vector, moved over it from the left end, sums the initial stretches. -/
theorem window_sum {N M : ℕ} (hN : M + 1 = N) (x : (shape1 N).Idx → EReal) (f : ℕ → EReal) (hx : ∀ i : Fin N, x (ix1 i) = f i.val)
    (init : shape0.Idx → EReal) (hinit : ∀ j, init j = 0) (h : (shape1 N).ReduceWindows (![N] : Fin 1 → ℕ) ![1] ![M] ![0] (shape1 N))
    (hu : 0 < shape0.numel) (j : Fin N) :
    Host.reduceWindow (· + ·) ![N] ![1] ![M] ![0] x init h hu (ix1 j) = ∑ i ∈ Finset.range (j.val + 1), f i := by
  subst hN
  obtain ⟨d, hd⟩ : ∃ d, M = d + j.val := ⟨M - j.val, by have := j.isLt; omega⟩
  have all : Host.reduceWindow (· + ·) ![M + 1] ![1] ![M] ![0] x init h hu (ix1 j)
      = (List.finRange (shape1 (M + 1)).numel).foldl (fun r n => r + if d ≤ n.val then f (n.val - d) else 0) (init (Shape.Idx.first hu)) := by
    refine List.foldl_ext _ _ _ fun r n _ => congrArg (r + ·) ?_
    have hw : ((shape1 (M + 1)).rowMajor.symm n 0).val = n.val := by rw [Routing.symm1]; rfl
    have hn : n.val < M + 1 := (n.cast (Routing.numel1 _)).isLt
    have hp : (ix1 j ((0 : Fin 1).cast h.1.symm)).val * 1 + ((shape1 (M + 1)).rowMajor.symm n 0).val = j.val + n.val := by
      rw [hw, Nat.mul_one]; rfl
    dsimp only
    split
    · next hin =>
      have h0 : M ≤ (ix1 j ((0 : Fin 1).cast h.1.symm)).val * 1 + ((shape1 (M + 1)).rowMajor.symm n 0).val := (hin 0).1
      rw [hp] at h0
      rw [if_pos (by omega)]
      have e := hx ⟨n.val - d, by omega⟩
      refine (congrArg x (funext fun a => Fin.ext ?_)).trans e
      match a with
      | ⟨0, _⟩ =>
        show (ix1 j ((0 : Fin 1).cast h.1.symm)).val * 1 + ((shape1 (M + 1)).rowMajor.symm n 0).val - M = n.val - d
        rw [hp]
        omega
    · next hin =>
      rw [if_neg fun hle => hin fun a => ?_, hinit]
      match a with
      | ⟨0, _⟩ =>
        show M ≤ (ix1 j ((0 : Fin 1).cast h.1.symm)).val * 1 + ((shape1 (M + 1)).rowMajor.symm n 0).val
          ∧ (ix1 j ((0 : Fin 1).cast h.1.symm)).val * 1 + ((shape1 (M + 1)).rowMajor.symm n 0).val - M < M + 1
        rw [hp]
        omega
  rw [all, foldl_add, hinit, zero_add, Routing.map_finRange_val _ (fun n => if d ≤ n then f (n - d) else 0), Routing.numel1]
  show ∑ n ∈ Finset.range (M + 1), (if d ≤ n then f (n - d) else 0) = _
  obtain ⟨n, hn⟩ : ∃ n, n = j.val := ⟨_, rfl⟩
  rw [← hn, show Finset.range (M + 1) = Finset.range (d + (n + 1)) by rw [hn]; congr 1; omega, Finset.sum_range_add, Finset.sum_eq_zero fun n hn => if_neg (by have := Finset.mem_range.1 hn; omega), zero_add]
  exact Finset.sum_congr rfl fun n _ => by rw [if_pos (Nat.le_add_right d n), Nat.add_sub_cancel_left]

/-- Counts of equal keys, added up to a key, count the keys up to it. -/
theorem sum_counts (g : ℕ → ℕ) (x N : ℕ) :
    ∑ y ∈ Finset.range (x + 1), ((Nat.count (fun i => g i = y) N : ℕ) : EReal) = ((Nat.count (fun i => g i ≤ x) N : ℕ) : EReal) := by
  rw [← Nat.cast_sum]
  exact congrArg Nat.cast (Routing.sum_count_eq g x N)

/-- The least entry, from plus infinity, is the entry no other is below. -/
theorem reduce_min {N : ℕ} (x : FVec Ideal (shape1 N) .f32) (init : FVec Ideal shape0 .f32) (hinit : ∀ j, init j = (⊤ : EReal)) (k : Fin N)
    (hk : ∀ i : Fin N, (x (ix1 k) : EReal) ≤ x (ix1 i)) (h : (shape1 N).ReducesTo [0] shape0) (hu : 0 < shape0.numel) (j : shape0.Idx) :
    Host.reduce FloatOps.minimumf x init h hu j = x (ix1 k) := by
  have e : (FloatOps.minimumf : Ideal .f32 → Ideal .f32 → Ideal .f32) = (min : EReal → EReal → EReal) := rfl
  rw [e]
  refine (Host.reduce_eq_fold (min : EReal → EReal → EReal) x init h hu j).trans ?_
  refine (Shape.ReducesTo.fold_fiber_r1_a0 h j (min : EReal → EReal → EReal) _ x).trans (le_antisymm ?_ ?_)
  · exact (Finset.fold_min_le _).2 (Or.inr ⟨k, Finset.mem_univ _, le_rfl⟩)
  · exact Finset.le_fold_min _ |>.2 ⟨by rw [hinit]; exact le_top, fun i _ => hk i⟩

/-- The greatest entry, from minus infinity, is the entry no other is above. -/
theorem reduce_max {N : ℕ} (x : FVec Ideal (shape1 N) .f32) (init : FVec Ideal shape0 .f32) (hinit : ∀ j, init j = (⊥ : EReal)) (k : Fin N)
    (hk : ∀ i : Fin N, (x (ix1 i) : EReal) ≤ x (ix1 k)) (h : (shape1 N).ReducesTo [0] shape0) (hu : 0 < shape0.numel) (j : shape0.Idx) :
    Host.reduce FloatOps.maximumf x init h hu j = x (ix1 k) := by
  have e : (FloatOps.maximumf : Ideal .f32 → Ideal .f32 → Ideal .f32) = (max : EReal → EReal → EReal) := rfl
  rw [e]
  refine (Host.reduce_eq_fold (max : EReal → EReal → EReal) x init h hu j).trans ?_
  refine (Shape.ReducesTo.fold_fiber_r1_a0 h j (max : EReal → EReal → EReal) _ x).trans (le_antisymm ?_ ?_)
  · exact Finset.fold_max_le _ |>.2 ⟨by rw [hinit]; exact bot_le, fun i _ => hk i⟩
  · exact (Finset.le_fold_max _).2 (Or.inr ⟨k, Finset.mem_univ _, le_rfl⟩)

/-- A left fold by `or` that comes out one met a one. -/
theorem foldl_ori {ι : Type} (g : ι → BitVec 1) (l : List ι) (a : BitVec 1) (h : l.foldl (fun r n => IntOp.ori r (g n)) a = 1#1) :
    a = 1#1 ∨ ∃ n ∈ l, g n = 1#1 := by
  induction l generalizing a with
  | nil => exact Or.inl h
  | cons b l ih =>
    rcases ih _ h with h1 | ⟨n, hn, e⟩
    · have two : ∀ p q : BitVec 1, p ||| q = 1#1 → p = 1#1 ∨ q = 1#1 := by decide
      rcases two a (g b) h1 with h2 | h2
      · exact Or.inl h2
      · exact Or.inr ⟨b, List.mem_cons_self, h2⟩
    · exact Or.inr ⟨n, List.mem_cons_of_mem _ hn, e⟩

/-- If any element holds, one does. -/
theorem reduce_any {s t u : Shape} {axes : List (Fin s.rank)} (x : s.Idx → BitVec 1) (init : u.Idx → BitVec 1) (hi : ∀ j, init j = 0#1)
    (h : s.ReducesTo axes t) (hu : 0 < u.numel) (j : t.Idx) (e : Host.reduce IntOp.ori x init h hu j = 1#1) : ∃ i, x i = 1#1 := by
  rw [Host.reduce_eq_foldl] at e
  rcases foldl_ori x _ _ e with h0 | ⟨i, _, hx⟩
  · rw [hi] at h0
    exact absurd h0 (by decide)
  · exact ⟨i, hx⟩

end Cert.Proof.RefOps

end
-- ==== Proof.Words.lean ====
/- The numbers the two programs name, and what their conversions between numbers and words give, over the extended reals. -/
module

public import Idealize.ShloMosaic.PureOps
public import Idealize.ShloMosaic.Lib.Routing.OpsSearch

@[expose] public section

noncomputable section

namespace Cert.Proof.Words

open Idealize.ShloMosaic

/-! ## The constants -/

theorem lit_one : Ideal.ofBits .f32 0x3F800000#32 = ((1 : ℝ) : EReal) := by
  simp [Ideal.ofBits, Ideal.ieee]; rw [← EReal.coe_mul]; norm_num
theorem lit_256 : Ideal.ofBits .f32 0x43800000#32 = ((256 : ℝ) : EReal) := by
  simp [Ideal.ofBits, Ideal.ieee]; rw [← EReal.coe_mul]; norm_num
theorem lit_total : Ideal.ofBits .f32 0x4BC00000#32 = ((25165824 : ℝ) : EReal) := by
  simp [Ideal.ofBits, Ideal.ieee]; rw [← EReal.coe_mul]; norm_num
theorem lit_first : Ideal.ofBits .f32 0x3B800000#32 = ((1 / 256 : ℝ) : EReal) := by
  simp [Ideal.ofBits, Ideal.ieee]; rw [← EReal.coe_mul]; norm_num
theorem lit_second : Ideal.ofBits .f32 0x3C000000#32 = ((1 / 128 : ℝ) : EReal) := by
  simp [Ideal.ofBits, Ideal.ieee]; rw [← EReal.coe_mul]; norm_num
theorem lit_tiny : Ideal.ofBits .f32 0x28800000#32 = ((1 / 2 ^ 46 : ℝ) : EReal) := by
  simp [Ideal.ofBits, Ideal.ieee]; rw [← EReal.coe_mul]; norm_num
theorem lit_top : Ideal.ofBits .f32 0x7F800000#32 = ⊤ := by
  simp [Ideal.ofBits, Ideal.ieee]
theorem lit_bot : Ideal.ofBits .f32 0xFF800000#32 = ⊥ := by
  simp [Ideal.ofBits, Ideal.ieee]

/-! ## Comparisons and conversions -/

/-- The bin of a value: how many 256ths it is, but never more than 255. -/
def bin (r : ℝ) : ℕ := min ⌊r * 256⌋₊ 255

theorem bin_lt (r : ℝ) : bin r < 2 ^ 31 := by unfold bin; omega
theorem bin_le (r : ℝ) : bin r ≤ 255 := min_le_right _ _

/-- A value is in the lowest bin exactly when it is below the first threshold. -/
theorem bin_zero {r : ℝ} (h : 0 ≤ r) : bin r ≤ 0 ↔ r < 1 / 256 := by
  have e : bin r ≤ 0 ↔ ⌊r * 256⌋₊ < 1 := by unfold bin; omega
  rw [e, Nat.floor_lt (by positivity), Nat.cast_one]
  constructor <;> intro h <;> linarith

/-- A value is in the two lowest bins exactly when it is below the second threshold. -/
theorem bin_one {r : ℝ} (h : 0 ≤ r) : bin r ≤ 1 ↔ r < 1 / 128 := by
  have e : bin r ≤ 1 ↔ ⌊r * 256⌋₊ < 2 := by unfold bin; omega
  rw [e, Nat.floor_lt (by positivity), Nat.cast_ofNat]
  constructor <;> intro h <;> linarith

/-- The word the reference keeps of a value holds its bin. -/
theorem bin_word {r : ℝ} (h0 : 0 ≤ r) (h1 : r ≤ 1) :
    IntOp.minsi 255#32 (IntOp.maxsi 0#32 (FloatOps.fptosi (F := Ideal) (φ := .f32) 32
      (FloatOps.hostUnary .floor (FloatOps.mulf ((r : ℝ) : EReal) (Scalar.ofBits .f32 0x43800000#32))))) = BitVec.ofNat 32 (bin r) := by
  have e : FloatOps.fptosi (F := Ideal) (φ := .f32) 32
      (FloatOps.hostUnary .floor (FloatOps.mulf ((r : ℝ) : EReal) (Scalar.ofBits .f32 0x43800000#32))) = BitVec.ofNat 32 ⌊r * 256⌋₊ := by
    show Ideal.fptosi 32 (Ideal.liftRound Int.floor (((r : ℝ) : EReal) * Ideal.ofBits .f32 0x43800000#32)) = _
    rw [lit_256, ← EReal.coe_mul, Ideal.liftRound_coe, Ideal.fptosi, Ideal.toIntClamped_coe]
    have hn : (0 : ℝ) ≤ r * 256 := by positivity
    have hf : (⌊r * 256⌋ : ℤ) = ((⌊r * 256⌋₊ : ℕ) : ℤ) := (Int.natCast_floor_eq_floor hn).symm
    have hb : ⌊r * 256⌋₊ ≤ 256 := Nat.floor_le_of_le (by push_cast; linarith)
    rw [if_pos (by rw [hf]; positivity), Int.floor_intCast, hf, ← BitVec.ofInt_natCast]
    congr 1
    omega
  rw [e]
  have hb : ⌊r * 256⌋₊ ≤ 256 := Nat.floor_le_of_le (by push_cast; linarith)
  rw [show (255#32 : BitVec 32) = BitVec.ofNat 32 255 from rfl, show (0#32 : BitVec 32) = BitVec.ofNat 32 0 from rfl,
    Routing.clip_word (by omega) (by omega) (by omega), Nat.max_zero]
  rfl

/-- A count as a number. -/
theorem sitofp_ofNat {n : ℕ} (h : n < 2 ^ 31) : (FloatOps.sitofp (F := Ideal) .f32 (BitVec.ofNat 32 n) : EReal) = ((n : ℝ) : EReal) := by
  show (((BitVec.ofNat 32 n).toInt : ℝ) : EReal) = _
  rw [WordCmp.toInt_ofNat_of_lt (w := 32) h, Int.cast_natCast]

/-- Comparison of two numbers, "at most". -/
theorem cmp_le (a b : ℝ) : FloatOps.cmpf (F := Ideal) (φ := .f32) .ole ((a : ℝ) : EReal) ((b : ℝ) : EReal) = BitVec.ofBool (decide (a ≤ b)) := by
  show BitVec.ofBool (decide (((a : ℝ) : EReal) ≤ ((b : ℝ) : EReal))) = _
  simp only [EReal.coe_le_coe_iff]
/-- Comparison of two numbers, "below". -/
theorem cmp_lt (a b : ℝ) : FloatOps.cmpf (F := Ideal) (φ := .f32) .olt ((a : ℝ) : EReal) ((b : ℝ) : EReal) = BitVec.ofBool (decide (a < b)) := by
  show BitVec.ofBool (decide (((a : ℝ) : EReal) < ((b : ℝ) : EReal))) = _
  simp only [EReal.coe_lt_coe_iff]
/-- Comparison of two numbers, "above". -/
theorem cmp_gt (a b : ℝ) : FloatOps.cmpf (F := Ideal) (φ := .f32) .ogt ((a : ℝ) : EReal) ((b : ℝ) : EReal) = BitVec.ofBool (decide (b < a)) := by
  show BitVec.ofBool (decide (((b : ℝ) : EReal) < ((a : ℝ) : EReal))) = _
  simp only [EReal.coe_lt_coe_iff]

/-- How many of the knots a value of the interval reaches: the first, and the second only at one. -/
theorem reached {r : ℝ} (h0 : 0 ≤ r) (h1 : r ≤ 1) {n : ℕ} (hn : 2 ≤ n) :
    Nat.count (fun q => ((q : ℕ) : ℝ) ≤ r) n = if r < 1 then 1 else 2 := by
  obtain ⟨k, rfl⟩ : ∃ k, n = 2 + k := ⟨n - 2, by omega⟩
  rw [Nat.count_add]
  have hz : Nat.count (fun q => ((2 + q : ℕ) : ℝ) ≤ r) k = 0 := by
    rw [Nat.count_iff_forall_not]
    intro q _ hq
    push_cast at hq
    have : (0 : ℝ) ≤ (q : ℝ) := Nat.cast_nonneg q
    linarith
  rw [hz, add_zero, show (2 : ℕ) = 0 + 1 + 1 from rfl, Nat.count_succ, Nat.count_succ, Nat.count_zero]
  by_cases h : r < 1
  · rw [if_pos h, if_pos (by simpa using h0), if_neg (by simpa using h)]
  · rw [if_neg h, if_pos (by simpa using h0), if_pos (by simpa using h)]

end Cert.Proof.Words

end
-- ==== Proof.RefValue.lean ====
/- What the reference gives at each pixel of an image whose values lie in the interval from zero to one: the value times the share of
   the second bin, `(L 1 - L 0) / (N - L 0)`, `L j` the number of pixels of the bins up to `j`. -/
module

public import proofs.«01_k».proof.Proof.Stages
public import proofs.«01_k».proof.Proof.RefOps
public import proofs.«01_k».proof.Proof.Words

@[expose] public section

noncomputable section

namespace Cert.Proof.Ref

open Cert.ReferenceIdeal Cert.ReferenceIdeal.Facts₀
open Idealize.ShloMosaic hiding ix0 ix1 ix2
open Idealize.ShloMosaic.ValueIdx Cert.Proof.Words Cert.Proof.RefOps
open scoped BigOperators

/-! ## Elementwise operations at an element -/

section elementwise
variable {s : Shape} (x y : FVec Ideal s .f32) (i : s.Idx)
theorem at_sub : (subf x y i : EReal) = (x i : EReal) - y i := rfl
theorem at_add : (addf x y i : EReal) = (x i : EReal) + y i := rfl
theorem at_mul : (mulf x y i : EReal) = (x i : EReal) * y i := rfl
theorem at_div : (Host.divf x y i : EReal) = Ideal.div (x i) (y i) := rfl
theorem at_abs : (Host.absf x i : EReal) = max (x i : EReal) (-(x i : EReal)) := rfl
theorem at_cmp (q : CmpFPredicate) : cmpf q x y i = FloatOps.cmpf q (x i) (y i) := rfl
theorem at_select (c : IVec s 1) : select c x y i = Scalar.select (c i) (x i) (y i) := rfl
theorem at_every (z : FVec Ideal S_ .f32) (p : S25165824.Idx) : every z p = z ix0 := Routing.bc0 _ z p
theorem at_constant (b : BitVec 32) (j : S_.Idx) : (constant (F := Ideal) S_ .f32 b j : EReal) = Ideal.ofBits .f32 b := rfl
theorem sel_zero {α : Type} (a b : α) : Scalar.select 0#1 a b = b := rfl
theorem sel_false {α : Type} (a b : α) : Scalar.select (BitVec.ofBool false) a b = b := rfl
end elementwise

/-! ## Stage by stage -/

/-- The number of pixels. -/
abbrev total : ℕ := 25165824

/-- The number of pixels of the bins up to `j`, of the values `r`. -/
def upTo (r : ℕ → ℝ) (j : ℕ) : ℕ := Nat.count (fun n => bin (r n) ≤ j) total

theorem upTo_mono (r : ℕ → ℝ) {i j : ℕ} (h : i ≤ j) : upTo r i ≤ upTo r j := Nat.count_mono_left fun _ _ e => le_trans e h
theorem upTo_le (r : ℕ → ℝ) (j : ℕ) : upTo r j ≤ total := Nat.count_le _
/-- Every pixel is in one of the bins. -/
theorem upTo_last (r : ℕ → ℝ) : upTo r 255 = total := Nat.count_iff_forall.2 fun n _ => bin_le (r n)

/-- An index column's entry is the word it was made from, if that is the word of a natural. -/
theorem column_apply (x : IVec S25165824 32) (p : Fin total) {a : ℕ} (ha : a < 2 ^ 31) (hx : x (ix1 p) = BitVec.ofNat 32 a) :
    column x (ix2 p (0 : Fin 1)) = BitVec.ofNat 32 a := by
  unfold column
  refine (Routing.bcCol _ _ p).trans ?_
  show Scalar.select (IntOp.cmpi .slt (x (ix1 p)) 0#32) (IntOp.addi (x (ix1 p)) 256#32) (x (ix1 p)) = _
  rw [Routing.wrap_of_lt _ _ (by rw [hx, BitVec.toNat_ofNat]; omega), hx]

/-- A table read at an index. -/
theorem took_apply (t : FVec Ideal S256 .f32) (x : IVec S25165824 32) (p : Fin total) {a : ℕ} (ha : a < 256) (hx : x (ix1 p) = BitVec.ofNat 32 a) :
    took t x (ix1 p) = t (ix1 ⟨a, ha⟩) :=
  Routing.take_ap _ rfl rfl rfl rfl t (column x) p ha (by omega) (column_apply x p (by omega) hx)

theorem knots_apply (k : Fin 256) : (knots (F := Ideal) (ix1 k) : EReal) = ((k.val : ℝ) : EReal) :=
  sitofp_ofNat (n := k.val) (by omega)

theorem first_apply (t : FVec Ideal S256 .f32) (j : S_.Idx) : firstOf t j = t (ix1 (0 : Fin 256)) := by
  unfold firstOf
  refine congrArg t (funext fun a => Fin.ext ?_)
  match a with
  | ⟨0, _⟩ =>
    have one : ∀ X : Fin 1, 0 + X.val = 0 := fun X => by rw [Nat.lt_one_iff.1 X.isLt]
    exact one _

theorem last_apply (t : FVec Ideal S256 .f32) (j : S_.Idx) : lastOf t j = t (ix1 (255 : Fin 256)) := by
  unfold lastOf
  refine congrArg t (funext fun a => Fin.ext ?_)
  match a with
  | ⟨0, _⟩ =>
    have one : ∀ X : Fin 1, 255 + X.val = 255 := fun X => by rw [Nat.lt_one_iff.1 X.isLt]
    exact one _

/-- A table that starts at zero, read between two knots: up to the second knot it is the value times the second entry. -/
theorem on_line (t : ℕ → ℝ) (h0 : t 0 = 0) {x : ℝ} (hx : x ≤ 1) (a b : ℕ) (ha : a = if x < 1 then 0 else 1) (hb : b = if x < 1 then 1 else 2) :
    t a + (x - (a : ℝ)) * (1 / 1) * (t b - t a) = x * t 1 := by
  subst ha hb
  by_cases h : x < 1
  · rw [if_pos h, if_pos h, h0]
    push_cast
    ring
  · rw [if_neg h, if_neg h, le_antisymm hx (not_lt.1 h)]
    push_cast
    ring

section image
variable (f : FVec Ideal S25165824 .f32) (r : ℕ → ℝ) (hf : ∀ p : Fin total, (f (ix1 p) : EReal) = ((r p.val : ℝ) : EReal))
  (h01 : ∀ p : Fin total, 0 ≤ r p.val ∧ r p.val ≤ 1)
include hf h01

theorem bins_apply (p : Fin total) : bins f (ix1 p) = BitVec.ofNat 32 (bin (r p.val)) := by
  refine Eq.trans ?_ (bin_word (h01 p).1 (h01 p).2)
  rw [← hf p]
  rfl

theorem hist_apply (b : Fin 256) : (hist (F := Ideal) (bins f) (ix1 b) : EReal) = ((Nat.count (fun n => bin (r n) = b.val) total : ℕ) : EReal) :=
  scatter_count _ rfl rfl rfl _ (fun _ => by show Ideal.ofBits .f32 0x00000000#32 = 0; exact Ideal.ofBits_zero_f32) _ _
    (fun _ => by show Ideal.ofBits .f32 0x3F800000#32 = 1; rw [lit_one, EReal.coe_one]) (fun n => bin (r n))
    (fun p => column_apply _ p (bin_lt _) (bins_apply f r hf h01 p)) (fun _ => bin_lt _) b

theorem sums_apply (b : Fin 256) : (sums (hist (F := Ideal) (bins f)) (ix1 b) : EReal) = ((upTo r b.val : ℕ) : EReal) := by
  refine Eq.trans ?_ (sum_counts (fun n => bin (r n)) b.val total)
  exact window_sum (by norm_num) _ (fun y => ((Nat.count (fun n => bin (r n) = y) total : ℕ) : EReal)) (hist_apply f r hf h01) _
    (fun _ => Ideal.ofBits_zero_f32) reduceWindows_S256_S256_w256s1p255_0 h_S_ b

theorem least_apply (j : S_.Idx) : (least (sums (hist (F := Ideal) (bins f))) j : EReal) = ((upTo r 0 : ℕ) : EReal) := by
  refine (reduce_min _ _ (fun _ => lit_top) (0 : Fin 256) (fun i => ?_) _ _ j).trans (sums_apply f r hf h01 0)
  rw [sums_apply f r hf h01, sums_apply f r hf h01]
  exact_mod_cast upTo_mono r (Nat.zero_le _)

theorem greatest_apply (j : S_.Idx) : (greatest (sums (hist (F := Ideal) (bins f))) j : EReal) = ((total : ℕ) : EReal) := by
  refine (reduce_max _ _ (fun _ => lit_bot) (255 : Fin 256) (fun i => ?_) _ _ j).trans ((sums_apply f r hf h01 255).trans ?_)
  · rw [sums_apply f r hf h01, sums_apply f r hf h01]
    exact_mod_cast upTo_mono r (Nat.le_of_lt_succ i.isLt)
  · exact congrArg _ (upTo_last r)

/-- An entry of the equalization table: the pixels up to its bin but not in the lowest, over all the pixels not in the lowest. -/
theorem normed_apply (hL : upTo r 0 < total) (b : Fin 256) :
    (normed (sums (hist (F := Ideal) (bins f))) (ix1 b) : EReal) = ((((upTo r b.val : ℝ) - upTo r 0) / ((total : ℝ) - upTo r 0) : ℝ) : EReal) := by
  have hD : ((total : ℕ) : ℝ) - (upTo r 0 : ℝ) ≠ 0 := by
    have : (upTo r 0 : ℝ) < ((total : ℕ) : ℝ) := by exact_mod_cast hL
    linarith
  unfold normed
  rw [at_div, at_sub, Routing.bc0, Routing.bc0, at_sub, sums_apply f r hf h01, least_apply f r hf h01, greatest_apply f r hf h01]
  rw [← EReal.coe_natCast, ← EReal.coe_natCast, ← EReal.coe_natCast, ← EReal.coe_sub, ← EReal.coe_sub, Ideal.div_coe hD, ← EReal.coe_mul, mul_one_div]

/-- The knot after a value: the second, or the third for the value one. -/
theorem upper_apply (p : Fin total) : upper f (ix1 p) = BitVec.ofNat 32 (if r p.val < 1 then 1 else 2) := by
  have e := Routing.reduce_count (n := total) (m := 256) (by norm_num)
    (cmpf .ole
      (broadcastInDim S25165824x256 ![0, 1] bcast_S1x256_S25165824x256_0_1 (broadcastInDim S1x256 ![1] bcast_S256_S1x256_1 (knots (F := Ideal))))
      (broadcastInDim S25165824x256 ![0, 1] bcast_S25165824x1_S25165824x256_0_1 (broadcastInDim S25165824x1 ![0] bcast_S25165824_S25165824x1_0 f)))
    natLt_1_32 reducesTo_S25165824x256_S25165824_d1 h_S_ p (fun q => ((q : ℕ) : ℝ) ≤ r p.val) (fun q => by
      refine Iff.trans (b := FloatOps.cmpf (F := Ideal) (φ := .f32) .ole
        (broadcastInDim S25165824x256 ![0, 1] bcast_S1x256_S25165824x256_0_1 (broadcastInDim S1x256 ![1] bcast_S256_S1x256_1 (knots (F := Ideal))) (ix2 p q))
        (broadcastInDim S25165824x256 ![0, 1] bcast_S25165824x1_S25165824x256_0_1 (broadcastInDim S25165824x1 ![0] bcast_S25165824_S25165824x1_0 f) (ix2 p q)) = 1#1)
        Iff.rfl ?_
      rw [Routing.bcCols, Routing.bcRows, knots_apply, hf p, cmp_le]
      by_cases h : ((q.val : ℕ) : ℝ) ≤ r p.val <;> simp [h])
  rw [reached (h01 p).1 (h01 p).2 (by norm_num)] at e
  unfold upper clipped
  refine Eq.trans (congrArg (fun w => IntOp.minsi 255#32 (IntOp.maxsi 1#32 w)) e) ?_
  have c := Routing.clip_word (x := if r p.val < 1 then 1 else 2) (lo := 1) (hi := 255) (by split <;> omega) (by omega) (by omega)
  refine c.trans (congrArg _ ?_)
  split <;> rfl

/-- The knot before a value. -/
theorem lower_apply (p : Fin total) : lower (upper f) (ix1 p) = BitVec.ofNat 32 (if r p.val < 1 then 0 else 1) := by
  have e : lower (upper f) (ix1 p) = upper f (ix1 p) - 1#32 := rfl
  rw [e, upper_apply f r hf h01]
  split <;> rfl

/-- The knots around a value are one apart. -/
theorem span_apply (p : Fin total) : (span (F := Ideal) (upper f) (ix1 p) : EReal) = ((1 : ℝ) : EReal) := by
  unfold span
  rw [at_sub, took_apply _ _ p (by split <;> omega) (upper_apply f r hf h01 p), took_apply _ _ p (by split <;> omega) (lower_apply f r hf h01 p),
    knots_apply, knots_apply, ← EReal.coe_sub]
  congr 1
  dsimp only
  split <;> norm_num

/-- So their distance is never next to nothing. -/
theorem flat_apply (p : Fin total) : flat (F := Ideal) (upper f) (ix1 p) = 0#1 := by
  have hm : max ((1 : ℝ) : EReal) ((-1 : ℝ) : EReal) = ((1 : ℝ) : EReal) := max_eq_left (EReal.coe_le_coe_iff.2 (by norm_num))
  unfold flat
  rw [at_cmp, at_abs, at_every, at_constant, span_apply f r hf h01, lit_tiny, ← EReal.coe_neg, hm, cmp_le, decide_eq_false (by norm_num)]
  rfl

/-- The reference's value at a pixel. -/
theorem equalized_apply (hL : upTo r 0 < total) (p : Fin total) :
    (equalized f (ix1 p) : EReal) = ((r p.val * (((upTo r 1 : ℝ) - upTo r 0) / ((total : ℝ) - upTo r 0)) : ℝ) : EReal) := by
  obtain ⟨h, hh⟩ : ∃ h, h = normed (sums (hist (F := Ideal) (bins f))) := ⟨_, rfl⟩
  have hn : ∀ b : Fin 256, (h (ix1 b) : EReal) = ((((upTo r b.val : ℝ) - upTo r 0) / ((total : ℝ) - upTo r 0) : ℝ) : EReal) :=
    fun b => by rw [hh]; exact normed_apply f r hf h01 hL b
  have hr := h01 p
  unfold equalized interp line
  rw [← hh]
  simp only [at_select, at_cmp, at_every, at_add, at_mul, at_div, at_sub]
  rw [flat_apply f r hf h01, last_apply, first_apply, knots_apply, knots_apply, hf p, cmp_gt, cmp_lt,
    decide_eq_false (by norm_num; linarith), decide_eq_false (by norm_num; linarith), span_apply f r hf h01]
  simp only [sel_false, sel_zero]
  rw [took_apply _ _ p (by split <;> omega) (upper_apply f r hf h01 p), took_apply _ _ p (by split <;> omega) (lower_apply f r hf h01 p),
    took_apply _ _ p (by split <;> omega) (lower_apply f r hf h01 p), knots_apply, hn, hn, Ideal.div_coe one_ne_zero, ← EReal.coe_sub, ← EReal.coe_sub,
    ← EReal.coe_mul, ← EReal.coe_mul, ← EReal.coe_add]
  exact congrArg Real.toEReal (on_line (fun k => ((upTo r k : ℝ) - upTo r 0) / ((total : ℝ) - upTo r 0)) (by rw [sub_self, zero_div]) hr.2 _ _ rfl rfl)

end image

end Cert.Proof.Ref

end
-- ==== Proof.Value.lean ====
/- The kernel's result is the reference's: on an image whose values lie in the interval from zero to one, not all in the lowest bin,
   both are the image times the share of the second bin among the pixels not in the lowest. -/
module

public import proofs.«01_k».proof.Defs
public import proofs.«01_k».proof.Proof.Launch
public import proofs.«01_k».proof.Proof.RefValue
public import proofs.«01_k».proof.Proof.Gen.Pre_unit
public import proofs.«01_k».proof.Proof.Gen.KernelIdeal
public import proofs.«01_k».proof.Proof.Gen.ReferenceIdeal.Run

@[expose] public section

noncomputable section

namespace Cert.Proof

open Idealize.ShloMosaic hiding ix0 ix1 ix2
open Idealize.SL.Sem Idealize.ShloMosaic.ValueIdx
open Cert.Proof.Words Cert.Proof.Ref Cert.Proof.Canon Cert.Proof.Tile
open scoped BigOperators

/-! ## The kernel's factor -/

/-- The number of values below a threshold, as a word. -/
theorem tally_word (T : BitVec 32) (t : ℝ) (hT : Ideal.ofBits .f32 T = ((t : ℝ) : EReal)) (v : ℕ → Ideal .f32) (r : ℕ → ℝ)
    (hv : ∀ n, (v n : EReal) = ((r n : ℝ) : EReal)) (n : ℕ) : tally T v 0 n = BitVec.ofNat 32 (Nat.count (fun j => r j < t) n) := by
  induction n with
  | zero => rfl
  | succ n ih =>
    have step : ind T (v (0 + n)) = BitVec.ofNat 32 (if r n < t then 1 else 0) := by
      have e : ind T (v (0 + n)) = (FloatOps.cmpf (F := Ideal) (φ := .f32) .olt (v (0 + n)) (Ideal.ofBits .f32 T)).setWidth 32 := rfl
      rw [e, Nat.zero_add, hv, hT, cmp_lt]
      by_cases h : r n < t <;> simp [h]
    unfold tally at ih ⊢
    rw [Finset.sum_range_succ, ih, step, Nat.count_succ, BitVec.ofNat_add]

/-- The factor, from the two counts. -/
theorem factor_acc (v : ℕ → Ideal .f32) (n : ℕ) : (factor (F := Ideal) (acc v 0 n) (ix1 0) : EReal)
    = Ideal.div (FloatOps.sitofp (F := Ideal) .f32 (tally 0x3C000000#32 v 0 n - tally 0x3B800000#32 v 0 n) : EReal)
      (Ideal.ofBits .f32 0x4BC00000#32 - (FloatOps.sitofp (F := Ideal) .f32 (tally 0x3B800000#32 v 0 n) : EReal)) := rfl

/-- The factor: the share of the second bin among the values not in the lowest. -/
theorem gain_eq (v : ℕ → Ideal .f32) (r : ℕ → ℝ) (hv : ∀ n, (v n : EReal) = ((r n : ℝ) : EReal)) (h0 : ∀ n, 0 ≤ r n) (hL : upTo r 0 < total) :
    (gain v : EReal) = ((((upTo r 1 : ℝ) - upTo r 0) / ((total : ℝ) - upTo r 0) : ℝ) : EReal) := by
  have e0 : Nat.count (fun j => r j < 1 / 256) total = upTo r 0 := Routing.count_congr_of_lt total fun n _ => (bin_zero (h0 n)).symm
  have e1 : Nat.count (fun j => r j < 1 / 128) total = upTo r 1 := Routing.count_congr_of_lt total fun n _ => (bin_one (h0 n)).symm
  have t0 := tally_word _ _ lit_first v r hv total
  have t1 := tally_word _ _ lit_second v r hv total
  rw [e0] at t0
  rw [e1] at t1
  have le : upTo r 0 ≤ upTo r 1 := upTo_mono r (Nat.zero_le _)
  have big : total < 2 ^ 31 := by norm_num
  have hb : upTo r 1 ≤ total := upTo_le r 1
  have ed : tally 0x3C000000#32 v 0 total - tally 0x3B800000#32 v 0 total = BitVec.ofNat 32 (upTo r 1 - upTo r 0) := by
    rw [t0, t1, eq_comm, eq_sub_iff_add_eq, ← BitVec.ofNat_add, Nat.sub_add_cancel le]
  have hD : ((total : ℕ) : ℝ) - (upTo r 0 : ℝ) ≠ 0 := by
    have : (upTo r 0 : ℝ) < ((total : ℕ) : ℝ) := by exact_mod_cast hL
    linarith
  have e := factor_acc v total
  have ht : (25165824 : ℝ) = ((total : ℕ) : ℝ) := by norm_num
  refine Eq.trans e ?_
  rw [ed, t0, sitofp_ofNat (by omega), sitofp_ofNat (by omega), lit_total, ht, ← EReal.coe_sub, Ideal.div_coe hD, ← EReal.coe_mul, mul_one_div,
    Nat.cast_sub le]

/-! ## The precondition -/

/-- What the precondition says of the values by flat position. -/
theorem unit_vals (x : FVec Ideal Cert.KernelIdeal.S32x3x512x512 .f32) (h : Cert.Pre_unit.fn (F := Ideal) x = fun _ => 1#1) :
    (∀ i, (0 : EReal) ≤ x i ∧ (x i : EReal) ≤ ((1 : ℝ) : EReal)) ∧ ∃ i, ((1 / 256 : ℝ) : EReal) ≤ x i := by
  obtain ⟨ha, ho⟩ := IntOp.andi_eq_one.1 (congrFun h ix0)
  have one : Subsingleton Cert.Pre_unit.S_.Idx := ⟨fun a b => funext fun k => k.elim0⟩
  have le : ∀ (i : Cert.KernelIdeal.S32x3x512x512.Idx) (b : BitVec 32),
      FloatOps.cmpf (F := Ideal) (φ := .f32) .oge (x i) (Ideal.ofBits .f32 b) = 1#1 → Ideal.ofBits .f32 b ≤ x i := fun i b e => by
    have e' : BitVec.ofBool (decide (Ideal.ofBits .f32 b ≤ x i)) = 1#1 := e
    by_contra hn
    rw [decide_eq_false hn] at e'
    exact absurd e' (by decide)
  have ge : ∀ (i : Cert.KernelIdeal.S32x3x512x512.Idx) (b : BitVec 32),
      FloatOps.cmpf (F := Ideal) (φ := .f32) .ole (x i) (Ideal.ofBits .f32 b) = 1#1 → x i ≤ Ideal.ofBits .f32 b := fun i b e => by
    have e' : BitVec.ofBool (decide (x i ≤ Ideal.ofBits .f32 b)) = 1#1 := e
    by_contra hn
    rw [decide_eq_false hn] at e'
    exact absurd e' (by decide)
  constructor
  · intro i
    obtain ⟨h1, h2⟩ := IntOp.andi_eq_one.1 (Host.reduce_andi_all _ _ _ _ _ ha i)
    have l := le i 0x00000000#32 h1
    have g := ge i 0x3F800000#32 h2
    rw [Ideal.ofBits_zero_f32] at l
    rw [lit_one] at g
    exact ⟨l, g⟩
  · obtain ⟨i, hi⟩ := RefOps.reduce_any _ _ (fun _ => rfl) _ _ _ ho
    have l := le i 0x3B800000#32 hi
    rw [lit_first] at l
    exact ⟨i, l⟩

/-! ## The result -/

/-- An element's flat position. -/
def place (z : Cert.KernelIdeal.S32x3x512x512.Idx) : ℕ := (((z 0).val * 3 + (z 1).val) * 512 + (z 2).val) * 512 + (z 3).val

theorem place_lt (z : Cert.KernelIdeal.S32x3x512x512.Idx) : place z < total := by
  have h0 : (z 0).val < 32 := (z 0).isLt
  have h1 : (z 1).val < 3 := (z 1).isLt
  have h2 : (z 2).val < 512 := (z 2).isLt
  have h3 : (z 3).val < 512 := (z 3).isLt
  unfold place total
  omega

/-- The element at a flat position has that position. -/
theorem place_at (n : ℕ) (h : n < total) : place (at_ n) = n := by
  unfold place
  show ((n / 786432 % 32 * 3 + n / 262144 % 3) * 512 + n / 512 % 512) * 512 + n % 512 = n
  unfold total at h
  omega

/-- The flat image holds at each position the value there. -/
theorem flat_image (x : FVec Ideal Cert.KernelIdeal.S32x3x512x512 .f32) (h : Cert.ReferenceIdeal.S32x3x512x512.ShapeCasts Cert.ReferenceIdeal.S25165824)
    (p : Fin total) : shapeCast Cert.ReferenceIdeal.S25165824 x h (ix1 p) = vals x p.val :=
  shapeCast_apply x h (ix1 p) (at_ p.val) (by
    rw [Shape.rowMajor_val_four, Shape.rowMajor_val_one]
    exact place_at p.val p.isLt)

/-- The two results are equal wherever the precondition holds. -/
theorem results (x : FVec Ideal Cert.KernelIdeal.S32x3x512x512 .f32) (hx : Cert.Pre_unit.fn (F := Ideal) x = fun _ => 1#1)
    (h : Cert.ReferenceIdeal.S32x3x512x512.ShapeCasts Cert.ReferenceIdeal.S25165824)
    (h' : Cert.ReferenceIdeal.S25165824.ShapeCasts Cert.ReferenceIdeal.S32x3x512x512) :
    shapeCast Cert.ReferenceIdeal.S32x3x512x512 (equalized (F := Ideal) (shapeCast Cert.ReferenceIdeal.S25165824 x h)) h'
      = img (scaled (F := Ideal) (vals x) (gain (vals x))) := by
  obtain ⟨hall, i, hi⟩ := unit_vals x hx
  obtain ⟨r, hr⟩ : ∃ r : ℕ → ℝ, r = fun n => (vals x n : EReal).toReal := ⟨_, rfl⟩
  have hv : ∀ n, (vals x n : EReal) = ((r n : ℝ) : EReal) := fun n => by
    rw [hr]
    refine (EReal.coe_toReal (fun e => ?_) (fun e => ?_)).symm
    · have := (hall (at_ n)).2
      rw [show x (at_ n) = (⊤ : EReal) from e] at this
      exact absurd this (not_le.2 (EReal.coe_lt_top 1))
    · have := (hall (at_ n)).1
      rw [show x (at_ n) = (⊥ : EReal) from e] at this
      exact absurd this (not_le.2 EReal.bot_lt_zero)
  have h0 : ∀ n, 0 ≤ r n := fun n => by
    have := (hall (at_ n)).1
    rw [show (x (at_ n) : EReal) = _ from hv n] at this
    exact_mod_cast this
  have h1 : ∀ n, r n ≤ 1 := fun n => by
    have := (hall (at_ n)).2
    rw [show (x (at_ n) : EReal) = _ from hv n] at this
    exact_mod_cast this
  have hL : upTo r 0 < total := by
    refine lt_of_le_of_ne (upTo_le r 0) fun e => ?_
    have b := (Nat.count_iff_forall.1 e) (place i) (place_lt i)
    have : x i = vals x (place i) := congrFun (img_vals x).symm i
    rw [this, hv, EReal.coe_le_coe_iff] at hi
    exact absurd ((bin_zero (h0 _)).1 b) (not_lt.2 hi)
  funext z
  have ez : shapeCast Cert.ReferenceIdeal.S32x3x512x512 (equalized (F := Ideal) (shapeCast Cert.ReferenceIdeal.S25165824 x h)) h' z
      = equalized (F := Ideal) (shapeCast Cert.ReferenceIdeal.S25165824 x h) (ix1 (⟨place z, place_lt z⟩ : Fin total)) :=
    shapeCast_apply _ h' z _ (by
      rw [Shape.rowMajor_val_four, Shape.rowMajor_val_one]
      rfl)
  rw [ez, equalized_apply _ r (fun p => (flat_image x h p).trans (hv _)) (fun p => ⟨h0 _, h1 _⟩) hL]
  have ek : (img (scaled (F := Ideal) (vals x) (gain (vals x))) z : EReal) = (vals x (place z) : EReal) * gain (vals x) := rfl
  rw [ek, hv, gain_eq _ r hv h0 hL, ← EReal.coe_mul]

/-- Kernel and reference, over the reals, end with the same image. -/
theorem value : Cert.algebraic_KernelIdeal_ReferenceIdeal_pre_unit := fun m g m' g' hm heq =>
  ⟨fun c => result m c,
    (θ_run Cert.KernelIdeal.defs _ _).mono (fun _ h c => ⟨(h.1 c).2, (h.1 c).1⟩) (run_main (F := Ideal) m g),
    (θ_run Cert.ReferenceIdeal.defs _ _).mono (fun r h c => ⟨(h c).1.trans (by
        refine (Ref.res_eq m' c).trans ?_
        rw [heq c]
        exact results _ (hm c) _ _), (h c).2⟩)
      (Cert.ReferenceIdeal.Value.run (F := Ideal) m' g')⟩

end Cert.Proof

end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.Pre_unit

@[expose] public section

noncomputable section

namespace Cert.Proof

theorem claim : Cert.Claim := ⟨Cert.Kernel.Gen.facts, Cert.KernelIdeal.Gen.facts, Cert.ReferenceIdeal.Gen.facts, Cert.Pre_unit.Gen.facts,
  frame_kernel, frame_ideal, fun m g _ => frame_ideal m g trivial, frame_reference, fun m g _ => frame_reference m g trivial, trivial, value⟩

end Cert.Proof

end
